-- ==== Defs.lean ====
def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionIdeal_finite [hPre_finite : Cert.Pre_finite.Facts] (m : (ℓ : Loc Cert.AttentionIdeal.nD Cert.AttentionIdeal.τ Cert.AttentionIdeal.sig) → Buf (Elt Ideal) ℓ) : Prop :=
  ∀ c : Dev Cert.AttentionIdeal.nD,
    (Cert.Pre_finite.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2))) = (fun _ => 1#1)

def Pre_AttentionRefIdeal (m : (ℓ : Loc Cert.AttentionRefIdeal.nD Cert.AttentionRefIdeal.τ Cert.AttentionRefIdeal.sig) → Buf (Elt Ideal) ℓ) : Prop :=
  True

def Pre_AttentionRefIdeal_finite [hPre_finite : Cert.Pre_finite.Facts] (m : (ℓ : Loc Cert.AttentionRefIdeal.nD Cert.AttentionRefIdeal.τ Cert.AttentionRefIdeal.sig) → Buf (Elt Ideal) ℓ) : Prop :=
  ∀ c : Dev Cert.AttentionRefIdeal.nD,
    (Cert.Pre_finite.fn (F := Ideal) (m ((c.tc : Thread Cert.AttentionRefIdeal.nD Cert.AttentionRefIdeal.τ).loc Cert.AttentionRefIdeal.main_arg0)) (m ((c.tc : Thread Cert.AttentionRefIdeal.nD Cert.AttentionRefIdeal.τ).loc Cert.AttentionRefIdeal.main_arg1)) (m ((c.tc : Thread Cert.AttentionRefIdeal.nD Cert.AttentionRefIdeal.τ).loc Cert.AttentionRefIdeal.main_arg2))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Memkv (m : (ℓ : Loc Cert.Memkv.nD Cert.Memkv.τ Cert.Memkv.sig) → Buf (Elt Bits) ℓ) : Prop :=
  True

def Pre_MemkvIdeal (m : (ℓ : Loc Cert.MemkvIdeal.nD Cert.MemkvIdeal.τ Cert.MemkvIdeal.sig) → Buf (Elt Ideal) ℓ) : Prop :=
  True

def Pre_MemkvRefIdeal (m : (ℓ : Loc Cert.MemkvRefIdeal.nD Cert.MemkvRefIdeal.τ Cert.MemkvRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojIdeal_inproj_finite [hPre_inproj_finite : Cert.Pre_inproj_finite.Facts] (m : (ℓ : Loc Cert.InprojIdeal.nD Cert.InprojIdeal.τ Cert.InprojIdeal.sig) → Buf (Elt Ideal) ℓ) : Prop :=
  ∀ c : Dev Cert.InprojIdeal.nD,
    (Cert.Pre_inproj_finite.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8)) (m ((c.tc : Thread Cert.InprojIdeal.nD Cert.InprojIdeal.τ).loc Cert.InprojIdeal.main_arg9)) (m ((c.tc : Thread Cert.InprojIdeal.nD Cert.InprojIdeal.τ).loc Cert.InprojIdeal.main_arg10)) (m ((c.tc : Thread Cert.InprojIdeal.nD Cert.InprojIdeal.τ).loc Cert.InprojIdeal.main_arg11)) (m ((c.tc : Thread Cert.InprojIdeal.nD Cert.InprojIdeal.τ).loc Cert.InprojIdeal.main_arg12)) (m ((c.tc : Thread Cert.InprojIdeal.nD Cert.InprojIdeal.τ).loc Cert.InprojIdeal.main_arg13)) (m ((c.tc : Thread Cert.InprojIdeal.nD Cert.InprojIdeal.τ).loc Cert.InprojIdeal.main_arg14))) = (fun _ => 1#1)

def Pre_InprojRefIdeal (m : (ℓ : Loc Cert.InprojRefIdeal.nD Cert.InprojRefIdeal.τ Cert.InprojRefIdeal.sig) → Buf (Elt Ideal) ℓ) : Prop :=
  True

def Pre_InprojRefIdeal_inproj_finite [hPre_inproj_finite : Cert.Pre_inproj_finite.Facts] (m : (ℓ : Loc Cert.InprojRefIdeal.nD Cert.InprojRefIdeal.τ Cert.InprojRefIdeal.sig) → Buf (Elt Ideal) ℓ) : Prop :=
  ∀ c : Dev Cert.InprojRefIdeal.nD,
    (Cert.Pre_inproj_finite.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5)) (m ((c.tc : Thread Cert.InprojRefIdeal.nD Cert.InprojRefIdeal.τ).loc Cert.InprojRefIdeal.main_arg6)) (m ((c.tc : Thread Cert.InprojRefIdeal.nD Cert.InprojRefIdeal.τ).loc Cert.InprojRefIdeal.main_arg7)) (m ((c.tc : Thread Cert.InprojRefIdeal.nD Cert.InprojRefIdeal.τ).loc Cert.InprojRefIdeal.main_arg8)) (m ((c.tc : Thread Cert.InprojRefIdeal.nD Cert.InprojRefIdeal.τ).loc Cert.InprojRefIdeal.main_arg9)) (m ((c.tc : Thread Cert.InprojRefIdeal.nD Cert.InprojRefIdeal.τ).loc Cert.InprojRefIdeal.main_arg10)) (m ((c.tc : Thread Cert.InprojRefIdeal.nD Cert.InprojRefIdeal.τ).loc Cert.InprojRefIdeal.main_arg11)) (m ((c.tc : Thread Cert.InprojRefIdeal.nD Cert.InprojRefIdeal.τ).loc Cert.InprojRefIdeal.main_arg12)) (m ((c.tc : Thread Cert.InprojRefIdeal.nD Cert.InprojRefIdeal.τ).loc Cert.InprojRefIdeal.main_arg13)) (m ((c.tc : Thread Cert.InprojRefIdeal.nD Cert.InprojRefIdeal.τ).loc Cert.InprojRefIdeal.main_arg14))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1)
      ∧ r.2.mem ((c.tc : Thread Cert.Attention.nD Cert.Attention.τ).loc Cert.Attention.main_arg2) = m ((c.tc : Thread Cert.Attention.nD Cert.Attention.τ).loc Cert.Attention.main_arg2))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ r.2.sem = fun _ => 0)

def quiescent_AttentionIdeal_pre_finite [hAttentionIdeal : Cert.AttentionIdeal.Facts] [hPre_finite : Cert.Pre_finite.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal_finite m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ r.2.sem = fun _ => 0)

def quiescent_AttentionRefIdeal [hAttentionRefIdeal : Cert.AttentionRefIdeal.Facts] : Prop :=
  ∀ (m : (ℓ : Loc Cert.AttentionRefIdeal.nD Cert.AttentionRefIdeal.τ Cert.AttentionRefIdeal.sig) → Buf (Elt Ideal) ℓ) (g : Dev Cert.AttentionRefIdeal.nD → PrngReg), Pre_AttentionRefIdeal m →
    θ_run (Cert.AttentionRefIdeal.defs (F := Ideal)) (onTc (τ := Cert.AttentionRefIdeal.τ) (Cert.AttentionRefIdeal.main (F := Ideal))) ⟨m, fun _ => 0, g⟩ (fun r => (∀ c : Dev Cert.AttentionRefIdeal.nD,
      r.2.mem ((c.tc : Thread Cert.AttentionRefIdeal.nD Cert.AttentionRefIdeal.τ).loc Cert.AttentionRefIdeal.main_arg0) = m ((c.tc : Thread Cert.AttentionRefIdeal.nD Cert.AttentionRefIdeal.τ).loc Cert.AttentionRefIdeal.main_arg0)
      ∧ r.2.mem ((c.tc : Thread Cert.AttentionRefIdeal.nD Cert.AttentionRefIdeal.τ).loc Cert.AttentionRefIdeal.main_arg1) = m ((c.tc : Thread Cert.AttentionRefIdeal.nD Cert.AttentionRefIdeal.τ).loc Cert.AttentionRefIdeal.main_arg1)
      ∧ r.2.mem ((c.tc : Thread Cert.AttentionRefIdeal.nD Cert.AttentionRefIdeal.τ).loc Cert.AttentionRefIdeal.main_arg2) = m ((c.tc : Thread Cert.AttentionRefIdeal.nD Cert.AttentionRefIdeal.τ).loc Cert.AttentionRefIdeal.main_arg2))
      ∧ r.2.sem = fun _ => 0)

def quiescent_AttentionRefIdeal_pre_finite [hAttentionRefIdeal : Cert.AttentionRefIdeal.Facts] [hPre_finite : Cert.Pre_finite.Facts] : Prop :=
  ∀ (m : (ℓ : Loc Cert.AttentionRefIdeal.nD Cert.AttentionRefIdeal.τ Cert.AttentionRefIdeal.sig) → Buf (Elt Ideal) ℓ) (g : Dev Cert.AttentionRefIdeal.nD → PrngReg), Pre_AttentionRefIdeal_finite m →
    θ_run (Cert.AttentionRefIdeal.defs (F := Ideal)) (onTc (τ := Cert.AttentionRefIdeal.τ) (Cert.AttentionRefIdeal.main (F := Ideal))) ⟨m, fun _ => 0, g⟩ (fun r => (∀ c : Dev Cert.AttentionRefIdeal.nD,
      r.2.mem ((c.tc : Thread Cert.AttentionRefIdeal.nD Cert.AttentionRefIdeal.τ).loc Cert.AttentionRefIdeal.main_arg0) = m ((c.tc : Thread Cert.AttentionRefIdeal.nD Cert.AttentionRefIdeal.τ).loc Cert.AttentionRefIdeal.main_arg0)
      ∧ r.2.mem ((c.tc : Thread Cert.AttentionRefIdeal.nD Cert.AttentionRefIdeal.τ).loc Cert.AttentionRefIdeal.main_arg1) = m ((c.tc : Thread Cert.AttentionRefIdeal.nD Cert.AttentionRefIdeal.τ).loc Cert.AttentionRefIdeal.main_arg1)
      ∧ r.2.mem ((c.tc : Thread Cert.AttentionRefIdeal.nD Cert.AttentionRefIdeal.τ).loc Cert.AttentionRefIdeal.main_arg2) = m ((c.tc : Thread Cert.AttentionRefIdeal.nD Cert.AttentionRefIdeal.τ).loc Cert.AttentionRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10))
      ∧ r.2.sem = fun _ => 0)

def quiescent_Memkv [hMemkv : Cert.Memkv.Facts] : Prop :=
  ∀ (m : (ℓ : Loc Cert.Memkv.nD Cert.Memkv.τ Cert.Memkv.sig) → Buf (Elt Bits) ℓ) (g : Dev Cert.Memkv.nD → PrngReg), Pre_Memkv m →
    θ_run (Cert.Memkv.defs (F := Bits)) (onTc (τ := Cert.Memkv.τ) (Cert.Memkv.main (F := Bits))) ⟨m, fun _ => 0, g⟩ (fun r => (∀ c : Dev Cert.Memkv.nD,
      r.2.mem ((c.tc : Thread Cert.Memkv.nD Cert.Memkv.τ).loc Cert.Memkv.main_arg0) = m ((c.tc : Thread Cert.Memkv.nD Cert.Memkv.τ).loc Cert.Memkv.main_arg0)
      ∧ r.2.mem ((c.tc : Thread Cert.Memkv.nD Cert.Memkv.τ).loc Cert.Memkv.main_arg1) = m ((c.tc : Thread Cert.Memkv.nD Cert.Memkv.τ).loc Cert.Memkv.main_arg1)
      ∧ r.2.mem ((c.tc : Thread Cert.Memkv.nD Cert.Memkv.τ).loc Cert.Memkv.main_arg2) = m ((c.tc : Thread Cert.Memkv.nD Cert.Memkv.τ).loc Cert.Memkv.main_arg2)
      ∧ r.2.mem ((c.tc : Thread Cert.Memkv.nD Cert.Memkv.τ).loc Cert.Memkv.main_arg3) = m ((c.tc : Thread Cert.Memkv.nD Cert.Memkv.τ).loc Cert.Memkv.main_arg3))
      ∧ r.2.sem = fun _ => 0)

def quiescent_MemkvIdeal [hMemkvIdeal : Cert.MemkvIdeal.Facts] : Prop :=
  ∀ (m : (ℓ : Loc Cert.MemkvIdeal.nD Cert.MemkvIdeal.τ Cert.MemkvIdeal.sig) → Buf (Elt Ideal) ℓ) (g : Dev Cert.MemkvIdeal.nD → PrngReg), Pre_MemkvIdeal m →
    θ_run (Cert.MemkvIdeal.defs (F := Ideal)) (onTc (τ := Cert.MemkvIdeal.τ) (Cert.MemkvIdeal.main (F := Ideal))) ⟨m, fun _ => 0, g⟩ (fun r => (∀ c : Dev Cert.MemkvIdeal.nD,
      r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
      ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
      ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2)
      ∧ r.2.mem ((c.tc : Thread Cert.MemkvIdeal.nD Cert.MemkvIdeal.τ).loc Cert.MemkvIdeal.main_arg3) = m ((c.tc : Thread Cert.MemkvIdeal.nD Cert.MemkvIdeal.τ).loc Cert.MemkvIdeal.main_arg3))
      ∧ r.2.sem = fun _ => 0)

def quiescent_MemkvRefIdeal [hMemkvRefIdeal : Cert.MemkvRefIdeal.Facts] : Prop :=
  ∀ (m : (ℓ : Loc Cert.MemkvRefIdeal.nD Cert.MemkvRefIdeal.τ Cert.MemkvRefIdeal.sig) → Buf (Elt Ideal) ℓ) (g : Dev Cert.MemkvRefIdeal.nD → PrngReg), Pre_MemkvRefIdeal m →
    θ_run (Cert.MemkvRefIdeal.defs (F := Ideal)) (onTc (τ := Cert.MemkvRefIdeal.τ) (Cert.MemkvRefIdeal.main (F := Ideal))) ⟨m, fun _ => 0, g⟩ (fun r => (∀ c : Dev Cert.MemkvRefIdeal.nD,
      r.2.mem ((c.tc : Thread Cert.MemkvRefIdeal.nD Cert.MemkvRefIdeal.τ).loc Cert.MemkvRefIdeal.main_arg0) = m ((c.tc : Thread Cert.MemkvRefIdeal.nD Cert.MemkvRefIdeal.τ).loc Cert.MemkvRefIdeal.main_arg0)
      ∧ r.2.mem ((c.tc : Thread Cert.MemkvRefIdeal.nD Cert.MemkvRefIdeal.τ).loc Cert.MemkvRefIdeal.main_arg1) = m ((c.tc : Thread Cert.MemkvRefIdeal.nD Cert.MemkvRefIdeal.τ).loc Cert.MemkvRefIdeal.main_arg1)
      ∧ r.2.mem ((c.tc : Thread Cert.MemkvRefIdeal.nD Cert.MemkvRefIdeal.τ).loc Cert.MemkvRefIdeal.main_arg2) = m ((c.tc : Thread Cert.MemkvRefIdeal.nD Cert.MemkvRefIdeal.τ).loc Cert.MemkvRefIdeal.main_arg2)
      ∧ r.2.mem ((c.tc : Thread Cert.MemkvRefIdeal.nD Cert.MemkvRefIdeal.τ).loc Cert.MemkvRefIdeal.main_arg3) = m ((c.tc : Thread Cert.MemkvRefIdeal.nD Cert.MemkvRefIdeal.τ).loc Cert.MemkvRefIdeal.main_arg3))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6)
      ∧ r.2.mem ((c.tc : Thread Cert.Inproj.nD Cert.Inproj.τ).loc Cert.Inproj.main_arg7) = m ((c.tc : Thread Cert.Inproj.nD Cert.Inproj.τ).loc Cert.Inproj.main_arg7)
      ∧ r.2.mem ((c.tc : Thread Cert.Inproj.nD Cert.Inproj.τ).loc Cert.Inproj.main_arg8) = m ((c.tc : Thread Cert.Inproj.nD Cert.Inproj.τ).loc Cert.Inproj.main_arg8)
      ∧ r.2.mem ((c.tc : Thread Cert.Inproj.nD Cert.Inproj.τ).loc Cert.Inproj.main_arg9) = m ((c.tc : Thread Cert.Inproj.nD Cert.Inproj.τ).loc Cert.Inproj.main_arg9)
      ∧ r.2.mem ((c.tc : Thread Cert.Inproj.nD Cert.Inproj.τ).loc Cert.Inproj.main_arg10) = m ((c.tc : Thread Cert.Inproj.nD Cert.Inproj.τ).loc Cert.Inproj.main_arg10)
      ∧ r.2.mem ((c.tc : Thread Cert.Inproj.nD Cert.Inproj.τ).loc Cert.Inproj.main_arg11) = m ((c.tc : Thread Cert.Inproj.nD Cert.Inproj.τ).loc Cert.Inproj.main_arg11)
      ∧ r.2.mem ((c.tc : Thread Cert.Inproj.nD Cert.Inproj.τ).loc Cert.Inproj.main_arg12) = m ((c.tc : Thread Cert.Inproj.nD Cert.Inproj.τ).loc Cert.Inproj.main_arg12)
      ∧ r.2.mem ((c.tc : Thread Cert.Inproj.nD Cert.Inproj.τ).loc Cert.Inproj.main_arg13) = m ((c.tc : Thread Cert.Inproj.nD Cert.Inproj.τ).loc Cert.Inproj.main_arg13)
      ∧ r.2.mem ((c.tc : Thread Cert.Inproj.nD Cert.Inproj.τ).loc Cert.Inproj.main_arg14) = m ((c.tc : Thread Cert.Inproj.nD Cert.Inproj.τ).loc Cert.Inproj.main_arg14))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
      ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
      ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9)
      ∧ r.2.mem ((c.tc : Thread Cert.InprojIdeal.nD Cert.InprojIdeal.τ).loc Cert.InprojIdeal.main_arg10) = m ((c.tc : Thread Cert.InprojIdeal.nD Cert.InprojIdeal.τ).loc Cert.InprojIdeal.main_arg10)
      ∧ r.2.mem ((c.tc : Thread Cert.InprojIdeal.nD Cert.InprojIdeal.τ).loc Cert.InprojIdeal.main_arg11) = m ((c.tc : Thread Cert.InprojIdeal.nD Cert.InprojIdeal.τ).loc Cert.InprojIdeal.main_arg11)
      ∧ r.2.mem ((c.tc : Thread Cert.InprojIdeal.nD Cert.InprojIdeal.τ).loc Cert.InprojIdeal.main_arg12) = m ((c.tc : Thread Cert.InprojIdeal.nD Cert.InprojIdeal.τ).loc Cert.InprojIdeal.main_arg12)
      ∧ r.2.mem ((c.tc : Thread Cert.InprojIdeal.nD Cert.InprojIdeal.τ).loc Cert.InprojIdeal.main_arg13) = m ((c.tc : Thread Cert.InprojIdeal.nD Cert.InprojIdeal.τ).loc Cert.InprojIdeal.main_arg13)
      ∧ r.2.mem ((c.tc : Thread Cert.InprojIdeal.nD Cert.InprojIdeal.τ).loc Cert.InprojIdeal.main_arg14) = m ((c.tc : Thread Cert.InprojIdeal.nD Cert.InprojIdeal.τ).loc Cert.InprojIdeal.main_arg14))
      ∧ r.2.sem = fun _ => 0)

def quiescent_InprojIdeal_pre_inproj_finite [hInprojIdeal : Cert.InprojIdeal.Facts] [hPre_inproj_finite : Cert.Pre_inproj_finite.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal_inproj_finite m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
      ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
      ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9)
      ∧ r.2.mem ((c.tc : Thread Cert.InprojIdeal.nD Cert.InprojIdeal.τ).loc Cert.InprojIdeal.main_arg10) = m ((c.tc : Thread Cert.InprojIdeal.nD Cert.InprojIdeal.τ).loc Cert.InprojIdeal.main_arg10)
      ∧ r.2.mem ((c.tc : Thread Cert.InprojIdeal.nD Cert.InprojIdeal.τ).loc Cert.InprojIdeal.main_arg11) = m ((c.tc : Thread Cert.InprojIdeal.nD Cert.InprojIdeal.τ).loc Cert.InprojIdeal.main_arg11)
      ∧ r.2.mem ((c.tc : Thread Cert.InprojIdeal.nD Cert.InprojIdeal.τ).loc Cert.InprojIdeal.main_arg12) = m ((c.tc : Thread Cert.InprojIdeal.nD Cert.InprojIdeal.τ).loc Cert.InprojIdeal.main_arg12)
      ∧ r.2.mem ((c.tc : Thread Cert.InprojIdeal.nD Cert.InprojIdeal.τ).loc Cert.InprojIdeal.main_arg13) = m ((c.tc : Thread Cert.InprojIdeal.nD Cert.InprojIdeal.τ).loc Cert.InprojIdeal.main_arg13)
      ∧ r.2.mem ((c.tc : Thread Cert.InprojIdeal.nD Cert.InprojIdeal.τ).loc Cert.InprojIdeal.main_arg14) = m ((c.tc : Thread Cert.InprojIdeal.nD Cert.InprojIdeal.τ).loc Cert.InprojIdeal.main_arg14))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5)
      ∧ r.2.mem ((c.tc : Thread Cert.InprojRefIdeal.nD Cert.InprojRefIdeal.τ).loc Cert.InprojRefIdeal.main_arg6) = m ((c.tc : Thread Cert.InprojRefIdeal.nD Cert.InprojRefIdeal.τ).loc Cert.InprojRefIdeal.main_arg6)
      ∧ r.2.mem ((c.tc : Thread Cert.InprojRefIdeal.nD Cert.InprojRefIdeal.τ).loc Cert.InprojRefIdeal.main_arg7) = m ((c.tc : Thread Cert.InprojRefIdeal.nD Cert.InprojRefIdeal.τ).loc Cert.InprojRefIdeal.main_arg7)
      ∧ r.2.mem ((c.tc : Thread Cert.InprojRefIdeal.nD Cert.InprojRefIdeal.τ).loc Cert.InprojRefIdeal.main_arg8) = m ((c.tc : Thread Cert.InprojRefIdeal.nD Cert.InprojRefIdeal.τ).loc Cert.InprojRefIdeal.main_arg8)
      ∧ r.2.mem ((c.tc : Thread Cert.InprojRefIdeal.nD Cert.InprojRefIdeal.τ).loc Cert.InprojRefIdeal.main_arg9) = m ((c.tc : Thread Cert.InprojRefIdeal.nD Cert.InprojRefIdeal.τ).loc Cert.InprojRefIdeal.main_arg9)
      ∧ r.2.mem ((c.tc : Thread Cert.InprojRefIdeal.nD Cert.InprojRefIdeal.τ).loc Cert.InprojRefIdeal.main_arg10) = m ((c.tc : Thread Cert.InprojRefIdeal.nD Cert.InprojRefIdeal.τ).loc Cert.InprojRefIdeal.main_arg10)
      ∧ r.2.mem ((c.tc : Thread Cert.InprojRefIdeal.nD Cert.InprojRefIdeal.τ).loc Cert.InprojRefIdeal.main_arg11) = m ((c.tc : Thread Cert.InprojRefIdeal.nD Cert.InprojRefIdeal.τ).loc Cert.InprojRefIdeal.main_arg11)
      ∧ r.2.mem ((c.tc : Thread Cert.InprojRefIdeal.nD Cert.InprojRefIdeal.τ).loc Cert.InprojRefIdeal.main_arg12) = m ((c.tc : Thread Cert.InprojRefIdeal.nD Cert.InprojRefIdeal.τ).loc Cert.InprojRefIdeal.main_arg12)
      ∧ r.2.mem ((c.tc : Thread Cert.InprojRefIdeal.nD Cert.InprojRefIdeal.τ).loc Cert.InprojRefIdeal.main_arg13) = m ((c.tc : Thread Cert.InprojRefIdeal.nD Cert.InprojRefIdeal.τ).loc Cert.InprojRefIdeal.main_arg13)
      ∧ r.2.mem ((c.tc : Thread Cert.InprojRefIdeal.nD Cert.InprojRefIdeal.τ).loc Cert.InprojRefIdeal.main_arg14) = m ((c.tc : Thread Cert.InprojRefIdeal.nD Cert.InprojRefIdeal.τ).loc Cert.InprojRefIdeal.main_arg14))
      ∧ r.2.sem = fun _ => 0)

def quiescent_InprojRefIdeal_pre_inproj_finite [hInprojRefIdeal : Cert.InprojRefIdeal.Facts] [hPre_inproj_finite : Cert.Pre_inproj_finite.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal_inproj_finite m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5)
      ∧ r.2.mem ((c.tc : Thread Cert.InprojRefIdeal.nD Cert.InprojRefIdeal.τ).loc Cert.InprojRefIdeal.main_arg6) = m ((c.tc : Thread Cert.InprojRefIdeal.nD Cert.InprojRefIdeal.τ).loc Cert.InprojRefIdeal.main_arg6)
      ∧ r.2.mem ((c.tc : Thread Cert.InprojRefIdeal.nD Cert.InprojRefIdeal.τ).loc Cert.InprojRefIdeal.main_arg7) = m ((c.tc : Thread Cert.InprojRefIdeal.nD Cert.InprojRefIdeal.τ).loc Cert.InprojRefIdeal.main_arg7)
      ∧ r.2.mem ((c.tc : Thread Cert.InprojRefIdeal.nD Cert.InprojRefIdeal.τ).loc Cert.InprojRefIdeal.main_arg8) = m ((c.tc : Thread Cert.InprojRefIdeal.nD Cert.InprojRefIdeal.τ).loc Cert.InprojRefIdeal.main_arg8)
      ∧ r.2.mem ((c.tc : Thread Cert.InprojRefIdeal.nD Cert.InprojRefIdeal.τ).loc Cert.InprojRefIdeal.main_arg9) = m ((c.tc : Thread Cert.InprojRefIdeal.nD Cert.InprojRefIdeal.τ).loc Cert.InprojRefIdeal.main_arg9)
      ∧ r.2.mem ((c.tc : Thread Cert.InprojRefIdeal.nD Cert.InprojRefIdeal.τ).loc Cert.InprojRefIdeal.main_arg10) = m ((c.tc : Thread Cert.InprojRefIdeal.nD Cert.InprojRefIdeal.τ).loc Cert.InprojRefIdeal.main_arg10)
      ∧ r.2.mem ((c.tc : Thread Cert.InprojRefIdeal.nD Cert.InprojRefIdeal.τ).loc Cert.InprojRefIdeal.main_arg11) = m ((c.tc : Thread Cert.InprojRefIdeal.nD Cert.InprojRefIdeal.τ).loc Cert.InprojRefIdeal.main_arg11)
      ∧ r.2.mem ((c.tc : Thread Cert.InprojRefIdeal.nD Cert.InprojRefIdeal.τ).loc Cert.InprojRefIdeal.main_arg12) = m ((c.tc : Thread Cert.InprojRefIdeal.nD Cert.InprojRefIdeal.τ).loc Cert.InprojRefIdeal.main_arg12)
      ∧ r.2.mem ((c.tc : Thread Cert.InprojRefIdeal.nD Cert.InprojRefIdeal.τ).loc Cert.InprojRefIdeal.main_arg13) = m ((c.tc : Thread Cert.InprojRefIdeal.nD Cert.InprojRefIdeal.τ).loc Cert.InprojRefIdeal.main_arg13)
      ∧ r.2.mem ((c.tc : Thread Cert.InprojRefIdeal.nD Cert.InprojRefIdeal.τ).loc Cert.InprojRefIdeal.main_arg14) = m ((c.tc : Thread Cert.InprojRefIdeal.nD Cert.InprojRefIdeal.τ).loc Cert.InprojRefIdeal.main_arg14))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def preserves_Attention_AttentionIdeal : Prop :=
  True

def algebraic_AttentionIdeal_AttentionRefIdeal_pre_finite [hAttentionIdeal : Cert.AttentionIdeal.Facts] [hAttentionRefIdeal : Cert.AttentionRefIdeal.Facts] [hPre_finite : Cert.Pre_finite.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.AttentionRefIdeal.nD Cert.AttentionRefIdeal.τ Cert.AttentionRefIdeal.sig) → Buf (Elt Ideal) ℓ) (g' : Dev Cert.AttentionRefIdeal.nD → PrngReg), Pre_AttentionIdeal_finite m →
    (∀ c : Dev Cert.AttentionIdeal.nD,
      m' ((c.tc : Thread Cert.AttentionRefIdeal.nD Cert.AttentionRefIdeal.τ).loc Cert.AttentionRefIdeal.main_arg0) = m ((c.tc : Thread Cert.AttentionIdeal.nD Cert.AttentionIdeal.τ).loc Cert.AttentionIdeal.main_arg0)
      ∧ m' ((c.tc : Thread Cert.AttentionRefIdeal.nD Cert.AttentionRefIdeal.τ).loc Cert.AttentionRefIdeal.main_arg1) = m ((c.tc : Thread Cert.AttentionIdeal.nD Cert.AttentionIdeal.τ).loc Cert.AttentionIdeal.main_arg1)
      ∧ m' ((c.tc : Thread Cert.AttentionRefIdeal.nD Cert.AttentionRefIdeal.τ).loc Cert.AttentionRefIdeal.main_arg2) = m ((c.tc : Thread Cert.AttentionIdeal.nD Cert.AttentionIdeal.τ).loc Cert.AttentionIdeal.main_arg2)) →
    ∃ (v0 : (c : Dev Cert.AttentionIdeal.nD) → Buf (Elt Ideal) ((c.tc : Thread Cert.AttentionIdeal.nD Cert.AttentionIdeal.τ).loc Cert.AttentionIdeal.main_v0)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v0) = v0 c
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
          ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ θ_run (Cert.AttentionRefIdeal.defs (F := Ideal)) (onTc (τ := Cert.AttentionRefIdeal.τ) (Cert.AttentionRefIdeal.main (F := Ideal))) ⟨m', fun _ => 0, g'⟩ (fun r => ∀ c : Dev Cert.AttentionRefIdeal.nD,
          r.2.mem ((c.tc : Thread Cert.AttentionRefIdeal.nD Cert.AttentionRefIdeal.τ).loc Cert.AttentionRefIdeal.main_v29) = v0 c
          ∧ r.2.mem ((c.tc : Thread Cert.AttentionRefIdeal.nD Cert.AttentionRefIdeal.τ).loc Cert.AttentionRefIdeal.main_arg0) = m' ((c.tc : Thread Cert.AttentionRefIdeal.nD Cert.AttentionRefIdeal.τ).loc Cert.AttentionRefIdeal.main_arg0)
          ∧ r.2.mem ((c.tc : Thread Cert.AttentionRefIdeal.nD Cert.AttentionRefIdeal.τ).loc Cert.AttentionRefIdeal.main_arg1) = m' ((c.tc : Thread Cert.AttentionRefIdeal.nD Cert.AttentionRefIdeal.τ).loc Cert.AttentionRefIdeal.main_arg1)
          ∧ r.2.mem ((c.tc : Thread Cert.AttentionRefIdeal.nD Cert.AttentionRefIdeal.τ).loc Cert.AttentionRefIdeal.main_arg2) = m' ((c.tc : Thread Cert.AttentionRefIdeal.nD Cert.AttentionRefIdeal.τ).loc Cert.AttentionRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v5)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v5) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v42) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10))

def preserves_Memkv_MemkvIdeal : Prop :=
  True

def algebraic_MemkvIdeal_MemkvRefIdeal [hMemkvIdeal : Cert.MemkvIdeal.Facts] [hMemkvRefIdeal : Cert.MemkvRefIdeal.Facts] : Prop :=
  ∀ (m : (ℓ : Loc Cert.MemkvIdeal.nD Cert.MemkvIdeal.τ Cert.MemkvIdeal.sig) → Buf (Elt Ideal) ℓ) (g : Dev Cert.MemkvIdeal.nD → PrngReg)
    (m' : (ℓ : Loc Cert.MemkvRefIdeal.nD Cert.MemkvRefIdeal.τ Cert.MemkvRefIdeal.sig) → Buf (Elt Ideal) ℓ) (g' : Dev Cert.MemkvRefIdeal.nD → PrngReg), Pre_MemkvIdeal m →
    (∀ c : Dev Cert.MemkvIdeal.nD,
      m' ((c.tc : Thread Cert.MemkvRefIdeal.nD Cert.MemkvRefIdeal.τ).loc Cert.MemkvRefIdeal.main_arg0) = m ((c.tc : Thread Cert.MemkvIdeal.nD Cert.MemkvIdeal.τ).loc Cert.MemkvIdeal.main_arg0)
      ∧ m' ((c.tc : Thread Cert.MemkvRefIdeal.nD Cert.MemkvRefIdeal.τ).loc Cert.MemkvRefIdeal.main_arg1) = m ((c.tc : Thread Cert.MemkvIdeal.nD Cert.MemkvIdeal.τ).loc Cert.MemkvIdeal.main_arg1)
      ∧ m' ((c.tc : Thread Cert.MemkvRefIdeal.nD Cert.MemkvRefIdeal.τ).loc Cert.MemkvRefIdeal.main_arg2) = m ((c.tc : Thread Cert.MemkvIdeal.nD Cert.MemkvIdeal.τ).loc Cert.MemkvIdeal.main_arg2)
      ∧ m' ((c.tc : Thread Cert.MemkvRefIdeal.nD Cert.MemkvRefIdeal.τ).loc Cert.MemkvRefIdeal.main_arg3) = m ((c.tc : Thread Cert.MemkvIdeal.nD Cert.MemkvIdeal.τ).loc Cert.MemkvIdeal.main_arg3)) →
    ∃ (v0 : (c : Dev Cert.MemkvIdeal.nD) → Buf (Elt Ideal) ((c.tc : Thread Cert.MemkvIdeal.nD Cert.MemkvIdeal.τ).loc Cert.MemkvIdeal.main_v1_0)) (v1 : (c : Dev Cert.MemkvIdeal.nD) → Buf (Elt Ideal) ((c.tc : Thread Cert.MemkvIdeal.nD Cert.MemkvIdeal.τ).loc Cert.MemkvIdeal.main_v1_1)),
      θ_run (Cert.MemkvIdeal.defs (F := Ideal)) (onTc (τ := Cert.MemkvIdeal.τ) (Cert.MemkvIdeal.main (F := Ideal))) ⟨m, fun _ => 0, g⟩ (fun r => ∀ c : Dev Cert.MemkvIdeal.nD,
          r.2.mem ((c.tc : Thread Cert.MemkvIdeal.nD Cert.MemkvIdeal.τ).loc Cert.MemkvIdeal.main_v1_0) = v0 c
          ∧ r.2.mem ((c.tc : Thread Cert.MemkvIdeal.nD Cert.MemkvIdeal.τ).loc Cert.MemkvIdeal.main_v1_1) = v1 c
          ∧ r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
          ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
          ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2)
          ∧ r.2.mem ((c.tc : Thread Cert.MemkvIdeal.nD Cert.MemkvIdeal.τ).loc Cert.MemkvIdeal.main_arg3) = m ((c.tc : Thread Cert.MemkvIdeal.nD Cert.MemkvIdeal.τ).loc Cert.MemkvIdeal.main_arg3))
      ∧ θ_run (Cert.MemkvRefIdeal.defs (F := Ideal)) (onTc (τ := Cert.MemkvRefIdeal.τ) (Cert.MemkvRefIdeal.main (F := Ideal))) ⟨m', fun _ => 0, g'⟩ (fun r => ∀ c : Dev Cert.MemkvRefIdeal.nD,
          r.2.mem ((c.tc : Thread Cert.MemkvRefIdeal.nD Cert.MemkvRefIdeal.τ).loc Cert.MemkvRefIdeal.main_v30) = v0 c
          ∧ r.2.mem ((c.tc : Thread Cert.MemkvRefIdeal.nD Cert.MemkvRefIdeal.τ).loc Cert.MemkvRefIdeal.main_v31) = v1 c
          ∧ r.2.mem ((c.tc : Thread Cert.MemkvRefIdeal.nD Cert.MemkvRefIdeal.τ).loc Cert.MemkvRefIdeal.main_arg0) = m' ((c.tc : Thread Cert.MemkvRefIdeal.nD Cert.MemkvRefIdeal.τ).loc Cert.MemkvRefIdeal.main_arg0)
          ∧ r.2.mem ((c.tc : Thread Cert.MemkvRefIdeal.nD Cert.MemkvRefIdeal.τ).loc Cert.MemkvRefIdeal.main_arg1) = m' ((c.tc : Thread Cert.MemkvRefIdeal.nD Cert.MemkvRefIdeal.τ).loc Cert.MemkvRefIdeal.main_arg1)
          ∧ r.2.mem ((c.tc : Thread Cert.MemkvRefIdeal.nD Cert.MemkvRefIdeal.τ).loc Cert.MemkvRefIdeal.main_arg2) = m' ((c.tc : Thread Cert.MemkvRefIdeal.nD Cert.MemkvRefIdeal.τ).loc Cert.MemkvRefIdeal.main_arg2)
          ∧ r.2.mem ((c.tc : Thread Cert.MemkvRefIdeal.nD Cert.MemkvRefIdeal.τ).loc Cert.MemkvRefIdeal.main_arg3) = m' ((c.tc : Thread Cert.MemkvRefIdeal.nD Cert.MemkvRefIdeal.τ).loc Cert.MemkvRefIdeal.main_arg3))

def preserves_Inproj_InprojIdeal : Prop :=
  IdealRules.named_const.Statement Cert.InprojIdeal.κ "q_scale" .f32 0x3E0293EE#32 (((Real.sqrt 128)⁻¹ * (Real.log 2)⁻¹ : ℝ) : EReal)

def algebraic_InprojIdeal_InprojRefIdeal_pre_inproj_finite [hInprojIdeal : Cert.InprojIdeal.Facts] [hInprojRefIdeal : Cert.InprojRefIdeal.Facts] [hPre_inproj_finite : Cert.Pre_inproj_finite.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal_inproj_finite m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)
      ∧ m' ((c.tc : Thread Cert.InprojRefIdeal.nD Cert.InprojRefIdeal.τ).loc Cert.InprojRefIdeal.main_arg5) = m ((c.tc : Thread Cert.InprojIdeal.nD Cert.InprojIdeal.τ).loc Cert.InprojIdeal.main_arg5)
      ∧ m' ((c.tc : Thread Cert.InprojRefIdeal.nD Cert.InprojRefIdeal.τ).loc Cert.InprojRefIdeal.main_arg6) = m ((c.tc : Thread Cert.InprojIdeal.nD Cert.InprojIdeal.τ).loc Cert.InprojIdeal.main_arg6)
      ∧ m' ((c.tc : Thread Cert.InprojRefIdeal.nD Cert.InprojRefIdeal.τ).loc Cert.InprojRefIdeal.main_arg7) = m ((c.tc : Thread Cert.InprojIdeal.nD Cert.InprojIdeal.τ).loc Cert.InprojIdeal.main_arg7)
      ∧ m' ((c.tc : Thread Cert.InprojRefIdeal.nD Cert.InprojRefIdeal.τ).loc Cert.InprojRefIdeal.main_arg8) = m ((c.tc : Thread Cert.InprojIdeal.nD Cert.InprojIdeal.τ).loc Cert.InprojIdeal.main_arg8)
      ∧ m' ((c.tc : Thread Cert.InprojRefIdeal.nD Cert.InprojRefIdeal.τ).loc Cert.InprojRefIdeal.main_arg9) = m ((c.tc : Thread Cert.InprojIdeal.nD Cert.InprojIdeal.τ).loc Cert.InprojIdeal.main_arg9)
      ∧ m' ((c.tc : Thread Cert.InprojRefIdeal.nD Cert.InprojRefIdeal.τ).loc Cert.InprojRefIdeal.main_arg10) = m ((c.tc : Thread Cert.InprojIdeal.nD Cert.InprojIdeal.τ).loc Cert.InprojIdeal.main_arg10)
      ∧ m' ((c.tc : Thread Cert.InprojRefIdeal.nD Cert.InprojRefIdeal.τ).loc Cert.InprojRefIdeal.main_arg11) = m ((c.tc : Thread Cert.InprojIdeal.nD Cert.InprojIdeal.τ).loc Cert.InprojIdeal.main_arg11)
      ∧ m' ((c.tc : Thread Cert.InprojRefIdeal.nD Cert.InprojRefIdeal.τ).loc Cert.InprojRefIdeal.main_arg12) = m ((c.tc : Thread Cert.InprojIdeal.nD Cert.InprojIdeal.τ).loc Cert.InprojIdeal.main_arg12)
      ∧ m' ((c.tc : Thread Cert.InprojRefIdeal.nD Cert.InprojRefIdeal.τ).loc Cert.InprojRefIdeal.main_arg13) = m ((c.tc : Thread Cert.InprojIdeal.nD Cert.InprojIdeal.τ).loc Cert.InprojIdeal.main_arg13)
      ∧ m' ((c.tc : Thread Cert.InprojRefIdeal.nD Cert.InprojRefIdeal.τ).loc Cert.InprojRefIdeal.main_arg14) = m ((c.tc : Thread Cert.InprojIdeal.nD Cert.InprojIdeal.τ).loc Cert.InprojIdeal.main_arg14)) →
    ∃ (v0 : (c : Dev Cert.InprojIdeal.nD) → Buf (Elt Ideal) ((c.tc : Thread Cert.InprojIdeal.nD Cert.InprojIdeal.τ).loc Cert.InprojIdeal.main_v9_0)) (v1 : (c : Dev Cert.InprojIdeal.nD) → Buf (Elt Ideal) ((c.tc : Thread Cert.InprojIdeal.nD Cert.InprojIdeal.τ).loc Cert.InprojIdeal.main_v9_1)) (v2 : (c : Dev Cert.InprojIdeal.nD) → Buf (Elt Ideal) ((c.tc : Thread Cert.InprojIdeal.nD Cert.InprojIdeal.τ).loc Cert.InprojIdeal.main_v9_2)) (v3 : (c : Dev Cert.InprojIdeal.nD) → Buf (Elt Ideal) ((c.tc : Thread Cert.InprojIdeal.nD Cert.InprojIdeal.τ).loc Cert.InprojIdeal.main_v9_3)) (v4 : (c : Dev Cert.InprojIdeal.nD) → Buf (Elt Ideal) ((c.tc : Thread Cert.InprojIdeal.nD Cert.InprojIdeal.τ).loc Cert.InprojIdeal.main_v9_4)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v9_0) = v0 c
          ∧ r.2.mem ((c.tc : Thread Cert.InprojIdeal.nD Cert.InprojIdeal.τ).loc Cert.InprojIdeal.main_v9_1) = v1 c
          ∧ r.2.mem ((c.tc : Thread Cert.InprojIdeal.nD Cert.InprojIdeal.τ).loc Cert.InprojIdeal.main_v9_2) = v2 c
          ∧ r.2.mem ((c.tc : Thread Cert.InprojIdeal.nD Cert.InprojIdeal.τ).loc Cert.InprojIdeal.main_v9_3) = v3 c
          ∧ r.2.mem ((c.tc : Thread Cert.InprojIdeal.nD Cert.InprojIdeal.τ).loc Cert.InprojIdeal.main_v9_4) = v4 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
          ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
          ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
          ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9)
          ∧ r.2.mem ((c.tc : Thread Cert.InprojIdeal.nD Cert.InprojIdeal.τ).loc Cert.InprojIdeal.main_arg10) = m ((c.tc : Thread Cert.InprojIdeal.nD Cert.InprojIdeal.τ).loc Cert.InprojIdeal.main_arg10)
          ∧ r.2.mem ((c.tc : Thread Cert.InprojIdeal.nD Cert.InprojIdeal.τ).loc Cert.InprojIdeal.main_arg11) = m ((c.tc : Thread Cert.InprojIdeal.nD Cert.InprojIdeal.τ).loc Cert.InprojIdeal.main_arg11)
          ∧ r.2.mem ((c.tc : Thread Cert.InprojIdeal.nD Cert.InprojIdeal.τ).loc Cert.InprojIdeal.main_arg12) = m ((c.tc : Thread Cert.InprojIdeal.nD Cert.InprojIdeal.τ).loc Cert.InprojIdeal.main_arg12)
          ∧ r.2.mem ((c.tc : Thread Cert.InprojIdeal.nD Cert.InprojIdeal.τ).loc Cert.InprojIdeal.main_arg13) = m ((c.tc : Thread Cert.InprojIdeal.nD Cert.InprojIdeal.τ).loc Cert.InprojIdeal.main_arg13)
          ∧ r.2.mem ((c.tc : Thread Cert.InprojIdeal.nD Cert.InprojIdeal.τ).loc Cert.InprojIdeal.main_arg14) = m ((c.tc : Thread Cert.InprojIdeal.nD Cert.InprojIdeal.τ).loc Cert.InprojIdeal.main_arg14))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v197) = v0 c
          ∧ r.2.mem ((c.tc : Thread Cert.InprojRefIdeal.nD Cert.InprojRefIdeal.τ).loc Cert.InprojRefIdeal.main_v202) = v1 c
          ∧ r.2.mem ((c.tc : Thread Cert.InprojRefIdeal.nD Cert.InprojRefIdeal.τ).loc Cert.InprojRefIdeal.main_v204) = v2 c
          ∧ r.2.mem ((c.tc : Thread Cert.InprojRefIdeal.nD Cert.InprojRefIdeal.τ).loc Cert.InprojRefIdeal.main_v205) = v3 c
          ∧ r.2.mem ((c.tc : Thread Cert.InprojRefIdeal.nD Cert.InprojRefIdeal.τ).loc Cert.InprojRefIdeal.main_v207) = v4 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4)
          ∧ r.2.mem ((c.tc : Thread Cert.InprojRefIdeal.nD Cert.InprojRefIdeal.τ).loc Cert.InprojRefIdeal.main_arg5) = m' ((c.tc : Thread Cert.InprojRefIdeal.nD Cert.InprojRefIdeal.τ).loc Cert.InprojRefIdeal.main_arg5)
          ∧ r.2.mem ((c.tc : Thread Cert.InprojRefIdeal.nD Cert.InprojRefIdeal.τ).loc Cert.InprojRefIdeal.main_arg6) = m' ((c.tc : Thread Cert.InprojRefIdeal.nD Cert.InprojRefIdeal.τ).loc Cert.InprojRefIdeal.main_arg6)
          ∧ r.2.mem ((c.tc : Thread Cert.InprojRefIdeal.nD Cert.InprojRefIdeal.τ).loc Cert.InprojRefIdeal.main_arg7) = m' ((c.tc : Thread Cert.InprojRefIdeal.nD Cert.InprojRefIdeal.τ).loc Cert.InprojRefIdeal.main_arg7)
          ∧ r.2.mem ((c.tc : Thread Cert.InprojRefIdeal.nD Cert.InprojRefIdeal.τ).loc Cert.InprojRefIdeal.main_arg8) = m' ((c.tc : Thread Cert.InprojRefIdeal.nD Cert.InprojRefIdeal.τ).loc Cert.InprojRefIdeal.main_arg8)
          ∧ r.2.mem ((c.tc : Thread Cert.InprojRefIdeal.nD Cert.InprojRefIdeal.τ).loc Cert.InprojRefIdeal.main_arg9) = m' ((c.tc : Thread Cert.InprojRefIdeal.nD Cert.InprojRefIdeal.τ).loc Cert.InprojRefIdeal.main_arg9)
          ∧ r.2.mem ((c.tc : Thread Cert.InprojRefIdeal.nD Cert.InprojRefIdeal.τ).loc Cert.InprojRefIdeal.main_arg10) = m' ((c.tc : Thread Cert.InprojRefIdeal.nD Cert.InprojRefIdeal.τ).loc Cert.InprojRefIdeal.main_arg10)
          ∧ r.2.mem ((c.tc : Thread Cert.InprojRefIdeal.nD Cert.InprojRefIdeal.τ).loc Cert.InprojRefIdeal.main_arg11) = m' ((c.tc : Thread Cert.InprojRefIdeal.nD Cert.InprojRefIdeal.τ).loc Cert.InprojRefIdeal.main_arg11)
          ∧ r.2.mem ((c.tc : Thread Cert.InprojRefIdeal.nD Cert.InprojRefIdeal.τ).loc Cert.InprojRefIdeal.main_arg12) = m' ((c.tc : Thread Cert.InprojRefIdeal.nD Cert.InprojRefIdeal.τ).loc Cert.InprojRefIdeal.main_arg12)
          ∧ r.2.mem ((c.tc : Thread Cert.InprojRefIdeal.nD Cert.InprojRefIdeal.τ).loc Cert.InprojRefIdeal.main_arg13) = m' ((c.tc : Thread Cert.InprojRefIdeal.nD Cert.InprojRefIdeal.τ).loc Cert.InprojRefIdeal.main_arg13)
          ∧ r.2.mem ((c.tc : Thread Cert.InprojRefIdeal.nD Cert.InprojRefIdeal.τ).loc Cert.InprojRefIdeal.main_arg14) = m' ((c.tc : Thread Cert.InprojRefIdeal.nD Cert.InprojRefIdeal.τ).loc Cert.InprojRefIdeal.main_arg14))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v2) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v18) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def Claim : Prop :=
  ∃ (hAttention : Cert.Attention.Facts) (hAttentionIdeal : Cert.AttentionIdeal.Facts) (hAttentionRefIdeal : Cert.AttentionRefIdeal.Facts) (hMerge : Cert.Merge.Facts) (hMergeIdeal : Cert.MergeIdeal.Facts) (hMergeRefIdeal : Cert.MergeRefIdeal.Facts) (hMemkv : Cert.Memkv.Facts) (hMemkvIdeal : Cert.MemkvIdeal.Facts) (hMemkvRefIdeal : Cert.MemkvRefIdeal.Facts) (hInproj : Cert.Inproj.Facts) (hInprojIdeal : Cert.InprojIdeal.Facts) (hInprojRefIdeal : Cert.InprojRefIdeal.Facts) (hFfn : Cert.Ffn.Facts) (hFfnIdeal : Cert.FfnIdeal.Facts) (hFfnRefIdeal : Cert.FfnRefIdeal.Facts) (hPre_finite : Cert.Pre_finite.Facts) (hPre_inproj_finite : Cert.Pre_inproj_finite.Facts),
    quiescent_Attention (hAttention := hAttention)
    ∧ quiescent_AttentionIdeal (hAttentionIdeal := hAttentionIdeal)
    ∧ quiescent_AttentionIdeal_pre_finite (hAttentionIdeal := hAttentionIdeal) (hPre_finite := hPre_finite)
    ∧ quiescent_AttentionRefIdeal (hAttentionRefIdeal := hAttentionRefIdeal)
    ∧ quiescent_AttentionRefIdeal_pre_finite (hAttentionRefIdeal := hAttentionRefIdeal) (hPre_finite := hPre_finite)
    ∧ quiescent_Merge (hMerge := hMerge)
    ∧ quiescent_MergeIdeal (hMergeIdeal := hMergeIdeal)
    ∧ quiescent_MergeRefIdeal (hMergeRefIdeal := hMergeRefIdeal)
    ∧ quiescent_Memkv (hMemkv := hMemkv)
    ∧ quiescent_MemkvIdeal (hMemkvIdeal := hMemkvIdeal)
    ∧ quiescent_MemkvRefIdeal (hMemkvRefIdeal := hMemkvRefIdeal)
    ∧ quiescent_Inproj (hInproj := hInproj)
    ∧ quiescent_InprojIdeal (hInprojIdeal := hInprojIdeal)
    ∧ quiescent_InprojIdeal_pre_inproj_finite (hInprojIdeal := hInprojIdeal) (hPre_inproj_finite := hPre_inproj_finite)
    ∧ quiescent_InprojRefIdeal (hInprojRefIdeal := hInprojRefIdeal)
    ∧ quiescent_InprojRefIdeal_pre_inproj_finite (hInprojRefIdeal := hInprojRefIdeal) (hPre_inproj_finite := hPre_inproj_finite)
    ∧ quiescent_Ffn (hFfn := hFfn)
    ∧ quiescent_FfnIdeal (hFfnIdeal := hFfnIdeal)
    ∧ quiescent_FfnRefIdeal (hFfnRefIdeal := hFfnRefIdeal)
    ∧ preserves_Attention_AttentionIdeal
    ∧ algebraic_AttentionIdeal_AttentionRefIdeal_pre_finite (hAttentionIdeal := hAttentionIdeal) (hAttentionRefIdeal := hAttentionRefIdeal) (hPre_finite := hPre_finite)
    ∧ preserves_Merge_MergeIdeal
    ∧ algebraic_MergeIdeal_MergeRefIdeal (hMergeIdeal := hMergeIdeal) (hMergeRefIdeal := hMergeRefIdeal)
    ∧ preserves_Memkv_MemkvIdeal
    ∧ algebraic_MemkvIdeal_MemkvRefIdeal (hMemkvIdeal := hMemkvIdeal) (hMemkvRefIdeal := hMemkvRefIdeal)
    ∧ preserves_Inproj_InprojIdeal
    ∧ algebraic_InprojIdeal_InprojRefIdeal_pre_inproj_finite (hInprojIdeal := hInprojIdeal) (hInprojRefIdeal := hInprojRefIdeal) (hPre_inproj_finite := hPre_inproj_finite)
    ∧ preserves_Ffn_FfnIdeal
    ∧ algebraic_FfnIdeal_FfnRefIdeal (hFfnIdeal := hFfnIdeal) (hFfnRefIdeal := hFfnRefIdeal)
-- ==== Pre_finite.lean ====
abbrev S32768x1024 : Shape := ⟨2, ![32768, 1024]⟩
abbrev S32768x256 : Shape := ⟨2, ![32768, 256]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S32768x256 : S_.BroadcastsInDim S32768x256 (![] : Fin 0 → Fin S32768x256.rank)
  reducesTo_S32768x256_S_d0_1 : S32768x256.ReducesTo [0, 1] S_

variable [Facts]

def fn {F : FTy → Type} [FloatOps F] (main_arg0 : FVec F S32768x1024 .bf16) (main_arg1 : FVec F S32768x256 .bf16) (main_arg2 : FVec F S32768x256 .bf16) : IVec S_ 1 :=
  let main_v0 : FVec F S32768x1024 .bf16 := Host.absf main_arg0
  let main_cst : FVec F S_ .bf16 := constant S_ .bf16 0x7F80#16
  let main_v1 : FVec F S32768x1024 .bf16 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S32768x256 .bf16 := Host.absf main_arg1
  let main_cst_0 : FVec F S_ .bf16 := constant S_ .bf16 0x7F80#16
  let main_v5 : FVec F S32768x256 .bf16 := broadcastInDim S32768x256 ![] bcast_S_S32768x256 main_cst_0
  let main_v6 : IVec S32768x256 1 := cmpf .olt main_v4 main_v5
  let main_c_1 : IVec S_ 1 := constantI S_ 1 1#1
  let main_v7 : IVec S_ 1 := (fun x v => Host.reduce IntOp.andi x v reducesTo_S32768x256_S_d0_1 h_S_) main_v6 main_c_1
  let main_v8 : IVec S_ 1 := andi main_v3 main_v7
  main_v8
-- ==== Pre_inproj_finite.lean ====
abbrev S32768x2048 : Shape := ⟨2, ![32768, 2048]⟩
abbrev S16384x32 : Shape := ⟨2, ![16384, 32]⟩
abbrev S1x2048 : Shape := ⟨2, ![1, 2048]⟩
abbrev S2048x9216 : Shape := ⟨2, ![2048, 9216]⟩
abbrev S1x128 : Shape := ⟨2, ![1, 128]⟩
abbrev S4x128x128 : Shape := ⟨3, ![4, 128, 128]⟩
abbrev S4x128 : Shape := ⟨2, ![4, 128]⟩
abbrev S512x512 : Shape := ⟨2, ![512, 512]⟩
abbrev S_ : Shape := ⟨0, ![]⟩

class Facts : Prop where
  bcast_S_S1x128 : S_.BroadcastsInDim S1x128 (![] : Fin 0 → Fin S1x128.rank)
  reducesTo_S1x128_S_d0_1 : S1x128.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S32768x2048 .f32) (main_arg1 : FVec F S16384x32 .f32) (main_arg2 : FVec F S16384x32 .f32) (main_arg3 : FVec F S16384x32 .f32) (main_arg4 : FVec F S16384x32 .f32) (main_arg5 : FVec F S1x2048 .f32) (main_arg6 : FVec F S2048x9216 .f32) (main_arg7 : FVec F S1x128 .f32) (main_arg8 : FVec F S4x128x128 .f32) (main_arg9 : FVec F S4x128 .f32) (main_arg10 : FVec F S1x128 .f32) (main_arg11 : FVec F S1x128 .f32) (main_arg12 : FVec F S1x128 .f32) (main_arg13 : FVec F S512x512 .bf16) (main_arg14 : FVec F S512x512 .bf16) : IVec S_ 1 :=
  let main_v0 : FVec F S1x128 .f32 := Host.absf main_arg12
  let main_cst : FVec F S_ .f32 := constant S_ .f32 0x7F800000#32
  let main_v1 : FVec F S1x128 .f32 := broadcastInDim S1x128 ![] bcast_S_S1x128 main_cst
  let main_v2 : IVec S1x128 1 := cmpf .olt main_v0 main_v1
  let main_c : IVec S_ 1 := constantI S_ 1 1#1
  let main_v3 : IVec S_ 1 := (fun x v => Host.reduce IntOp.andi x v reducesTo_S1x128_S_d0_1 h_S_) main_v2 main_c
  let main_v4 : FVec F S512x512 .bf16 := Host.absf main_arg13
  let main_cst_0 : FVec F S_ .bf16 := constant S_ .bf16 0x7F80#16
  let main_v5 : FVec F S512x512 .bf16 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  main_v8
-- ==== Attention.lean ====
abbrev S32768x1024 : Shape := ⟨2, ![32768, 1024]⟩
abbrev S32768x256 : Shape := ⟨2, ![32768, 256]⟩
abbrev S512x512 : Shape := ⟨2, ![512, 512]⟩
abbrev S1024x128 : Shape := ⟨2, ![1024, 128]⟩
abbrev S4x512x128 : Shape := ⟨3, ![4, 512, 128]⟩
abbrev S512x128 : Shape := ⟨2, ![512, 128]⟩
abbrev S512x1024 : Shape := ⟨2, ![512, 1024]⟩
abbrev S1x512x128 : Shape := ⟨3, ![1, 512, 128]⟩
abbrev S512 : Shape := ⟨1, ![512]⟩
abbrev S512x1 : Shape := ⟨2, ![512, 1]⟩

abbrev nBuf : Space → Nat
  | .hbm => 4
  | .vmem => 11
  | .smem => 0
  | _ => 0

abbrev bufTy : (tb : Table) → Fin (tcTables nBuf tb) → BufTy
  | .hbm, ⟨0, _⟩ => ⟨S32768x1024, .bf16⟩
  | .hbm, ⟨1, _⟩ => ⟨S32768x256, .bf16⟩
  | .hbm, ⟨2, _⟩ => ⟨S32768x256, .bf16⟩
  | .hbm, ⟨3, _⟩ => ⟨S32768x1024, .bf16⟩
  | .local _ .vmem, ⟨0, _⟩ => ⟨S512x512, .bf16⟩
  | .local _ .vmem, ⟨1, _⟩ => ⟨S512x512, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S512x512, .bf16⟩
  | .local _ .vmem, ⟨7, _⟩ => ⟨S512x512, .bf16⟩
  | .local _ .vmem, ⟨8, _⟩ => ⟨S4x512x128, .f32⟩
  | .local _ .vmem, ⟨9, _⟩ => ⟨S4x512x128, .f32⟩
  | .local _ .vmem, ⟨10, _⟩ => ⟨S4x512x128, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![2, 2, 32, 16], ![false, false, false, false]⟩

def k0_cond2 (i : grid0.Coords) : BitVec 1 :=
  let arg3 : BitVec 32 := BitVec.ofNat 32 (i 3).val
  let c15_i32 : BitVec 32 := 15#32
  let v149 : BitVec 1 := Scalar.cmpi .eq arg3 c15_i32
  let v150 : BitVec 32 := Scalar.extui v149
  let c0_i32_93 : BitVec 32 := 0#32
  let v151 : BitVec 1 := Scalar.cmpi .ne v150 c0_i32_93
  v151

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg0 c16_i32
  let v1 : BitVec 32 := Scalar.addi v0 arg3
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg0 c16_i32
  let v1 : BitVec 32 := Scalar.addi v0 arg3
  let c0_i32 : BitVec 32 := 0#32
  ![v1.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== AttentionRefIdeal.lean ====
abbrev S32768x1024 : Shape := ⟨2, ![32768, 1024]⟩
abbrev S32768x256 : Shape := ⟨2, ![32768, 256]⟩
abbrev S2x16384x2x4x128 : Shape := ⟨5, ![2, 16384, 2, 4, 128]⟩
abbrev S2x16384x2x128 : Shape := ⟨4, ![2, 16384, 2, 128]⟩
abbrev S_ : Shape := ⟨0, ![]⟩
abbrev S2x2x16384x16384x4 : Shape := ⟨5, ![2, 2, 16384, 16384, 4]⟩
abbrev S2x2x4x16384x16384 : Shape := ⟨5, ![2, 2, 4, 16384, 16384]⟩
abbrev S2x2x4x16384 : Shape := ⟨4, ![2, 2, 4, 16384]⟩
abbrev S2x2x4x16384x1 : Shape := ⟨5, ![2, 2, 4, 16384, 1]⟩
abbrev S2x2x128x4x16384 : Shape := ⟨5, ![2, 2, 128, 4, 16384]⟩

abbrev nBuf : Space → Nat
  | .hbm => 38
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x256, .bf16⟩
  | .hbm, ⟨2, _⟩ => ⟨S32768x256, .bf16⟩
  | .hbm, ⟨3, _⟩ => ⟨S32768x1024, .f32⟩
  | .hbm, ⟨4, _⟩ => ⟨S2x16384x2x4x128, .f32⟩
  | .hbm, ⟨5, _⟩ => ⟨S32768x256, .f32⟩
  | .hbm, ⟨6, _⟩ => ⟨S2x16384x2x128, .f32⟩
  | .hbm, ⟨7, _⟩ => ⟨S32768x256, .f32⟩
  | .hbm, ⟨8, _⟩ => ⟨S2x16384x2x128, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S2x16384x2x4x128, .f32⟩
  | .hbm, ⟨15, _⟩ => ⟨S2x16384x2x4x128, .f32⟩
  | .hbm, ⟨16, _⟩ => ⟨S2x2x16384x16384x4, .f32⟩
  | .hbm, ⟨17, _⟩ => ⟨S2x2x4x16384x16384, .f32⟩
  | .hbm, ⟨18, _⟩ => ⟨S2x2x4x16384x16384, .f32⟩
  | .hbm, ⟨19, _⟩ => ⟨S2x2x4x16384x16384, .f32⟩
  | .hbm, ⟨20, _⟩ => ⟨S_, .f32⟩
  | .hbm, ⟨21, _⟩ => ⟨S2x2x4x16384, .f32⟩
  | .hbm, ⟨22, _⟩ => ⟨S_, .f32⟩
  | .hbm, ⟨23, _⟩ => ⟨S2x2x4x16384, .f32⟩
  | .hbm, ⟨24, _⟩ => ⟨S2x2x4x16384, .f32⟩
  | .hbm, ⟨25, _⟩ => ⟨S2x2x4x16384x1, .f32⟩
  | .hbm, ⟨26, _⟩ => ⟨S2x2x4x16384x16384, .f32⟩
  | .hbm, ⟨27, _⟩ => ⟨S2x2x4x16384x16384, .f32⟩
  | .hbm, ⟨28, _⟩ => ⟨S2x2x4x16384x16384, .f32⟩
  | .hbm, ⟨29, _⟩ => ⟨S_, .f32⟩
  | .hbm, ⟨30, _⟩ => ⟨S2x2x4x16384, .f32⟩
  | .hbm, ⟨31, _⟩ => ⟨S2x2x4x16384x1, .f32⟩
  | .hbm, ⟨32, _⟩ => ⟨S2x2x4x16384x16384, .f32⟩
  | .hbm, ⟨33, _⟩ => ⟨S2x2x4x16384x16384, .f32⟩
  | .hbm, ⟨34, _⟩ => ⟨S2x2x128x4x16384, .f32⟩
  | .hbm, ⟨35, _⟩ => ⟨S2x16384x2x4x128, .f32⟩
  | .hbm, ⟨36, _⟩ => ⟨S32768x1024, .f32⟩
  | .hbm, ⟨37, _⟩ => ⟨S32768x1024, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== Merge.lean ====
abbrev S32768x2048 : Shape := ⟨2, ![32768, 2048]⟩
abbrev S1x2048 : Shape := ⟨2, ![1, 2048]⟩
abbrev S32768x512 : Shape := ⟨2, ![32768, 512]⟩
abbrev S32768x1024 : Shape := ⟨2, ![32768, 1024]⟩
abbrev S2048x9216 : Shape := ⟨2, ![2048, 9216]⟩
abbrev S3x2048 : Shape := ⟨2, ![3, 2048]⟩
abbrev S512x2048 : Shape := ⟨2, ![512, 2048]⟩
abbrev S1024x2048 : Shape := ⟨2, ![1024, 2048]⟩
abbrev S2048x2048 : Shape := ⟨2, ![2048, 2048]⟩
abbrev S512x512 : Shape := ⟨2, ![512, 512]⟩
abbrev S512x1024 : Shape := ⟨2, ![512, 1024]⟩
abbrev S2048x512 : Shape := ⟨2, ![2048, 512]⟩
abbrev S3x512 : Shape := ⟨2, ![3, 512]⟩
abbrev S1024x512 : Shape := ⟨2, ![1024, 512]⟩
abbrev S512 : Shape := ⟨1, ![512]⟩
abbrev S512x1 : Shape := ⟨2, ![512, 1]⟩
abbrev S1x512 : Shape := ⟨2, ![1, 512]⟩

abbrev nBuf : Space → Nat
  | .hbm => 17
  | .vmem => 28
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S32768x512, .bf16⟩
  | .hbm, ⟨3, _⟩ => ⟨S32768x1024, .bf16⟩
  | .hbm, ⟨4, _⟩ => ⟨S32768x512, .bf16⟩
  | .hbm, ⟨5, _⟩ => ⟨S2048x9216, .f32⟩
  | .hbm, ⟨6, _⟩ => ⟨S3x2048, .f32⟩
  | .hbm, ⟨7, _⟩ => ⟨S512x2048, .f32⟩
  | .hbm, ⟨8, _⟩ => ⟨S1024x2048, .f32⟩
  | .hbm, ⟨9, _⟩ => ⟨S512x2048, .f32⟩
  | .hbm, ⟨10, _⟩ => ⟨S2048x2048, .f32⟩
  | .hbm, ⟨11, _⟩ => ⟨S2048x9216, .bf16⟩
  | .hbm, ⟨12, _⟩ => ⟨S512x2048, .bf16⟩
  | .hbm, ⟨13, _⟩ => ⟨S1024x2048, .bf16⟩
  | .hbm, ⟨14, _⟩ => ⟨S512x2048, .bf16⟩
  | .hbm, ⟨15, _⟩ => ⟨S2048x2048, .bf16⟩
  | .hbm, ⟨16, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x512, .bf16⟩
  | .local _ .vmem, ⟨4, _⟩ => ⟨S512x512, .bf16⟩
  | .local _ .vmem, ⟨5, _⟩ => ⟨S512x1024, .bf16⟩
  | .local _ .vmem, ⟨6, _⟩ => ⟨S512x1024, .bf16⟩
  | .local _ .vmem, ⟨7, _⟩ => ⟨S512x512, .bf16⟩
  | .local _ .vmem, ⟨8, _⟩ => ⟨S512x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | .local _ .vmem, ⟨14, _⟩ => ⟨S2048x512, .bf16⟩
  | .local _ .vmem, ⟨15, _⟩ => ⟨S3x512, .f32⟩
  | .local _ .vmem, ⟨16, _⟩ => ⟨S3x512, .f32⟩
  | .local _ .vmem, ⟨17, _⟩ => ⟨S512x512, .bf16⟩
  | .local _ .vmem, ⟨18, _⟩ => ⟨S512x512, .bf16⟩
  | .local _ .vmem, ⟨19, _⟩ => ⟨S1024x512, .bf16⟩
  | .local _ .vmem, ⟨20, _⟩ => ⟨S1024x512, .bf16⟩
  | .local _ .vmem, ⟨21, _⟩ => ⟨S512x512, .bf16⟩
  | .local _ .vmem, ⟨22, _⟩ => ⟨S512x512, .bf16⟩
  | .local _ .vmem, ⟨23, _⟩ => ⟨S512x2048, .bf16⟩
  | .local _ .vmem, ⟨24, _⟩ => ⟨S512x2048, .bf16⟩
  | .local _ .vmem, ⟨25, _⟩ => ⟨S512x2048, .f32⟩
  | .local _ .vmem, ⟨26, _⟩ => ⟨S512x2048, .f32⟩
  | .local _ .vmem, ⟨27, _⟩ => ⟨S512x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨2, ![64, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S3x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S512x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== MergeRefIdeal.lean ====
abbrev S32768x2048 : Shape := ⟨2, ![32768, 2048]⟩
abbrev S1x2048 : Shape := ⟨2, ![1, 2048]⟩
abbrev S32768x512 : Shape := ⟨2, ![32768, 512]⟩
abbrev S32768x1024 : Shape := ⟨2, ![32768, 1024]⟩
abbrev S2048x9216 : Shape := ⟨2, ![2048, 9216]⟩
abbrev S3x2048 : Shape := ⟨2, ![3, 2048]⟩
abbrev S512x2048 : Shape := ⟨2, ![512, 2048]⟩
abbrev S1024x2048 : Shape := ⟨2, ![1024, 2048]⟩
abbrev S2048x2048 : Shape := ⟨2, ![2048, 2048]⟩
abbrev S_ : Shape := ⟨0, ![]⟩
abbrev S32768 : Shape := ⟨1, ![32768]⟩
abbrev S32768x1 : Shape := ⟨2, ![32768, 1]⟩
abbrev S32768x9216 : Shape := ⟨2, ![32768, 9216]⟩
abbrev S32768x6144 : Shape := ⟨2, ![32768, 6144]⟩
abbrev S32768x3x2048 : Shape := ⟨3, ![32768, 3, 2048]⟩
abbrev S1x3x2048 : Shape := ⟨3, ![1, 3, 2048]⟩
abbrev S32768x1x2048 : Shape := ⟨3, ![32768, 1, 2048]⟩

abbrev nBuf : Space → Nat
  | .hbm => 59
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S32768x512, .bf16⟩
  | .hbm, ⟨3, _⟩ => ⟨S32768x1024, .bf16⟩
  | .hbm, ⟨4, _⟩ => ⟨S32768x512, .bf16⟩
  | .hbm, ⟨5, _⟩ => ⟨S2048x9216, .f32⟩
  | .hbm, ⟨6, _⟩ => ⟨S3x2048, .f32⟩
  | .hbm, ⟨7, _⟩ => ⟨S512x2048, .f32⟩
  | .hbm, ⟨8, _⟩ => ⟨S1024x2048, .f32⟩
  | .hbm, ⟨9, _⟩ => ⟨S512x2048, .f32⟩
  | .hbm, ⟨10, _⟩ => ⟨S2048x2048, .f32⟩
  | .hbm, ⟨11, _⟩ => ⟨S32768x2048, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S32768x1, .f32⟩
  | .hbm, ⟨22, _⟩ => ⟨S32768x2048, .f32⟩
  | .hbm, ⟨23, _⟩ => ⟨S32768x2048, .f32⟩
  | .hbm, ⟨24, _⟩ => ⟨S32768x2048, .f32⟩
  | .hbm, ⟨25, _⟩ => ⟨S32768x2048, .f32⟩
  | .hbm, ⟨26, _⟩ => ⟨S32768x9216, .f32⟩
  | .hbm, ⟨27, _⟩ => ⟨S32768x6144, .f32⟩
  | .hbm, ⟨28, _⟩ => ⟨S32768x3x2048, .f32⟩
  | .hbm, ⟨29, _⟩ => ⟨S1x3x2048, .f32⟩
  | .hbm, ⟨30, _⟩ => ⟨S32768x3x2048, .f32⟩
  | .hbm, ⟨31, _⟩ => ⟨S32768x3x2048, .f32⟩
  | .hbm, ⟨32, _⟩ => ⟨S32768x3x2048, .f32⟩
  | .hbm, ⟨33, _⟩ => ⟨S32768x3x2048, .f32⟩
  | .hbm, ⟨34, _⟩ => ⟨S_, .f32⟩
  | .hbm, ⟨35, _⟩ => ⟨S32768x3x2048, .f32⟩
  | .hbm, ⟨36, _⟩ => ⟨S32768x3x2048, .f32⟩
  | .hbm, ⟨37, _⟩ => ⟨S_, .f32⟩
  | .hbm, ⟨38, _⟩ => ⟨S32768x3x2048, .f32⟩
  | .hbm, ⟨39, _⟩ => ⟨S32768x3x2048, .f32⟩
  | .hbm, ⟨40, _⟩ => ⟨S32768x1x2048, .f32⟩
  | .hbm, ⟨41, _⟩ => ⟨S32768x2048, .f32⟩
  | .hbm, ⟨42, _⟩ => ⟨S32768x512, .f32⟩
  | .hbm, ⟨43, _⟩ => ⟨S32768x2048, .f32⟩
  | .hbm, ⟨44, _⟩ => ⟨S32768x2048, .f32⟩
  | .hbm, ⟨45, _⟩ => ⟨S32768x1x2048, .f32⟩
  | .hbm, ⟨46, _⟩ => ⟨S32768x2048, .f32⟩
  | .hbm, ⟨47, _⟩ => ⟨S32768x1024, .f32⟩
  | .hbm, ⟨48, _⟩ => ⟨S32768x2048, .f32⟩
  | .hbm, ⟨49, _⟩ => ⟨S32768x2048, .f32⟩
  | .hbm, ⟨50, _⟩ => ⟨S32768x2048, .f32⟩
  | .hbm, ⟨51, _⟩ => ⟨S32768x1x2048, .f32⟩
  | .hbm, ⟨52, _⟩ => ⟨S32768x2048, .f32⟩
  | .hbm, ⟨53, _⟩ => ⟨S32768x512, .f32⟩
  | .hbm, ⟨54, _⟩ => ⟨S32768x2048, .f32⟩
  | .hbm, ⟨55, _⟩ => ⟨S32768x2048, .f32⟩
  | .hbm, ⟨56, _⟩ => ⟨S32768x2048, .f32⟩
  | .hbm, ⟨57, _⟩ => ⟨S32768x2048, .f32⟩
  | .hbm, ⟨58, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== Memkv.lean ====
abbrev S512x2048 : Shape := ⟨2, ![512, 2048]⟩
abbrev S1x2048 : Shape := ⟨2, ![1, 2048]⟩
abbrev S2048x1024 : Shape := ⟨2, ![2048, 1024]⟩
abbrev S1x128 : Shape := ⟨2, ![1, 128]⟩
abbrev S512x512 : Shape := ⟨2, ![512, 512]⟩
abbrev S256x2048 : Shape := ⟨2, ![256, 2048]⟩
abbrev S256x512 : Shape := ⟨2, ![256, 512]⟩
abbrev S256 : Shape := ⟨1, ![256]⟩
abbrev S256x1 : Shape := ⟨2, ![256, 1]⟩
abbrev S256x1024 : Shape := ⟨2, ![256, 1024]⟩
abbrev S256x128 : Shape := ⟨2, ![256, 128]⟩

abbrev nBuf : Space → Nat
  | .hbm => 7
  | .vmem => 9
  | .smem => 0
  | _ => 0

abbrev bufTy : (tb : Table) → Fin (tcTables nBuf tb) → BufTy
  | .hbm, ⟨0, _⟩ => ⟨S512x2048, .f32⟩
  | .hbm, ⟨1, _⟩ => ⟨S1x2048, .f32⟩
  | .hbm, ⟨2, _⟩ => ⟨S2048x1024, .f32⟩
  | .hbm, ⟨3, _⟩ => ⟨S1x128, .f32⟩
  | .hbm, ⟨4, _⟩ => ⟨S2048x1024, .bf16⟩
  | .hbm, ⟨5, _⟩ => ⟨S512x512, .bf16⟩
  | .hbm, ⟨6, _⟩ => ⟨S512x512, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x1024, .bf16⟩
  | .local _ .vmem, ⟨4, _⟩ => ⟨S1x128, .f32⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MemkvRefIdeal.lean ====
abbrev S512x2048 : Shape := ⟨2, ![512, 2048]⟩
abbrev S1x2048 : Shape := ⟨2, ![1, 2048]⟩
abbrev S2048x1024 : Shape := ⟨2, ![2048, 1024]⟩
abbrev S1x128 : Shape := ⟨2, ![1, 128]⟩
abbrev S_ : Shape := ⟨0, ![]⟩
abbrev S512 : Shape := ⟨1, ![512]⟩
abbrev S512x1 : Shape := ⟨2, ![512, 1]⟩
abbrev S512x1024 : Shape := ⟨2, ![512, 1024]⟩
abbrev S512x512 : Shape := ⟨2, ![512, 512]⟩
abbrev S512x4x128 : Shape := ⟨3, ![512, 4, 128]⟩
abbrev S512x4 : Shape := ⟨2, ![512, 4]⟩
abbrev S512x4x1 : Shape := ⟨3, ![512, 4, 1]⟩
abbrev S1x1x128 : Shape := ⟨3, ![1, 1, 128]⟩

abbrev nBuf : Space → Nat
  | .hbm => 42
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S1x2048, .f32⟩
  | .hbm, ⟨2, _⟩ => ⟨S2048x1024, .f32⟩
  | .hbm, ⟨3, _⟩ => ⟨S1x128, .f32⟩
  | .hbm, ⟨4, _⟩ => ⟨S512x2048, .f32⟩
  | .hbm, ⟨5, _⟩ => ⟨S_, .f32⟩
  | .hbm, ⟨6, _⟩ => ⟨S512, .f32⟩
  | .hbm, ⟨7, _⟩ => ⟨S512x1, .f32⟩
  | .hbm, ⟨8, _⟩ => ⟨S_, .f32⟩
  | .hbm, ⟨9, _⟩ => ⟨S512x1, .f32⟩
  | .hbm, ⟨10, _⟩ => ⟨S512x1, .f32⟩
  | .hbm, ⟨11, _⟩ => ⟨S_, .f32⟩
  | .hbm, ⟨12, _⟩ => ⟨S512x1, .f32⟩
  | .hbm, ⟨13, _⟩ => ⟨S512x1, .f32⟩
  | .hbm, ⟨14, _⟩ => ⟨S512x1, .f32⟩
  | .hbm, ⟨15, _⟩ => ⟨S512x2048, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S512x1024, .f32⟩
  | .hbm, ⟨20, _⟩ => ⟨S512x512, .f32⟩
  | .hbm, ⟨21, _⟩ => ⟨S512x512, .f32⟩
  | .hbm, ⟨22, _⟩ => ⟨S512x4x128, .f32⟩
  | .hbm, ⟨23, _⟩ => ⟨S512x4x128, .f32⟩
  | .hbm, ⟨24, _⟩ => ⟨S_, .f32⟩
  | .hbm, ⟨25, _⟩ => ⟨S512x4, .f32⟩
  | .hbm, ⟨26, _⟩ => ⟨S512x4x1, .f32⟩
  | .hbm, ⟨27, _⟩ => ⟨S_, .f32⟩
  | .hbm, ⟨28, _⟩ => ⟨S512x4x1, .f32⟩
  | .hbm, ⟨29, _⟩ => ⟨S512x4x1, .f32⟩
  | .hbm, ⟨30, _⟩ => ⟨S_, .f32⟩
  | .hbm, ⟨31, _⟩ => ⟨S512x4x1, .f32⟩
  | .hbm, ⟨32, _⟩ => ⟨S512x4x1, .f32⟩
  | .hbm, ⟨33, _⟩ => ⟨S512x4x1, .f32⟩
  | .hbm, ⟨34, _⟩ => ⟨S512x4x128, .f32⟩
  | .hbm, ⟨35, _⟩ => ⟨S512x4x128, .f32⟩
  | .hbm, ⟨36, _⟩ => ⟨S1x1x128, .f32⟩
  | .hbm, ⟨37, _⟩ => ⟨S512x4x128, .f32⟩
  | .hbm, ⟨38, _⟩ => ⟨S512x4x128, .f32⟩
  | .hbm, ⟨39, _⟩ => ⟨S512x512, .f32⟩
  | .hbm, ⟨40, _⟩ => ⟨S512x512, .bf16⟩
  | .hbm, ⟨41, _⟩ => ⟨S512x512, .bf16⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== Inproj.lean ====
abbrev S32768x2048 : Shape := ⟨2, ![32768, 2048]⟩
abbrev S16384x32 : Shape := ⟨2, ![16384, 32]⟩
abbrev S1x2048 : Shape := ⟨2, ![1, 2048]⟩
abbrev S2048x9216 : Shape := ⟨2, ![2048, 9216]⟩
abbrev S1x128 : Shape := ⟨2, ![1, 128]⟩
abbrev S4x128x128 : Shape := ⟨3, ![4, 128, 128]⟩
abbrev S4x128 : Shape := ⟨2, ![4, 128]⟩
abbrev S512x512 : Shape := ⟨2, ![512, 512]⟩
abbrev S16384x128 : Shape := ⟨2, ![16384, 128]⟩
abbrev S128x4 : Shape := ⟨2, ![128, 4]⟩
abbrev S128x4x128 : Shape := ⟨3, ![128, 4, 128]⟩
abbrev S128x512 : Shape := ⟨2, ![128, 512]⟩
abbrev S32768x512 : Shape := ⟨2, ![32768, 512]⟩
abbrev S32768x1024 : Shape := ⟨2, ![32768, 1024]⟩
abbrev S32768x256 : Shape := ⟨2, ![32768, 256]⟩
abbrev S512x2048 : Shape := ⟨2, ![512, 2048]⟩
abbrev S2048x3072 : Shape := ⟨2, ![2048, 3072]⟩
abbrev S512x128 : Shape := ⟨2, ![512, 128]⟩
abbrev S256x512 : Shape := ⟨2, ![256, 512]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S2048x1024 : Shape := ⟨2, ![2048, 1024]⟩
abbrev S1x128x128 : Shape := ⟨3, ![1, 128, 128]⟩
abbrev S128x128 : Shape := ⟨2, ![128, 128]⟩
abbrev S2048x512 : Shape := ⟨2, ![2048, 512]⟩
abbrev S256x128 : Shape := ⟨2, ![256, 128]⟩

abbrev nBuf : Space → Nat
  | .hbm => 29
  | .vmem => 28
  | .smem => 0
  | _ => 0

abbrev bufTy : (tb : Table) → Fin (tcTables nBuf tb) → BufTy
  | .hbm, ⟨0, _⟩ => ⟨S32768x2048, .f32⟩
  | .hbm, ⟨1, _⟩ => ⟨S16384x32, .f32⟩
  | .hbm, ⟨2, _⟩ => ⟨S16384x32, .f32⟩
  | .hbm, ⟨3, _⟩ => ⟨S16384x32, .f32⟩
  | .hbm, ⟨4, _⟩ => ⟨S16384x32, .f32⟩
  | .hbm, ⟨5, _⟩ => ⟨S1x2048, .f32⟩
  | .hbm, ⟨6, _⟩ => ⟨S2048x9216, .f32⟩
  | .hbm, ⟨7, _⟩ => ⟨S1x128, .f32⟩
  | .hbm, ⟨8, _⟩ => ⟨S4x128x128, .f32⟩
  | .hbm, ⟨9, _⟩ => ⟨S4x128, .f32⟩
  | .hbm, ⟨10, _⟩ => ⟨S1x128, .f32⟩
  | .hbm, ⟨11, _⟩ => ⟨S1x128, .f32⟩
  | .hbm, ⟨12, _⟩ => ⟨S1x128, .f32⟩
  | .hbm, ⟨13, _⟩ => ⟨S512x512, .bf16⟩
  | .hbm, ⟨14, _⟩ => ⟨S512x512, .bf16⟩
  | .hbm, ⟨15, _⟩ => ⟨S16384x128, .f32⟩
  | .hbm, ⟨16, _⟩ => ⟨S16384x32, .f32⟩
  | .hbm, ⟨17, _⟩ => ⟨S16384x32, .f32⟩
  | .hbm, ⟨18, _⟩ => ⟨S16384x128, .f32⟩
  | .hbm, ⟨19, _⟩ => ⟨S128x4, .f32⟩
  | .hbm, ⟨20, _⟩ => ⟨S128x4x128, .f32⟩
  | .hbm, ⟨21, _⟩ => ⟨S128x512, .f32⟩
  | .hbm, ⟨22, _⟩ => ⟨S2048x9216, .bf16⟩
  | .hbm, ⟨23, _⟩ => ⟨S4x128x128, .bf16⟩
  | .hbm, ⟨24, _⟩ => ⟨S32768x512, .bf16⟩
  | .hbm, ⟨25, _⟩ => ⟨S32768x1024, .bf16⟩
  | .hbm, ⟨26, _⟩ => ⟨S32768x256, .bf16⟩
  | .hbm, ⟨27, _⟩ => ⟨S32768x256, .bf16⟩
  | .hbm, ⟨28, _⟩ => ⟨S32768x512, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x3072, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1x128, .f32⟩
  | .local _ .vmem, ⟨9, _⟩ => ⟨S4x128x128, .bf16⟩
  | .local _ .vmem, ⟨10, _⟩ => ⟨S128x512, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S512x512, .bf16⟩
  | .local _ .vmem, ⟨19, _⟩ => ⟨S512x512, .bf16⟩
  | .local _ .vmem, ⟨20, _⟩ => ⟨S512x1024, .bf16⟩
  | .local _ .vmem, ⟨21, _⟩ => ⟨S512x1024, .bf16⟩
  | .local _ .vmem, ⟨22, _⟩ => ⟨S512x256, .bf16⟩
  | .local _ .vmem, ⟨23, _⟩ => ⟨S512x256, .bf16⟩
  | .local _ .vmem, ⟨24, _⟩ => ⟨S512x256, .bf16⟩
  | .local _ .vmem, ⟨25, _⟩ => ⟨S512x256, .bf16⟩
  | .local _ .vmem, ⟨26, _⟩ => ⟨S512x512, .bf16⟩
  | .local _ .vmem, ⟨27, _⟩ => ⟨S512x512, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9_0 : Ref sig .tc := ⟨.hbm, 24, rfl⟩
abbrev main_v9_1 : Ref sig .tc := ⟨.hbm, 25, rfl⟩
abbrev main_v9_2 : Ref sig .tc := ⟨.hbm, 26, rfl⟩
abbrev main_v9_3 : Ref sig .tc := ⟨.hbm, 27, rfl⟩
abbrev main_v9_4 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_12 (i : grid0.Coords) : Fin 2 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== InprojIdeal.lean ====
variable {F : FTy → Type} [FloatOps F] [Named F]
def κ : String → Option EReal := fun
  | "q_scale" => some (((Real.sqrt 128)⁻¹ * (Real.log 2)⁻¹ : ℝ) : EReal)
  | _ => none
-- ==== InprojRefIdeal.lean ====
abbrev S32768x2048 : Shape := ⟨2, ![32768, 2048]⟩
abbrev S16384x32 : Shape := ⟨2, ![16384, 32]⟩
abbrev S1x2048 : Shape := ⟨2, ![1, 2048]⟩
abbrev S2048x9216 : Shape := ⟨2, ![2048, 9216]⟩
abbrev S1x128 : Shape := ⟨2, ![1, 128]⟩
abbrev S4x128x128 : Shape := ⟨3, ![4, 128, 128]⟩
abbrev S4x128 : Shape := ⟨2, ![4, 128]⟩
abbrev S512x512 : Shape := ⟨2, ![512, 512]⟩
abbrev S_ : Shape := ⟨0, ![]⟩
abbrev S32768 : Shape := ⟨1, ![32768]⟩
abbrev S32768x1 : Shape := ⟨2, ![32768, 1]⟩
abbrev S32768x9216 : Shape := ⟨2, ![32768, 9216]⟩
abbrev S32768x3072 : Shape := ⟨2, ![32768, 3072]⟩
abbrev S32768x1024 : Shape := ⟨2, ![32768, 1024]⟩
abbrev S32768x256 : Shape := ⟨2, ![32768, 256]⟩
abbrev S32768x512 : Shape := ⟨2, ![32768, 512]⟩
abbrev S32768x4x128 : Shape := ⟨3, ![32768, 4, 128]⟩
abbrev S32768x4 : Shape := ⟨2, ![32768, 4]⟩
abbrev S32768x4x1 : Shape := ⟨3, ![32768, 4, 1]⟩
abbrev S1x1x128 : Shape := ⟨3, ![1, 1, 128]⟩
abbrev S256x128x4x128 : Shape := ⟨4, ![256, 128, 4, 128]⟩
abbrev S4x256x128x128 : Shape := ⟨4, ![4, 256, 128, 128]⟩
abbrev S128x4 : Shape := ⟨2, ![128, 4]⟩
abbrev S1x128x4x1 : Shape := ⟨4, ![1, 128, 4, 1]⟩
abbrev S2x16384x8x128 : Shape := ⟨4, ![2, 16384, 8, 128]⟩
abbrev S2x16384x8 : Shape := ⟨3, ![2, 16384, 8]⟩
abbrev S2x16384x8x1 : Shape := ⟨4, ![2, 16384, 8, 1]⟩
abbrev S1x1x1x128 : Shape := ⟨4, ![1, 1, 1, 128]⟩
abbrev S2x16384x8x64 : Shape := ⟨4, ![2, 16384, 8, 64]⟩
abbrev S16384x1x32 : Shape := ⟨3, ![16384, 1, 32]⟩
abbrev S2x16384x8x32 : Shape := ⟨4, ![2, 16384, 8, 32]⟩
abbrev S1x16384x1x32 : Shape := ⟨4, ![1, 16384, 1, 32]⟩
abbrev S2x16384x2x128 : Shape := ⟨4, ![2, 16384, 2, 128]⟩
abbrev S2x16384x2 : Shape := ⟨3, ![2, 16384, 2]⟩
abbrev S2x16384x2x1 : Shape := ⟨4, ![2, 16384, 2, 1]⟩
abbrev S2x16384x2x64 : Shape := ⟨4, ![2, 16384, 2, 64]⟩
abbrev S2x16384x2x32 : Shape := ⟨4, ![2, 16384, 2, 32]⟩
abbrev S2x16384x4x128 : Shape := ⟨4, ![2, 16384, 4, 128]⟩
abbrev S2x16384x4 : Shape := ⟨3, ![2, 16384, 4]⟩
abbrev S2x16384x4x1 : Shape := ⟨4, ![2, 16384, 4, 1]⟩
abbrev S2x256x4x128 : Shape := ⟨4, ![2, 256, 4, 128]⟩
abbrev S2x4x16384x256 : Shape := ⟨4, ![2, 4, 16384, 256]⟩
abbrev S2x4x16384 : Shape := ⟨3, ![2, 4, 16384]⟩
abbrev S2x4x16384x1 : Shape := ⟨4, ![2, 4, 16384, 1]⟩
abbrev S2x4x128x16384 : Shape := ⟨4, ![2, 4, 128, 16384]⟩

abbrev nBuf : Space → Nat
  | .hbm => 245
  | .vmem => 0
  | .smem => 0
  | _ => 0

abbrev hbmTy0_0 (i : Nat) : BufTy := match i % 128 with
  | 0 => ⟨S32768x2048, .f32⟩
  | 1 => ⟨S16384x32, .f32⟩
  | 2 => ⟨S16384x32, .f32⟩
  | 3 => ⟨S16384x32, .f32⟩
  | 4 => ⟨S16384x32, .f32⟩
  | 5 => ⟨S1x2048, .f32⟩
  | 6 => ⟨S2048x9216, .f32⟩
  | 7 => ⟨S1x128, .f32⟩
  | 8 => ⟨S4x128x128, .f32⟩
  | 9 => ⟨S4x128, .f32⟩
  | 10 => ⟨S1x128, .f32⟩
  | 11 => ⟨S1x128, .f32⟩
  | 12 => ⟨S1x128, .f32⟩
  | 13 => ⟨S512x512, .bf16⟩
  | 14 => ⟨S512x512, .bf16⟩
  | 15 => ⟨S32768x2048, .f32⟩
  | 16 => ⟨S_, .f32⟩
  | 17 => ⟨S32768, .f32⟩
  | 18 => ⟨S32768x1, .f32⟩
  | 19 => ⟨S_, .f32⟩
  | 20 => ⟨S32768x1, .f32⟩
  | 21 => ⟨S32768x1, .f32⟩
  | 22 => ⟨S_, .f32⟩
  | 23 => ⟨S32768x1, .f32⟩
  | 24 => ⟨S32768x1, .f32⟩
  | 25 => ⟨S32768x1, .f32⟩
  | 26 => ⟨S32768x2048, .f32⟩
  | 27 => ⟨S32768x2048, .f32⟩
  | 28 => ⟨S32768x2048, .f32⟩
  | 29 => ⟨S32768x2048, .f32⟩
  | 30 => ⟨S32768x9216, .f32⟩
  | 31 => ⟨S32768x3072, .f32⟩
  | 32 => ⟨S32768x1024, .f32⟩
  | 33 => ⟨S32768x1024, .f32⟩
  | 34 => ⟨S32768x256, .f32⟩
  | 35 => ⟨S32768x256, .f32⟩
  | 36 => ⟨S32768x512, .f32⟩
  | 37 => ⟨S_, .f32⟩
  | 38 => ⟨S_, .f32⟩
  | 39 => ⟨S_, .f32⟩
  | 40 => ⟨S_, .f32⟩
  | 41 => ⟨S_, .f32⟩
  | 42 => ⟨S32768x1024, .f32⟩
  | 43 => ⟨S32768x1024, .f32⟩
  | 44 => ⟨S32768x1024, .f32⟩
  | 45 => ⟨S_, .f32⟩
  | 46 => ⟨S32768x1024, .f32⟩
  | 47 => ⟨S32768x1024, .f32⟩
  | 48 => ⟨S32768x1024, .f32⟩
  | 49 => ⟨S32768x1024, .f32⟩
  | 50 => ⟨S32768x512, .f32⟩
  | 51 => ⟨S32768x512, .f32⟩
  | 52 => ⟨S32768x4x128, .f32⟩
  | 53 => ⟨S32768x4x128, .f32⟩
  | 54 => ⟨S_, .f32⟩
  | 55 => ⟨S32768x4, .f32⟩
  | 56 => ⟨S32768x4x1, .f32⟩
  | 57 => ⟨S_, .f32⟩
  | 58 => ⟨S32768x4x1, .f32⟩
  | 59 => ⟨S32768x4x1, .f32⟩
  | 60 => ⟨S_, .f32⟩
  | 61 => ⟨S32768x4x1, .f32⟩
  | 62 => ⟨S32768x4x1, .f32⟩
  | 63 => ⟨S32768x4x1, .f32⟩
  | 64 => ⟨S32768x4x128, .f32⟩
  | 65 => ⟨S32768x4x128, .f32⟩
  | 66 => ⟨S1x1x128, .f32⟩
  | 67 => ⟨S32768x4x128, .f32⟩
  | 68 => ⟨S32768x4x128, .f32⟩
  | 69 => ⟨S256x128x4x128, .f32⟩
  | 70 => ⟨S4x256x128x128, .f32⟩
  | 71 => ⟨S256x128x4x128, .f32⟩
  | 72 => ⟨S128x4, .f32⟩
  | 73 => ⟨S1x128x4x1, .f32⟩
  | 74 => ⟨S256x128x4x128, .f32⟩
  | 75 => ⟨S256x128x4x128, .f32⟩
  | 76 => ⟨S32768x512, .f32⟩
  | 77 => ⟨S32768x512, .f32⟩
  | 78 => ⟨S2x16384x8x128, .f32⟩
  | 79 => ⟨S2x16384x8x128, .f32⟩
  | 80 => ⟨S_, .f32⟩
  | 81 => ⟨S2x16384x8, .f32⟩
  | 82 => ⟨S2x16384x8x1, .f32⟩
  | 83 => ⟨S_, .f32⟩
  | 84 => ⟨S2x16384x8x1, .f32⟩
  | 85 => ⟨S2x16384x8x1, .f32⟩
  | 86 => ⟨S_, .f32⟩
  | 87 => ⟨S2x16384x8x1, .f32⟩
  | 88 => ⟨S2x16384x8x1, .f32⟩
  | 89 => ⟨S2x16384x8x1, .f32⟩
  | 90 => ⟨S2x16384x8x128, .f32⟩
  | 91 => ⟨S2x16384x8x128, .f32⟩
  | 92 => ⟨S1x1x1x128, .f32⟩
  | 93 => ⟨S2x16384x8x128, .f32⟩
  | 94 => ⟨S2x16384x8x128, .f32⟩
  | 95 => ⟨S2x16384x8x64, .f32⟩
  | 96 => ⟨S2x16384x8x64, .f32⟩
  | 97 => ⟨S16384x1x32, .f32⟩
  | 98 => ⟨S16384x1x32, .f32⟩
  | 99 => ⟨S2x16384x8x32, .f32⟩
  | 100 => ⟨S2x16384x8x32, .f32⟩
  | 101 => ⟨S1x16384x1x32, .f32⟩
  | 102 => ⟨S2x16384x8x32, .f32⟩
  | 103 => ⟨S2x16384x8x32, .f32⟩
  | 104 => ⟨S1x16384x1x32, .f32⟩
  | 105 => ⟨S2x16384x8x32, .f32⟩
  | 106 => ⟨S2x16384x8x32, .f32⟩
  | 107 => ⟨S2x16384x8x32, .f32⟩
  | 108 => ⟨S1x16384x1x32, .f32⟩
  | 109 => ⟨S2x16384x8x32, .f32⟩
  | 110 => ⟨S2x16384x8x32, .f32⟩
  | 111 => ⟨S1x16384x1x32, .f32⟩
  | 112 => ⟨S2x16384x8x32, .f32⟩
  | 113 => ⟨S2x16384x8x32, .f32⟩
  | 114 => ⟨S2x16384x8x32, .f32⟩
  | 115 => ⟨S2x16384x8x64, .f32⟩
  | 116 => ⟨S16384x1x32, .f32⟩
  | 117 => ⟨S16384x1x32, .f32⟩
  | 118 => ⟨S2x16384x8x32, .f32⟩
  | 119 => ⟨S2x16384x8x32, .f32⟩
  | 120 => ⟨S1x16384x1x32, .f32⟩
  | 121 => ⟨S2x16384x8x32, .f32⟩
  | 122 => ⟨S2x16384x8x32, .f32⟩
  | 123 => ⟨S1x16384x1x32, .f32⟩
  | 124 => ⟨S2x16384x8x32, .f32⟩
  | 125 => ⟨S2x16384x8x32, .f32⟩
  | 126 => ⟨S2x16384x8x32, .f32⟩
  | 127 => ⟨S1x16384x1x32, .f32⟩
  | _ => ⟨S32768x2048, .f32⟩

abbrev hbmTy0_1 (i : Nat) : BufTy := match i % 128 with
  | 0 => ⟨S2x16384x8x32, .f32⟩
  | 1 => ⟨S2x16384x8x32, .f32⟩
  | 2 => ⟨S1x16384x1x32, .f32⟩
  | 3 => ⟨S2x16384x8x32, .f32⟩
  | 4 => ⟨S2x16384x8x32, .f32⟩
  | 5 => ⟨S2x16384x8x32, .f32⟩
  | 6 => ⟨S2x16384x8x64, .f32⟩
  | 7 => ⟨S2x16384x8x128, .f32⟩
  | 8 => ⟨S2x16384x2x128, .f32⟩
  | 9 => ⟨S2x16384x2x128, .f32⟩
  | 10 => ⟨S_, .f32⟩
  | 11 => ⟨S2x16384x2, .f32⟩
  | 12 => ⟨S2x16384x2x1, .f32⟩
  | 13 => ⟨S_, .f32⟩
  | 14 => ⟨S2x16384x2x1, .f32⟩
  | 15 => ⟨S2x16384x2x1, .f32⟩
  | 16 => ⟨S_, .f32⟩
  | 17 => ⟨S2x16384x2x1, .f32⟩
  | 18 => ⟨S2x16384x2x1, .f32⟩
  | 19 => ⟨S2x16384x2x1, .f32⟩
  | 20 => ⟨S2x16384x2x128, .f32⟩
  | 21 => ⟨S2x16384x2x128, .f32⟩
  | 22 => ⟨S1x1x1x128, .f32⟩
  | 23 => ⟨S2x16384x2x128, .f32⟩
  | 24 => ⟨S2x16384x2x128, .f32⟩
  | 25 => ⟨S2x16384x2x64, .f32⟩
  | 26 => ⟨S2x16384x2x64, .f32⟩
  | 27 => ⟨S16384x1x32, .f32⟩
  | 28 => ⟨S16384x1x32, .f32⟩
  | 29 => ⟨S2x16384x2x32, .f32⟩
  | 30 => ⟨S2x16384x2x32, .f32⟩
  | 31 => ⟨S1x16384x1x32, .f32⟩
  | 32 => ⟨S2x16384x2x32, .f32⟩
  | 33 => ⟨S2x16384x2x32, .f32⟩
  | 34 => ⟨S1x16384x1x32, .f32⟩
  | 35 => ⟨S2x16384x2x32, .f32⟩
  | 36 => ⟨S2x16384x2x32, .f32⟩
  | 37 => ⟨S2x16384x2x32, .f32⟩
  | 38 => ⟨S1x16384x1x32, .f32⟩
  | 39 => ⟨S2x16384x2x32, .f32⟩
  | 40 => ⟨S2x16384x2x32, .f32⟩
  | 41 => ⟨S1x16384x1x32, .f32⟩
  | 42 => ⟨S2x16384x2x32, .f32⟩
  | 43 => ⟨S2x16384x2x32, .f32⟩
  | 44 => ⟨S2x16384x2x32, .f32⟩
  | 45 => ⟨S2x16384x2x64, .f32⟩
  | 46 => ⟨S16384x1x32, .f32⟩
  | 47 => ⟨S16384x1x32, .f32⟩
  | 48 => ⟨S2x16384x2x32, .f32⟩
  | 49 => ⟨S2x16384x2x32, .f32⟩
  | 50 => ⟨S1x16384x1x32, .f32⟩
  | 51 => ⟨S2x16384x2x32, .f32⟩
  | 52 => ⟨S2x16384x2x32, .f32⟩
  | 53 => ⟨S1x16384x1x32, .f32⟩
  | 54 => ⟨S2x16384x2x32, .f32⟩
  | 55 => ⟨S2x16384x2x32, .f32⟩
  | 56 => ⟨S2x16384x2x32, .f32⟩
  | 57 => ⟨S1x16384x1x32, .f32⟩
  | 58 => ⟨S2x16384x2x32, .f32⟩
  | 59 => ⟨S2x16384x2x32, .f32⟩
  | 60 => ⟨S1x16384x1x32, .f32⟩
  | 61 => ⟨S2x16384x2x32, .f32⟩
  | 62 => ⟨S2x16384x2x32, .f32⟩
  | 63 => ⟨S2x16384x2x32, .f32⟩
  | 64 => ⟨S2x16384x2x64, .f32⟩
  | 65 => ⟨S2x16384x2x128, .f32⟩
  | 66 => ⟨S2x16384x4x128, .f32⟩
  | 67 => ⟨S2x16384x4x128, .f32⟩
  | 68 => ⟨S_, .f32⟩
  | 69 => ⟨S2x16384x4, .f32⟩
  | 70 => ⟨S2x16384x4x1, .f32⟩
  | 71 => ⟨S_, .f32⟩
  | 72 => ⟨S2x16384x4x1, .f32⟩
  | 73 => ⟨S2x16384x4x1, .f32⟩
  | 74 => ⟨S_, .f32⟩
  | 75 => ⟨S2x16384x4x1, .f32⟩
  | 76 => ⟨S2x16384x4x1, .f32⟩
  | 77 => ⟨S2x16384x4x1, .f32⟩
  | 78 => ⟨S2x16384x4x128, .f32⟩
  | 79 => ⟨S2x16384x4x128, .f32⟩
  | 80 => ⟨S1x1x1x128, .f32⟩
  | 81 => ⟨S2x16384x4x128, .f32⟩
  | 82 => ⟨S2x16384x4x128, .f32⟩
  | 83 => ⟨S512x512, .f32⟩
  | 84 => ⟨S2x256x4x128, .f32⟩
  | 85 => ⟨S2x4x16384x256, .f32⟩
  | 86 => ⟨S2x4x16384x256, .f32⟩
  | 87 => ⟨S2x4x16384x256, .f32⟩
  | 88 => ⟨S_, .f32⟩
  | 89 => ⟨S2x4x16384, .f32⟩
  | 90 => ⟨S_, .f32⟩
  | 91 => ⟨S2x4x16384, .f32⟩
  | 92 => ⟨S2x4x16384, .f32⟩
  | 93 => ⟨S2x4x16384x1, .f32⟩
  | 94 => ⟨S2x4x16384x256, .f32⟩
  | 95 => ⟨S2x4x16384x256, .f32⟩
  | 96 => ⟨S2x4x16384x256, .f32⟩
  | 97 => ⟨S_, .f32⟩
  | 98 => ⟨S2x4x16384, .f32⟩
  | 99 => ⟨S2x4x16384x1, .f32⟩
  | 100 => ⟨S2x4x16384x256, .f32⟩
  | 101 => ⟨S2x4x16384x256, .f32⟩
  | 102 => ⟨S512x512, .f32⟩
  | 103 => ⟨S2x256x4x128, .f32⟩
  | 104 => ⟨S2x4x128x16384, .f32⟩
  | 105 => ⟨S2x16384x4x128, .f32⟩
  | 106 => ⟨S32768x512, .bf16⟩
  | 107 => ⟨S_, .f32⟩
  | 108 => ⟨S2x16384x8x128, .f32⟩
  | 109 => ⟨S2x16384x8x128, .f32⟩
  | 110 => ⟨S32768x1024, .f32⟩
  | 111 => ⟨S32768x1024, .bf16⟩
  | 112 => ⟨S32768x256, .f32⟩
  | 113 => ⟨S32768x256, .bf16⟩
  | 114 => ⟨S32768x256, .bf16⟩
  | 115 => ⟨S32768x512, .f32⟩
  | 116 => ⟨S32768x512, .bf16⟩
  | _ => ⟨S32768x2048, .f32⟩

abbrev hbmTy (i : Nat) : BufTy := match i / 128 with
  | 0 => hbmTy0_0 i
  | 1 => hbmTy0_1 i
  | _ => ⟨S32768x2048, .f32⟩

abbrev bufTy : (tb : Table) → Fin (tcTables nBuf tb) → BufTy
  | .hbm, ⟨i, _⟩ => hbmTy i
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_cst_0 : Ref sig .tc := ⟨.hbm, 19, rfl⟩
abbrev main_v3 : Ref sig .tc := ⟨.hbm, 20, rfl⟩
abbrev main_v4 : Ref sig .tc := ⟨.hbm, 21, rfl⟩
abbrev main_cst_1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_cst_3 : Ref sig .tc := ⟨.hbm, 39, rfl⟩
abbrev main_v20 : Ref sig .tc := ⟨.hbm, 40, rfl⟩
abbrev main_cst_4 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_6 : Ref sig .tc := ⟨.hbm, 54, rfl⟩
abbrev main_v32 : Ref sig .tc := ⟨.hbm, 55, rfl⟩
abbrev main_v33 : Ref sig .tc := ⟨.hbm, 56, rfl⟩
abbrev main_cst_7 : Ref sig .tc := ⟨.hbm, 57, rfl⟩
abbrev main_v34 : Ref sig .tc := ⟨.hbm, 58, rfl⟩
abbrev main_v35 : Ref sig .tc := ⟨.hbm, 59, rfl⟩
abbrev main_cst_8 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_9 : Ref sig .tc := ⟨.hbm, 80, rfl⟩
abbrev main_v55 : Ref sig .tc := ⟨.hbm, 81, rfl⟩
abbrev main_v56 : Ref sig .tc := ⟨.hbm, 82, rfl⟩
abbrev main_cst_10 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_cst_12 : Ref sig .tc := ⟨.hbm, 138, rfl⟩
abbrev main_v110 : Ref sig .tc := ⟨.hbm, 139, rfl⟩
abbrev main_v111 : Ref sig .tc := ⟨.hbm, 140, rfl⟩
abbrev main_cst_13 : Ref sig .tc := ⟨.hbm, 141, rfl⟩
abbrev main_v112 : Ref sig .tc := ⟨.hbm, 142, rfl⟩
abbrev main_v113 : Ref sig .tc := ⟨.hbm, 143, rfl⟩
abbrev main_cst_14 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_v164 : Ref sig .tc := ⟨.hbm, 195, rfl⟩
abbrev main_cst_15 : Ref sig .tc := ⟨.hbm, 196, rfl⟩
abbrev main_v165 : Ref sig .tc := ⟨.hbm, 197, rfl⟩
abbrev main_v166 : Ref sig .tc := ⟨.hbm, 198, rfl⟩
abbrev main_cst_16 : Ref sig .tc := ⟨.hbm, 199, rfl⟩
abbrev main_v167 : Ref sig .tc := ⟨.hbm, 200, rfl⟩
abbrev main_v168 : Ref sig .tc := ⟨.hbm, 201, rfl⟩
abbrev main_cst_17 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩
abbrev main_v176 : Ref sig .tc := ⟨.hbm, 210, rfl⟩
abbrev main_v177 : Ref sig .tc := ⟨.hbm, 211, rfl⟩
abbrev main_v178 : Ref sig .tc := ⟨.hbm, 212, rfl⟩
abbrev main_v179 : Ref sig .tc := ⟨.hbm, 213, rfl⟩
abbrev main_v180 : Ref sig .tc := ⟨.hbm, 214, rfl⟩
abbrev main_v181 : Ref sig .tc := ⟨.hbm, 215, rfl⟩
abbrev main_cst_18 : Ref sig .tc := ⟨.hbm, 216, rfl⟩
abbrev main_v182 : Ref sig .tc := ⟨.hbm, 217, rfl⟩
abbrev main_cst_19 : Ref sig .tc := ⟨.hbm, 218, rfl⟩
abbrev main_v183 : Ref sig .tc := ⟨.hbm, 219, rfl⟩
abbrev main_v184 : Ref sig .tc := ⟨.hbm, 220, rfl⟩
abbrev main_v185 : Ref sig .tc := ⟨.hbm, 221, rfl⟩
abbrev main_v186 : Ref sig .tc := ⟨.hbm, 222, rfl⟩
abbrev main_v187 : Ref sig .tc := ⟨.hbm, 223, rfl⟩
abbrev main_v188 : Ref sig .tc := ⟨.hbm, 224, rfl⟩
abbrev main_cst_20 : Ref sig .tc := ⟨.hbm, 225, rfl⟩
abbrev main_v189 : Ref sig .tc := ⟨.hbm, 226, rfl⟩
abbrev main_v190 : Ref sig .tc := ⟨.hbm, 227, rfl⟩
abbrev main_v191 : Ref sig .tc := ⟨.hbm, 228, rfl⟩
abbrev main_v192 : Ref sig .tc := ⟨.hbm, 229, rfl⟩
abbrev main_v193 : Ref sig .tc := ⟨.hbm, 230, rfl⟩
abbrev main_v194 : Ref sig .tc := ⟨.hbm, 231, rfl⟩
abbrev main_v195 : Ref sig .tc := ⟨.hbm, 232, rfl⟩
abbrev main_v196 : Ref sig .tc := ⟨.hbm, 233, rfl⟩
abbrev main_v197 : Ref sig .tc := ⟨.hbm, 234, rfl⟩
abbrev main_v198 : Ref sig .tc := ⟨.hbm, 235, rfl⟩
abbrev main_v199 : Ref sig .tc := ⟨.hbm, 236, rfl⟩
abbrev main_v200 : Ref sig .tc := ⟨.hbm, 237, rfl⟩
abbrev main_v201 : Ref sig .tc := ⟨.hbm, 238, rfl⟩
abbrev main_v202 : Ref sig .tc := ⟨.hbm, 239, rfl⟩
abbrev main_v203 : Ref sig .tc := ⟨.hbm, 240, rfl⟩
abbrev main_v204 : Ref sig .tc := ⟨.hbm, 241, rfl⟩
abbrev main_v205 : Ref sig .tc := ⟨.hbm, 242, rfl⟩
abbrev main_v206 : Ref sig .tc := ⟨.hbm, 243, rfl⟩
abbrev main_v207 : Ref sig .tc := ⟨.hbm, 244, rfl⟩

abbrev nD : Nat := 1
abbrev τ : Topo := Topo.v7x

variable {F : FTy → Type} [FloatOps F]
-- ==== Ffn.lean ====
abbrev S32768x2048 : Shape := ⟨2, ![32768, 2048]⟩
abbrev S1x2048 : Shape := ⟨2, ![1, 2048]⟩
abbrev S2048x11264 : Shape := ⟨2, ![2048, 11264]⟩
abbrev S5632x2048 : Shape := ⟨2, ![5632, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 7
  | .vmem => 12
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S2048x11264, .f32⟩
  | .hbm, ⟨3, _⟩ => ⟨S5632x2048, .f32⟩
  | .hbm, ⟨4, _⟩ => ⟨S2048x11264, .bf16⟩
  | .hbm, ⟨5, _⟩ => ⟨S5632x2048, .bf16⟩
  | .hbm, ⟨6, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![64, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S32768x2048 : Shape := ⟨2, ![32768, 2048]⟩
abbrev S1x2048 : Shape := ⟨2, ![1, 2048]⟩
abbrev S2048x11264 : Shape := ⟨2, ![2048, 11264]⟩
abbrev S5632x2048 : Shape := ⟨2, ![5632, 2048]⟩
abbrev S_ : Shape := ⟨0, ![]⟩
abbrev S32768 : Shape := ⟨1, ![32768]⟩
abbrev S32768x1 : Shape := ⟨2, ![32768, 1]⟩
abbrev S32768x11264 : Shape := ⟨2, ![32768, 11264]⟩
abbrev S32768x5632 : Shape := ⟨2, ![32768, 5632]⟩

abbrev nBuf : Space → Nat
  | .hbm => 34
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S2048x11264, .f32⟩
  | .hbm, ⟨3, _⟩ => ⟨S5632x2048, .f32⟩
  | .hbm, ⟨4, _⟩ => ⟨S32768x2048, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x2048, .f32⟩
  | .hbm, ⟨16, _⟩ => ⟨S32768x2048, .f32⟩
  | .hbm, ⟨17, _⟩ => ⟨S32768x2048, .f32⟩
  | .hbm, ⟨18, _⟩ => ⟨S32768x2048, .f32⟩
  | .hbm, ⟨19, _⟩ => ⟨S32768x11264, .f32⟩
  | .hbm, ⟨20, _⟩ => ⟨S32768x5632, .f32⟩
  | .hbm, ⟨21, _⟩ => ⟨S32768x5632, .f32⟩
  | .hbm, ⟨22, _⟩ => ⟨S32768x5632, .f32⟩
  | .hbm, ⟨23, _⟩ => ⟨S32768x5632, .f32⟩
  | .hbm, ⟨24, _⟩ => ⟨S_, .f32⟩
  | .hbm, ⟨25, _⟩ => ⟨S32768x5632, .f32⟩
  | .hbm, ⟨26, _⟩ => ⟨S32768x5632, .f32⟩
  | .hbm, ⟨27, _⟩ => ⟨S_, .f32⟩
  | .hbm, ⟨28, _⟩ => ⟨S32768x5632, .f32⟩
  | .hbm, ⟨29, _⟩ => ⟨S32768x5632, .f32⟩
  | .hbm, ⟨30, _⟩ => ⟨S32768x5632, .f32⟩
  | .hbm, ⟨31, _⟩ => ⟨S32768x5632, .f32⟩
  | .hbm, ⟨32, _⟩ => ⟨S32768x2048, .f32⟩
  | .hbm, ⟨33, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩

abbrev nD : Nat := 1
abbrev τ : Topo := Topo.v7x

variable {F : FTy → Type} [FloatOps F]
-- ==== Proof.AttnHeads.lean ====
/-
  One head's step at one grid point of the attention kernel, element by element: the scores of its rows against the
  block's keys, and the new maximum, denominator and numerator from the old ones. The four heads compute the same.
-/
module

public import proofs.«01_k».proof.Proof.Gen.AttentionIdeal.Skeleton
public import Idealize.ShloMosaic.Lib.Pointwise

@[expose] public section

noncomputable section

open Idealize.ShloMosaic Idealize.ShloMosaic.TcCoe

namespace Cert.AttentionIdeal.Val

open Cert.AttentionIdeal Cert.AttentionIdeal.Gen

/-- Row `r` of the queries against key `x` of the block. -/
def sc (q : Fin 512 → Fin 128 → EReal) (k : Vec Ideal S1024x128 .bf16) (r : Fin 512) (x : Fin 1024) : EReal :=
  ∑ j, q r j * k (ix2 x j)

variable (S : Fin 512 → Fin 1024 → EReal) (V : Vec Ideal S1024x128 .bf16) (mm ll aa : Fin 512 → Fin 128 → EReal)

/-- The new maximum. -/
def mN (r : Fin 512) (d : Fin 128) : EReal := max (mm r d) (Finset.univ.fold max ⊥ (S r))

/-- The new denominator. -/
def lN (r : Fin 512) (d : Fin 128) : EReal :=
  Ideal.exp2 (mm r d - mN S mm r d) * ll r d + ∑ x, Ideal.exp2 (S r x - mN S mm r 0)

/-- The new numerator. -/
def aN (r : Fin 512) (d : Fin 128) : EReal :=
  Ideal.exp2 (mm r d - mN S mm r d) * aa r d + ∑ x, Ideal.exp2 (S r x - mN S mm r 0) * V (ix2 x d)

/-- The word the maximum starts from is minus infinity. -/
theorem bot_word : Ideal.ofBits FTy.f32 4286578688#32 = ⊥ := by
  simp [Ideal.ofBits, Ideal.ieee]

section Heads

variable (k v : Vec Ideal S1024x128 .bf16) (q : Vec Ideal S512x128 .bf16) (m l a : Vec Ideal S1x512x128 .f32)
variable (z : Fin 1) (r : Fin 512) (d : Fin 128)

/-- A head's rows of a carried array. -/
abbrev row (f : Vec Ideal S1x512x128 .f32) : Fin 512 → Fin 128 → EReal := fun r d => f (ix3 0 r d)

/-- The scores of a head's queries. -/
abbrev scq : Fin 512 → Fin 1024 → EReal := sc (fun r j => q (ix2 r j)) k

theorem head0_m : k0_pay19 (k0_pay13 k q m) (ix3 z r d) = mN (scq k q) (row m) r d := by
  pointwise [k0_pay19, k0_pay13, k0_pay12, k0_pay11]
  rw [bot_word]; rfl

theorem head0_l : k0_pay16 k q m l (ix3 z r d) = lN (scq k q) (row m) (row l) r d := by
  pointwise [k0_pay16, k0_pay15, k0_pay14, k0_pay13, k0_pay12, k0_pay11]
  rw [bot_word]; rfl

theorem head0_a : k0_pay18 v (k0_pay14 k q m) (k0_pay15 k q m) (k0_pay17 a) (ix3 z r d) = aN (scq k q) v (row m) (row a) r d := by
  pointwise [k0_pay18, k0_pay17, k0_pay15, k0_pay14, k0_pay13, k0_pay12, k0_pay11]
  rw [bot_word]; rfl

theorem head1_m : k0_pay27 (k0_pay22 k q m) (ix3 z r d) = mN (scq k q) (row m) r d := by
  pointwise [k0_pay27, k0_pay22, k0_pay21, k0_pay20]
  rw [bot_word]; rfl

theorem head1_l : k0_pay25 k q m l (ix3 z r d) = lN (scq k q) (row m) (row l) r d := by
  pointwise [k0_pay25, k0_pay24, k0_pay23, k0_pay22, k0_pay21, k0_pay20]
  rw [bot_word]; rfl

theorem head1_a : k0_pay26 v (k0_pay23 k q m) (k0_pay24 k q m) a (ix3 z r d) = aN (scq k q) v (row m) (row a) r d := by
  pointwise [k0_pay26, k0_pay24, k0_pay23, k0_pay22, k0_pay21, k0_pay20]
  rw [bot_word]; rfl

theorem head2_m : k0_pay35 (k0_pay30 k q m) (ix3 z r d) = mN (scq k q) (row m) r d := by
  pointwise [k0_pay35, k0_pay30, k0_pay29, k0_pay28]
  rw [bot_word]; rfl

theorem head2_l : k0_pay33 k q m l (ix3 z r d) = lN (scq k q) (row m) (row l) r d := by
  pointwise [k0_pay33, k0_pay32, k0_pay31, k0_pay30, k0_pay29, k0_pay28]
  rw [bot_word]; rfl

theorem head2_a : k0_pay34 v (k0_pay31 k q m) (k0_pay32 k q m) a (ix3 z r d) = aN (scq k q) v (row m) (row a) r d := by
  pointwise [k0_pay34, k0_pay32, k0_pay31, k0_pay30, k0_pay29, k0_pay28]
  rw [bot_word]; rfl

theorem head3_m : k0_pay3 (k0_pay38 k q m) (ix3 z r d) = mN (scq k q) (row m) r d := by
  pointwise [k0_pay3, k0_pay38, k0_pay37, k0_pay36]
  rw [bot_word]; rfl

theorem head3_l : k0_pay1 (k0_pay41 k q m l) (ix3 z r d) = lN (scq k q) (row m) (row l) r d := by
  pointwise [k0_pay1, k0_pay41, k0_pay40, k0_pay39, k0_pay38, k0_pay37, k0_pay36]
  rw [bot_word]; rfl

theorem head3_a : k0_pay2 v (k0_pay39 k q m) (k0_pay40 k q m) a (ix3 z r d) = aN (scq k q) v (row m) (row a) r d := by
  pointwise [k0_pay2, k0_pay40, k0_pay39, k0_pay38, k0_pay37, k0_pay36]
  rw [bot_word]; rfl

/-- The four divisions at the end. -/
theorem quot0 : k0_pay4 a l (ix2 r d) = Ideal.div (a (ix3 0 r d)) (l (ix3 0 r d)) := by
  pointwise [k0_pay4]
theorem quot1 : k0_pay5 a l (ix2 r d) = Ideal.div (a (ix3 0 r d)) (l (ix3 0 r d)) := by
  pointwise [k0_pay5]
theorem quot2 : k0_pay6 a l (ix2 r d) = Ideal.div (a (ix3 0 r d)) (l (ix3 0 r d)) := by
  pointwise [k0_pay6]
theorem quot3 : k0_pay7 a l (ix2 r d) = Ideal.div (a (ix3 0 r d)) (l (ix3 0 r d)) := by
  pointwise [k0_pay7]

/-- What the carried arrays are reset to. -/
theorem reset_m (h : Fin 4) : k0_pay8 (F := Ideal) (ix3 h r d) = ⊥ := by
  pointwise [k0_pay8]
  exact bot_word
theorem reset_l (h : Fin 4) : k0_pay9 (F := Ideal) (ix3 h r d) = 0 := by
  pointwise [k0_pay9]
theorem reset_a (h : Fin 4) : k0_pay10 (F := Ideal) (ix3 h r d) = 0 := by
  pointwise [k0_pay10]

end Heads

end Cert.AttentionIdeal.Val
-- ==== Proof.AttnBlocks.lean ====
/-
  What one grid point of the attention kernel leaves in its carried arrays and, at a row block's last point, in the result
  block: the four heads' steps laid side by side.
-/
module

public import proofs.«01_k».proof.Proof.AttnHeads
public import proofs.«01_k».proof.Proof.Gen.AttentionIdeal.Frame
public import Idealize.ShloMosaic.Lib.Pipeline.ValueKit
public import Idealize.ShloMosaic.Lib.Pipeline.ReadBack

@[expose] public section

noncomputable section

open Idealize.ShloMosaic Idealize.ShloMosaic.TcCoe

namespace Cert.AttentionIdeal.Val

open Cert.AttentionIdeal Cert.AttentionIdeal.Gen

/-- Head `h`'s columns of a block of queries. -/
def qh (x : Vec Ideal S512x512 .bf16) (h : Fin 4) : Fin 512 → Fin 128 → EReal :=
  fun r j => x (ix2 r ⟨128 * h.val + j.val, by have := h.isLt; omega⟩)

/-- Head `h`'s part of a carried array. -/
def part (s : Vec Ideal S4x512x128 .f32) (h : Fin 4) : Fin 512 → Fin 128 → EReal := fun r d => s (ix3 h r d)

/-- A store of head `n`'s part, read in that part. -/
theorem hit (n : ℕ) (hn : n < 4) (inb) (w : Vec Ideal S1x512x128 .f32) (L : List (View.Piece (Elt Ideal) S4x512x128 .f32))
    (r : Fin 512) (d : Fin 128) :
    View.canon ((⟨Rect.unit ![n, 0, 0] ![1, 512, 128] inb, w⟩ : View.Piece (Elt Ideal) S4x512x128 .f32) :: L)
      (ix3 (⟨n, hn⟩ : Fin 4) r d) = w (ix3 0 r d) := by
  have e : (ix3 (⟨n, hn⟩ : Fin 4) r d : S4x512x128.Idx)
      = (Rect.unit (s := S4x512x128) ![n, 0, 0] ![1, 512, 128] inb).emb (ix3 (0 : Fin 1) r d) := by
    funext a
    apply Fin.ext
    match a with
    | ⟨0, _⟩ => show n = n + 1 * 0; omega
    | ⟨1, _⟩ => show r.val = 0 + 1 * r.val; omega
    | ⟨2, _⟩ => show d.val = 0 + 1 * d.val; omega
  rw [e]
  exact View.canon_cons_emb (Rect.unit (s := S4x512x128) ![n, 0, 0] ![1, 512, 128] inb) w L _

/-- A store of head `n`'s part, read in another part. -/
theorem miss (n : ℕ) (inb) (w : Vec Ideal S1x512x128 .f32) (L : List (View.Piece (Elt Ideal) S4x512x128 .f32))
    (h : Fin 4) (hne : h.val ≠ n) (r : Fin 512) (d : Fin 128) :
    View.canon ((⟨Rect.unit ![n, 0, 0] ![1, 512, 128] inb, w⟩ : View.Piece (Elt Ideal) S4x512x128 .f32) :: L) (ix3 h r d)
      = View.canon L (ix3 h r d) := by
  refine View.canon_cons_of_not_mem _ L fun hm => ?_
  have hm : ix3 h r d ∈ (Rect.unit (s := S4x512x128) ![n, 0, 0] ![1, 512, 128] inb).set := hm
  have := (Rect.mem_set_unit.mp hm) (0 : Fin 3)
  have h1 : n ≤ h.val := this.1
  have h2 : h.val < n + 1 := this.2
  omega

/-- Four stores, one a head, read at an element: head `h`'s store. -/
theorem four (w0 w1 w2 w3 : Vec Ideal S1x512x128 .f32) (L : List (View.Piece (Elt Ideal) S4x512x128 .f32))
    (G : Fin 4 → Fin 512 → Fin 128 → EReal)
    (g0 : ∀ r d, w0 (ix3 0 r d) = G 0 r d) (g1 : ∀ r d, w1 (ix3 0 r d) = G 1 r d)
    (g2 : ∀ r d, w2 (ix3 0 r d) = G 2 r d) (g3 : ∀ r d, w3 (ix3 0 r d) = G 3 r d) (h : Fin 4) (r : Fin 512) (d : Fin 128) :
    View.canon ((⟨Rect.unit ![3, 0, 0] ![1, 512, 128] inb_S4x512x128_S1x512x128_3_0_0, w3⟩ : View.Piece (Elt Ideal) S4x512x128 .f32)
      :: ⟨Rect.unit ![2, 0, 0] ![1, 512, 128] inb_S4x512x128_S1x512x128_2_0_0, w2⟩
      :: ⟨Rect.unit ![1, 0, 0] ![1, 512, 128] inb_S4x512x128_S1x512x128_1_0_0, w1⟩
      :: ⟨Rect.unit ![0, 0, 0] ![1, 512, 128] inb_S4x512x128_S1x512x128_0_0_0, w0⟩ :: L) (ix3 h r d) = G h r d :=
  match h with
  | ⟨3, h3⟩ => (hit 3 h3 _ _ _ r d).trans (g3 r d)
  | ⟨2, h2⟩ => (miss 3 _ _ _ ⟨2, h2⟩ (by simp) r d).trans <| (hit 2 h2 _ _ _ r d).trans (g2 r d)
  | ⟨1, h1⟩ => (miss 3 _ _ _ ⟨1, h1⟩ (by simp) r d).trans <| (miss 2 _ _ _ ⟨1, h1⟩ (by simp) r d).trans <|
      (hit 1 h1 _ _ _ r d).trans (g1 r d)
  | ⟨0, h0⟩ => (miss 3 _ _ _ ⟨0, h0⟩ (by simp) r d).trans <| (miss 2 _ _ _ ⟨0, h0⟩ (by simp) r d).trans <|
      (miss 1 _ _ _ ⟨0, h0⟩ (by simp) r d).trans <| (hit 0 h0 _ _ _ r d).trans (g0 r d)

/-- Column `d` of head `h` in the result block. -/
def colOf (h : Fin 4) (d : Fin 128) : Fin 512 := ⟨128 * h.val + d.val, by have := h.isLt; omega⟩

/-- A store of head `n`'s columns, read in them. -/
theorem chit (n o : ℕ) (hn : n < 4) (ho : o = 128 * n) (inb) (w : Vec Ideal S512x128 .bf16)
    (L : List (View.Piece (Elt Ideal) S512x512 .bf16)) (r : Fin 512) (d : Fin 128) :
    View.canon ((⟨Rect.unit ![0, o] ![512, 128] inb, w⟩ : View.Piece (Elt Ideal) S512x512 .bf16) :: L)
      (ix2 r (colOf ⟨n, hn⟩ d)) = w (ix2 r d) := by
  have e : (ix2 r (colOf ⟨n, hn⟩ d) : S512x512.Idx)
      = (Rect.unit (s := S512x512) ![0, o] ![512, 128] inb).emb (ix2 r d) := by
    funext a
    apply Fin.ext
    match a with
    | ⟨0, _⟩ => show r.val = 0 + 1 * r.val; omega
    | ⟨1, _⟩ => show 128 * n + d.val = o + 1 * d.val; omega
  rw [e]
  exact View.canon_cons_emb (Rect.unit (s := S512x512) ![0, o] ![512, 128] inb) w L _

/-- A store of head `n`'s columns, read in an earlier head's. -/
theorem cmiss (n o : ℕ) (ho : o = 128 * n) (inb) (w : Vec Ideal S512x128 .bf16)
    (L : List (View.Piece (Elt Ideal) S512x512 .bf16)) (h : Fin 4) (hne : h.val < n) (r : Fin 512) (d : Fin 128) :
    View.canon ((⟨Rect.unit ![0, o] ![512, 128] inb, w⟩ : View.Piece (Elt Ideal) S512x512 .bf16) :: L) (ix2 r (colOf h d))
      = View.canon L (ix2 r (colOf h d)) := by
  refine View.canon_cons_of_not_mem _ L fun hm => ?_
  have hm : ix2 r (colOf h d) ∈ (Rect.unit (s := S512x512) ![0, o] ![512, 128] inb).set := hm
  have := (Rect.mem_set_unit.mp hm) (1 : Fin 2)
  have h1 : o ≤ 128 * h.val + d.val := this.1
  have := d.isLt
  omega

/-- Four stores side by side in the result block. -/
theorem cols (w0 w1 w2 w3 : Vec Ideal S512x128 .bf16) (G : Fin 4 → Fin 512 → Fin 128 → EReal)
    (g0 : ∀ r d, w0 (ix2 r d) = G 0 r d) (g1 : ∀ r d, w1 (ix2 r d) = G 1 r d)
    (g2 : ∀ r d, w2 (ix2 r d) = G 2 r d) (g3 : ∀ r d, w3 (ix2 r d) = G 3 r d) (h : Fin 4) (r : Fin 512) (d : Fin 128) :
    View.canon ([⟨Rect.unit ![0, 384] ![512, 128] inb_S512x512_S512x128_0_384, w3⟩,
      ⟨Rect.unit ![0, 256] ![512, 128] inb_S512x512_S512x128_0_256, w2⟩,
      ⟨Rect.unit ![0, 128] ![512, 128] inb_S512x512_S512x128_0_128, w1⟩,
      ⟨Rect.unit ![0, 0] ![512, 128] inb_S512x512_S512x128_0_0, w0⟩] : List (View.Piece (Elt Ideal) S512x512 .bf16))
      (ix2 r (colOf h d)) = G h r d :=
  match h with
  | ⟨3, h3⟩ => (chit 3 384 h3 rfl _ _ _ r d).trans (g3 r d)
  | ⟨2, h2⟩ => (cmiss 3 384 rfl _ _ _ ⟨2, h2⟩ (by simp) r d).trans <| (chit 2 256 h2 rfl _ _ _ r d).trans (g2 r d)
  | ⟨1, h1⟩ => (cmiss 3 384 rfl _ _ _ ⟨1, h1⟩ (by simp) r d).trans <| (cmiss 2 256 rfl _ _ _ ⟨1, h1⟩ (by simp) r d).trans <|
      (chit 1 128 h1 rfl _ _ _ r d).trans (g1 r d)
  | ⟨0, h0⟩ => (cmiss 3 384 rfl _ _ _ ⟨0, h0⟩ (by simp) r d).trans <| (cmiss 2 256 rfl _ _ _ ⟨0, h0⟩ (by simp) r d).trans <|
      (cmiss 1 128 rfl _ _ _ ⟨0, h0⟩ (by simp) r d).trans <| (chit 0 0 h0 rfl _ _ _ r d).trans (g0 r d)

/-- A head's part loaded from a carried array. -/
theorem row_ld (s : Vec Ideal S4x512x128 .f32) (n : ℕ) (hn : n < 4)
    (inb : ∀ a : Fin 3, (![n, 0, 0] : Fin 3 → ℕ) a + (![1, 512, 128] : Fin 3 → ℕ) a ≤ S4x512x128.size a) :
    row (View.ld s (Rect.unit (s := S4x512x128) ![n, 0, 0] ![1, 512, 128] inb)) = part s ⟨n, hn⟩ := by
  funext r d
  refine congrArg s (funext fun a => Fin.ext ?_)
  match a with
  | ⟨0, _⟩ => show n + 1 * 0 = n; omega
  | ⟨1, _⟩ => show 0 + 1 * r.val = r.val; omega
  | ⟨2, _⟩ => show 0 + 1 * d.val = d.val; omega

/-- A head's columns loaded from the block of queries. -/
theorem q_ld (x : Vec Ideal S512x512 .bf16) (k : Vec Ideal S1024x128 .bf16) (n : ℕ) (hn : n < 4) (o : ℕ) (ho : o = 128 * n)
    (inb : ∀ a : Fin 2, (![0, o] : Fin 2 → ℕ) a + (![512, 128] : Fin 2 → ℕ) a ≤ S512x512.size a) :
    scq k (View.ld x (Rect.unit (s := S512x512) ![0, o] ![512, 128] inb)) = sc (qh x ⟨n, hn⟩) k := by
  subst ho
  refine congrArg (fun f => sc f k) (funext fun r => funext fun j => congrArg x (funext fun a => Fin.ext ?_))
  match a with
  | ⟨0, _⟩ => show 0 + 1 * r.val = r.val; omega
  | ⟨1, _⟩ => show 128 * n + 1 * j.val = 128 * n + j.val; omega

section Step

variable (x0 : Vec Ideal S512x512 .bf16) (x1 x2 : Vec Ideal S1024x128 .bf16) (s0 s1 s2 : Vec Ideal S4x512x128 .f32)

/-- All heads' new maxima, denominators and numerators. -/
def stepM (h : Fin 4) : Fin 512 → Fin 128 → EReal := mN (sc (qh x0 h) x1) (part s0 h)
def stepL (h : Fin 4) : Fin 512 → Fin 128 → EReal := lN (sc (qh x0 h) x1) (part s0 h) (part s1 h)
def stepA (h : Fin 4) : Fin 512 → Fin 128 → EReal := aN (sc (qh x0 h) x1) x2 (part s0 h) (part s2 h)

theorem stepM_at {n : ℕ} (hn : n < 4) {o : ℕ} (ho : o = 128 * n) {w : Vec Ideal S1x512x128 .f32} {i1 i2}
    (hw : ∀ r d, w (ix3 0 r d) = mN (scq x1 (View.ld x0 (Rect.unit (s := S512x512) ![0, o] ![512, 128] i1)))
      (row (View.ld s0 (Rect.unit (s := S4x512x128) ![n, 0, 0] ![1, 512, 128] i2))) r d) (r : Fin 512) (d : Fin 128) :
    w (ix3 0 r d) = stepM x0 x1 s0 ⟨n, hn⟩ r d := by
  rw [hw, q_ld x0 x1 n hn o ho, row_ld s0 n hn]; rfl

theorem stepL_at {n : ℕ} (hn : n < 4) {o : ℕ} (ho : o = 128 * n) {w : Vec Ideal S1x512x128 .f32} {i1 i2 i3}
    (hw : ∀ r d, w (ix3 0 r d) = lN (scq x1 (View.ld x0 (Rect.unit (s := S512x512) ![0, o] ![512, 128] i1)))
      (row (View.ld s0 (Rect.unit (s := S4x512x128) ![n, 0, 0] ![1, 512, 128] i2)))
      (row (View.ld s1 (Rect.unit (s := S4x512x128) ![n, 0, 0] ![1, 512, 128] i3))) r d) (r : Fin 512) (d : Fin 128) :
    w (ix3 0 r d) = stepL x0 x1 s0 s1 ⟨n, hn⟩ r d := by
  rw [hw, q_ld x0 x1 n hn o ho, row_ld s0 n hn, row_ld s1 n hn]; rfl

theorem stepA_at {n : ℕ} (hn : n < 4) {o : ℕ} (ho : o = 128 * n) {w : Vec Ideal S1x512x128 .f32} {i1 i2 i3}
    (hw : ∀ r d, w (ix3 0 r d) = aN (scq x1 (View.ld x0 (Rect.unit (s := S512x512) ![0, o] ![512, 128] i1))) x2
      (row (View.ld s0 (Rect.unit (s := S4x512x128) ![n, 0, 0] ![1, 512, 128] i2)))
      (row (View.ld s2 (Rect.unit (s := S4x512x128) ![n, 0, 0] ![1, 512, 128] i3))) r d) (r : Fin 512) (d : Fin 128) :
    w (ix3 0 r d) = stepA x0 x1 x2 s0 s2 ⟨n, hn⟩ r d := by
  rw [hw, q_ld x0 x1 n hn o ho, row_ld s0 n hn, row_ld s2 n hn]; rfl

end Step

section Cases

variable (c : Dev nD) (i : grid0.Coords)
  (a4 : Memref sig .tc .vmem S512x512 .bf16) (h4 : a4.IsWhole) (a5 : Memref sig .tc .vmem S1024x128 .bf16) (h5 : a5.IsWhole)
  (a6 : Memref sig .tc .vmem S1024x128 .bf16) (h6 : a6.IsWhole) (a7 : Memref sig .tc .vmem S512x512 .bf16) (h7 : a7.IsWhole)
  (a8 a9 a10 : Memref sig .tc .vmem S4x512x128 .f32) (h8 : a8.IsWhole) (h9 : a9.IsWhole) (h10 : a10.IsWhole)
  (x0 : Vec Ideal S512x512 .bf16) (x1 x2 : Vec Ideal S1024x128 .bf16) (s0 s1 s2 : Vec Ideal S4x512x128 .f32)
  (h : Fin 4) (r : Fin 512) (d : Fin 128)

/-- A middle point's maxima. -/
theorem sB0 (hc : ¬cond0_0 i) (hd : ¬cond0_1 i) :
    sout0_B_0 c i a4 h4 a5 h5 a6 h6 a7 h7 a8 h8 a9 h9 a10 h10 hc hd x0 x1 x2 s0 s1 s2 (ix3 h r d) = stepM x0 x1 s0 h r d := by
  frame_out
  exact four _ _ _ _ _ (stepM x0 x1 s0)
    (stepM_at x0 x1 s0 (by decide) rfl fun r d => head0_m _ _ _ _ r d) (stepM_at x0 x1 s0 (by decide) rfl fun r d => head1_m _ _ _ _ r d)
    (stepM_at x0 x1 s0 (by decide) rfl fun r d => head2_m _ _ _ _ r d) (stepM_at x0 x1 s0 (by decide) rfl fun r d => head3_m _ _ _ _ r d) h r d

/-- A middle point's denominators. -/
theorem sB1 (hc : ¬cond0_0 i) (hd : ¬cond0_1 i) :
    sout0_B_1 c i a4 h4 a5 h5 a6 h6 a7 h7 a8 h8 a9 h9 a10 h10 hc hd x0 x1 x2 s0 s1 s2 (ix3 h r d) = stepL x0 x1 s0 s1 h r d := by
  frame_out
  exact four _ _ _ _ _ (stepL x0 x1 s0 s1)
    (stepL_at x0 x1 s0 s1 (by decide) rfl fun r d => head0_l _ _ _ _ _ r d) (stepL_at x0 x1 s0 s1 (by decide) rfl fun r d => head1_l _ _ _ _ _ r d)
    (stepL_at x0 x1 s0 s1 (by decide) rfl fun r d => head2_l _ _ _ _ _ r d) (stepL_at x0 x1 s0 s1 (by decide) rfl fun r d => head3_l _ _ _ _ _ r d) h r d

/-- A middle point's numerators. -/
theorem sB2 (hc : ¬cond0_0 i) (hd : ¬cond0_1 i) :
    sout0_B_2 c i a4 h4 a5 h5 a6 h6 a7 h7 a8 h8 a9 h9 a10 h10 hc hd x0 x1 x2 s0 s1 s2 (ix3 h r d) = stepA x0 x1 x2 s0 s2 h r d := by
  frame_out
  exact four _ _ _ _ _ (stepA x0 x1 x2 s0 s2)
    (stepA_at x0 x1 x2 s0 s2 (by decide) rfl fun r d => head0_a _ _ _ _ _ _ r d) (stepA_at x0 x1 x2 s0 s2 (by decide) rfl fun r d => head1_a _ _ _ _ _ _ r d)
    (stepA_at x0 x1 x2 s0 s2 (by decide) rfl fun r d => head2_a _ _ _ _ _ _ r d) (stepA_at x0 x1 x2 s0 s2 (by decide) rfl fun r d => head3_a _ _ _ _ _ _ r d) h r d

/-- The last point's maxima. -/
theorem sC0 (hc : ¬cond0_0 i) (hd : cond0_1 i) :
    sout0_C_0 c i a4 h4 a5 h5 a6 h6 a7 h7 a8 h8 a9 h9 a10 h10 hc hd x0 x1 x2 s0 s1 s2 (ix3 h r d) = stepM x0 x1 s0 h r d := by
  frame_out
  exact four _ _ _ _ _ (stepM x0 x1 s0)
    (stepM_at x0 x1 s0 (by decide) rfl fun r d => head0_m _ _ _ _ r d) (stepM_at x0 x1 s0 (by decide) rfl fun r d => head1_m _ _ _ _ r d)
    (stepM_at x0 x1 s0 (by decide) rfl fun r d => head2_m _ _ _ _ r d) (stepM_at x0 x1 s0 (by decide) rfl fun r d => head3_m _ _ _ _ r d) h r d

/-- The last point's denominators. -/
theorem sC1 (hc : ¬cond0_0 i) (hd : cond0_1 i) :
    sout0_C_1 c i a4 h4 a5 h5 a6 h6 a7 h7 a8 h8 a9 h9 a10 h10 hc hd x0 x1 x2 s0 s1 s2 (ix3 h r d) = stepL x0 x1 s0 s1 h r d := by
  frame_out
  exact four _ _ _ _ _ (stepL x0 x1 s0 s1)
    (stepL_at x0 x1 s0 s1 (by decide) rfl fun r d => head0_l _ _ _ _ _ r d) (stepL_at x0 x1 s0 s1 (by decide) rfl fun r d => head1_l _ _ _ _ _ r d)
    (stepL_at x0 x1 s0 s1 (by decide) rfl fun r d => head2_l _ _ _ _ _ r d) (stepL_at x0 x1 s0 s1 (by decide) rfl fun r d => head3_l _ _ _ _ _ r d) h r d

/-- The last point's numerators. -/
theorem sC2 (hc : ¬cond0_0 i) (hd : cond0_1 i) :
    sout0_C_2 c i a4 h4 a5 h5 a6 h6 a7 h7 a8 h8 a9 h9 a10 h10 hc hd x0 x1 x2 s0 s1 s2 (ix3 h r d) = stepA x0 x1 x2 s0 s2 h r d := by
  frame_out
  exact four _ _ _ _ _ (stepA x0 x1 x2 s0 s2)
    (stepA_at x0 x1 x2 s0 s2 (by decide) rfl fun r d => head0_a _ _ _ _ _ _ r d) (stepA_at x0 x1 x2 s0 s2 (by decide) rfl fun r d => head1_a _ _ _ _ _ _ r d)
    (stepA_at x0 x1 x2 s0 s2 (by decide) rfl fun r d => head2_a _ _ _ _ _ _ r d) (stepA_at x0 x1 x2 s0 s2 (by decide) rfl fun r d => head3_a _ _ _ _ _ _ r d) h r d

/-- The first point's maxima. -/
theorem sA0 (hc : cond0_0 i) (hd : ¬cond0_1 i) :
    sout0_A_0 c i a4 h4 a5 h5 a6 h6 a7 h7 a8 h8 a9 h9 a10 h10 hc hd x0 x1 x2 (ix3 h r d) = stepM x0 x1 (k0_pay8 (F := Ideal)) h r d := by
  frame_open
  simp (disch := decide) only [↓ View.readCov_skip, ↓ View.readCov_cons_toLoadRect, ↓ View.readCov_fill]
  frame_out
  exact four _ _ _ _ _ (stepM x0 x1 (k0_pay8 (F := Ideal)))
    (stepM_at x0 x1 (k0_pay8 (F := Ideal)) (by decide) rfl fun r d => head0_m _ _ _ _ r d) (stepM_at x0 x1 (k0_pay8 (F := Ideal)) (by decide) rfl fun r d => head1_m _ _ _ _ r d)
    (stepM_at x0 x1 (k0_pay8 (F := Ideal)) (by decide) rfl fun r d => head2_m _ _ _ _ r d) (stepM_at x0 x1 (k0_pay8 (F := Ideal)) (by decide) rfl fun r d => head3_m _ _ _ _ r d) h r d

/-- The first point's denominators. -/
theorem sA1 (hc : cond0_0 i) (hd : ¬cond0_1 i) :
    sout0_A_1 c i a4 h4 a5 h5 a6 h6 a7 h7 a8 h8 a9 h9 a10 h10 hc hd x0 x1 x2 (ix3 h r d) = stepL x0 x1 (k0_pay8 (F := Ideal)) (k0_pay9 (F := Ideal)) h r d := by
  frame_open
  simp (disch := decide) only [↓ View.readCov_skip, ↓ View.readCov_cons_toLoadRect, ↓ View.readCov_fill]
  frame_out
  exact four _ _ _ _ _ (stepL x0 x1 (k0_pay8 (F := Ideal)) (k0_pay9 (F := Ideal)))
    (stepL_at x0 x1 (k0_pay8 (F := Ideal)) (k0_pay9 (F := Ideal)) (by decide) rfl fun r d => head0_l _ _ _ _ _ r d) (stepL_at x0 x1 (k0_pay8 (F := Ideal)) (k0_pay9 (F := Ideal)) (by decide) rfl fun r d => head1_l _ _ _ _ _ r d)
    (stepL_at x0 x1 (k0_pay8 (F := Ideal)) (k0_pay9 (F := Ideal)) (by decide) rfl fun r d => head2_l _ _ _ _ _ r d) (stepL_at x0 x1 (k0_pay8 (F := Ideal)) (k0_pay9 (F := Ideal)) (by decide) rfl fun r d => head3_l _ _ _ _ _ r d) h r d

/-- The first point's numerators. -/
theorem sA2 (hc : cond0_0 i) (hd : ¬cond0_1 i) :
    sout0_A_2 c i a4 h4 a5 h5 a6 h6 a7 h7 a8 h8 a9 h9 a10 h10 hc hd x0 x1 x2 (ix3 h r d) = stepA x0 x1 x2 (k0_pay8 (F := Ideal)) (k0_pay10 (F := Ideal)) h r d := by
  frame_open
  simp (disch := decide) only [↓ View.readCov_skip, ↓ View.readCov_cons_toLoadRect, ↓ View.readCov_fill]
  frame_out
  exact four _ _ _ _ _ (stepA x0 x1 x2 (k0_pay8 (F := Ideal)) (k0_pay10 (F := Ideal)))
    (stepA_at x0 x1 x2 (k0_pay8 (F := Ideal)) (k0_pay10 (F := Ideal)) (by decide) rfl fun r d => head0_a _ _ _ _ _ _ r d) (stepA_at x0 x1 x2 (k0_pay8 (F := Ideal)) (k0_pay10 (F := Ideal)) (by decide) rfl fun r d => head1_a _ _ _ _ _ _ r d)
    (stepA_at x0 x1 x2 (k0_pay8 (F := Ideal)) (k0_pay10 (F := Ideal)) (by decide) rfl fun r d => head2_a _ _ _ _ _ _ r d) (stepA_at x0 x1 x2 (k0_pay8 (F := Ideal)) (k0_pay10 (F := Ideal)) (by decide) rfl fun r d => head3_a _ _ _ _ _ _ r d) h r d

/-- The result block at the last point: numerator over denominator. -/
theorem oC (hc : ¬cond0_0 i) (hd : cond0_1 i) :
    out0_C_3 c i a4 h4 a5 h5 a6 h6 a7 h7 a8 h8 a9 h9 a10 h10 hc hd x0 x1 x2 s0 s1 s2 (ix2 r (colOf h d))
      = Ideal.div (stepA x0 x1 x2 s0 s2 h r d) (stepL x0 x1 s0 s1 h r d) := by
  frame_open
  simp (disch := decide) only [↓ View.readCov_skip, ↓ View.readCov_cons_toLoadRect, ↓ View.readCov_fill]
  frame_out
  exact cols _ _ _ _ (fun h r d => Ideal.div (stepA x0 x1 x2 s0 s2 h r d) (stepL x0 x1 s0 s1 h r d))
    (fun r d => (quot0 _ _ r d).trans (congrArg₂ Ideal.div
      (stepA_at x0 x1 x2 s0 s2 (by decide) rfl (fun r d => head0_a _ _ _ _ _ _ r d) r d)
      (stepL_at x0 x1 s0 s1 (by decide) rfl (fun r d => head0_l _ _ _ _ _ r d) r d)))
    (fun r d => (quot1 _ _ r d).trans (congrArg₂ Ideal.div
      (stepA_at x0 x1 x2 s0 s2 (by decide) rfl (fun r d => head1_a _ _ _ _ _ _ r d) r d)
      (stepL_at x0 x1 s0 s1 (by decide) rfl (fun r d => head1_l _ _ _ _ _ r d) r d)))
    (fun r d => (quot2 _ _ r d).trans (congrArg₂ Ideal.div
      (stepA_at x0 x1 x2 s0 s2 (by decide) rfl (fun r d => head2_a _ _ _ _ _ _ r d) r d)
      (stepL_at x0 x1 s0 s1 (by decide) rfl (fun r d => head2_l _ _ _ _ _ r d) r d)))
    (fun r d => (quot3 _ _ r d).trans (congrArg₂ Ideal.div
      (stepA_at x0 x1 x2 s0 s2 (by decide) rfl (fun r d => head3_a _ _ _ _ _ _ r d) r d)
      (stepL_at x0 x1 s0 s1 (by decide) rfl (fun r d => head3_l _ _ _ _ _ r d) r d))) h r d

end Cases

end Cert.AttentionIdeal.Val
-- ==== Proof.AttnMath.lean ====
/-
  Softmax attention for one query as mathematics: the real scores against 16384 keys, a column of the values, and the
  running form that takes the keys in sixteen tiles of 1024, carrying a maximum, a denominator and a numerator, all to
  base two. The running form ends with the softmax-weighted sum.
-/
module

public import Idealize.ShloMosaic.Lib.Pointwise

@[expose] public section

noncomputable section

open Idealize.ShloMosaic

namespace Cert.AttnMath

/-- Key `x` of tile `s`. -/
def key (s : ℕ) (x : Fin 1024) : Fin 16384 := ⟨(1024 * s + x.val) % 16384, Nat.mod_lt _ (by norm_num)⟩

variable (σ : Fin 16384 → ℝ) (w : Fin 16384 → EReal)

/-- The weight of key `n` against the shift `M`. -/
def pw (M : ℝ) (n : Fin 16384) : ℝ := Real.rpow 2 (σ n - M)

/-- The denominator over the first `j` tiles. -/
def den (M : ℝ) (j : ℕ) : ℝ := ∑ s ∈ Finset.range j, ∑ x, pw σ M (key s x)

/-- The numerator over the first `j` tiles. -/
def num (M : ℝ) (j : ℕ) : EReal := ∑ s ∈ Finset.range j, ∑ x, (pw σ M (key s x) : EReal) * w (key s x)

/-- What is carried after `j` tiles: nothing yet, or some real shift with the sums against it. -/
def Carried (j : ℕ) (m l a : EReal) : Prop :=
  (j = 0 ∧ m = ⊥ ∧ l = 0 ∧ a = 0) ∨ ∃ M : ℝ, m = M ∧ l = (den σ M j : EReal) ∧ a = num σ w M j

theorem pw_pos (M : ℝ) (n : Fin 16384) : 0 < pw σ M n := Real.rpow_pos_of_pos (by norm_num) _

/-- Moving the shift from `M` to `M'` multiplies a weight by `2^(M - M')`. -/
theorem pw_shift (M M' : ℝ) (n : Fin 16384) : Real.rpow 2 (M - M') * pw σ M n = pw σ M' n := by
  unfold pw
  show (2 : ℝ) ^ (M - M') * (2 : ℝ) ^ (σ n - M) = (2 : ℝ) ^ (σ n - M')
  rw [← Real.rpow_add (by norm_num)]
  congr 1
  ring

/-- A sum of extended reals times a nonnegative real. -/
theorem mul_sum {ι : Type} (s : Finset ι) (f : ι → EReal) (r : ℝ) (hr : 0 ≤ r) :
    (r : EReal) * ∑ i ∈ s, f i = ∑ i ∈ s, (r : EReal) * f i := by
  classical
  induction s using Finset.induction_on with
  | empty => simp
  | insert i s hi ih =>
    rw [Finset.sum_insert hi, Finset.sum_insert hi, ← ih]
    exact EReal.left_distrib_of_nonneg_of_ne_top (EReal.coe_nonneg.mpr hr) (EReal.coe_ne_top r) _ _

theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

theorem den_shift (M M' : ℝ) (j : ℕ) : Real.rpow 2 (M - M') * den σ M j = den σ M' j := by
  unfold den
  simp only [Finset.mul_sum, pw_shift]

theorem num_shift (M M' : ℝ) (j : ℕ) : ((Real.rpow 2 (M - M') : ℝ) : EReal) * num σ w M j = num σ w M' j := by
  have h0 : 0 ≤ Real.rpow 2 (M - M') := Real.rpow_nonneg (by norm_num) _
  unfold num
  rw [mul_sum _ _ _ h0]
  refine Finset.sum_congr rfl fun s _ => ?_
  rw [mul_sum _ _ _ h0]
  refine Finset.sum_congr rfl fun x _ => ?_
  rw [← mul_assoc, ← EReal.coe_mul, pw_shift]

/-- The maximum of a nonempty family of reals is real. -/
theorem max_real {n : ℕ} (hn : 0 < n) (f : Fin n → ℝ) :
    ∃ M : ℝ, Finset.univ.fold max ⊥ (fun i => (f i : EReal)) = (M : EReal) := by
  have e : Finset.univ.fold max ⊥ (fun i => (f i : EReal)) = Finset.univ.sup (fun i => (f i : EReal)) := rfl
  rw [e]
  have h1 : Finset.univ.sup (fun i => (f i : EReal)) ≠ ⊤ :=
    ne_of_lt ((Finset.sup_lt_iff (by simp)).mpr fun i _ => EReal.coe_lt_top _)
  have h2 : Finset.univ.sup (fun i => (f i : EReal)) ≠ ⊥ := by
    intro h
    have := Finset.le_sup (f := fun i => (f i : EReal)) (Finset.mem_univ (⟨0, hn⟩ : Fin n))
    rw [h] at this
    exact EReal.coe_ne_bot _ (le_bot_iff.mp this)
  exact ⟨_, (EReal.coe_toReal h1 h2).symm⟩

/-- One tile: the new maximum, the old sums moved to it, the tile's weights added. -/
theorem step (j : ℕ) (m l a : EReal) (h : Carried σ w j m l a) (m' : EReal)
    (hm : m' = max m (Finset.univ.fold max ⊥ fun x => (σ (key j x) : EReal))) :
    Carried σ w (j + 1) m'
      (Ideal.exp2 (m - m') * l + ∑ x, Ideal.exp2 ((σ (key j x) : EReal) - m'))
      (Ideal.exp2 (m - m') * a + ∑ x, Ideal.exp2 ((σ (key j x) : EReal) - m') * w (key j x)) := by
  obtain ⟨T, hT⟩ := max_real (n := 1024) (by norm_num) fun x => σ (key j x)
  rw [hT] at hm
  have hp : ∀ (M' : ℝ) x, Ideal.exp2 ((σ (key j x) : EReal) - (M' : EReal)) = ((pw σ M' (key j x) : ℝ) : EReal) := fun M' x => by
    rw [← EReal.coe_sub, Ideal.exp2_coe]; rfl
  rcases h with ⟨rfl, rfl, rfl, rfl⟩ | ⟨M, rfl, rfl, rfl⟩
  · rw [max_eq_right bot_le] at hm
    subst hm
    refine Or.inr ⟨T, rfl, ?_, ?_⟩
    · simp [hp, den, coe_sum]
    · simp [hp, num]
  · obtain ⟨M', rfl⟩ : ∃ M' : ℝ, m' = M' := ⟨max M T, by rw [hm]; exact (EReal.coe_strictMono.monotone.map_max).symm⟩
    refine Or.inr ⟨M', rfl, ?_, ?_⟩
    · simp only [hp]
      rw [← EReal.coe_sub, Ideal.exp2_coe, ← EReal.coe_mul, den_shift, ← coe_sum, ← EReal.coe_add, den, den,
        Finset.sum_range_succ]
    · simp only [hp]
      rw [← EReal.coe_sub, Ideal.exp2_coe, num_shift, num, num, Finset.sum_range_succ]

/-- Sixteen tiles are all the keys. -/
theorem tiles {A : Type} [AddCommMonoid A] (f : Fin 16384 → A) :
    ∑ s ∈ Finset.range 16, ∑ x, f (key s x) = ∑ n, f n := by
  rw [Fin.sum_univ_tiles 16 1024 (by norm_num) f, Finset.sum_range]
  refine Finset.sum_congr rfl fun s _ => Finset.sum_congr rfl fun x _ => congrArg f (Fin.ext ?_)
  show (1024 * s.val + x.val) % 16384 = _
  have := s.isLt
  have := x.isLt
  simp only
  omega

/-- The plain softmax-weighted sum: each value times its key's natural exponential over the sum of them all. -/
def soft (t : Fin 16384 → EReal) (M : EReal) : EReal :=
  ∑ n, w n * Ideal.div (Ideal.exp (t n - M)) (∑ k, Ideal.exp (t k - M))

/-- After all sixteen tiles numerator over denominator is the softmax-weighted sum, against any real shift. -/
theorem final (m l a : EReal) (h : Carried σ w 16 m l a) (M' : ℝ) :
    Ideal.div a l = soft w (fun n => ((σ n * Real.log 2 : ℝ) : EReal)) M' := by
  rcases h with ⟨h, -⟩ | ⟨M, -, rfl, rfl⟩
  · exact absurd h (by norm_num)
  have hD : den σ M 16 = ∑ n, pw σ M n := tiles fun n => pw σ M n
  have hN : num σ w M 16 = ∑ n, (pw σ M n : EReal) * w n := tiles fun n => (pw σ M n : EReal) * w n
  have hpos : 0 < ∑ n, pw σ M n := Finset.sum_pos (fun n _ => pw_pos σ M n) ⟨⟨0, by norm_num⟩, Finset.mem_univ _⟩
  have he : ∀ n, Real.exp (σ n * Real.log 2 - M') = Real.exp (M * Real.log 2 - M') * pw σ M n := fun n => by
    unfold pw
    show _ = _ * (2 : ℝ) ^ (σ n - M)
    rw [Real.rpow_def_of_pos (by norm_num), ← Real.exp_add]
    congr 1
    ring
  have hc := Real.exp_pos (M * Real.log 2 - M')
  unfold soft
  rw [hD, hN, Ideal.div_coe hpos.ne', mul_comm, mul_sum _ _ _ (one_div_nonneg.mpr hpos.le)]
  refine Finset.sum_congr rfl fun n _ => ?_
  simp only [← EReal.coe_sub, Ideal.exp_coe, he, ← coe_sum]
  rw [← Finset.mul_sum, Ideal.div_coe (mul_pos hc hpos).ne', ← EReal.coe_mul, mul_comm (w n), ← mul_assoc, ← EReal.coe_mul]
  congr 2
  field_simp

/-- The scaled score of token `r`'s query, head `h` of group `g`, against key `n` of its sequence. -/
def score (q : Fin 32768 → Fin 1024 → ℝ) (k : Fin 32768 → Fin 256 → ℝ) (r : Fin 32768) (g : Fin 2) (h : Fin 4)
    (n : Fin 16384) : ℝ :=
  ∑ j : Fin 128, q r ⟨512 * g.val + (128 * h.val + j.val), by have := g.isLt; have := h.isLt; omega⟩
    * k ⟨16384 * (r.val / 16384) + n.val, by have := r.isLt; omega⟩ ⟨128 * g.val + j.val, by have := g.isLt; omega⟩

/-- Element `d` of the value of key `n`, in group `g` of token `r`'s sequence. -/
def value (v : Fin 32768 → Fin 256 → EReal) (r : Fin 32768) (g : Fin 2) (d : Fin 128) (n : Fin 16384) : EReal :=
  v ⟨16384 * (r.val / 16384) + n.val, by have := r.isLt; omega⟩ ⟨128 * g.val + d.val, by have := g.isLt; omega⟩

/-- The softmax does not depend on the shift. -/
theorem soft_shift (σ : Fin 16384 → ℝ) (w : Fin 16384 → EReal) (M M' : ℝ) :
    soft w (fun n => ((σ n * Real.log 2 : ℝ) : EReal)) M = soft w (fun n => ((σ n * Real.log 2 : ℝ) : EReal)) M' :=
  (final σ w 0 _ _ (Or.inr ⟨0, rfl, rfl, rfl⟩) M).symm.trans (final σ w 0 _ _ (Or.inr ⟨0, rfl, rfl, rfl⟩) M')

/-- The attention's result: token `r`, head `h` of group `g`, element `d`. -/
def attn (q : Fin 32768 → Fin 1024 → ℝ) (k : Fin 32768 → Fin 256 → ℝ) (v : Fin 32768 → Fin 256 → EReal)
    (r : Fin 32768) (g : Fin 2) (h : Fin 4) (d : Fin 128) : EReal :=
  soft (value v r g d) (fun n => ((score q k r g h n * Real.log 2 : ℝ) : EReal)) (0 : ℝ)

end Cert.AttnMath
-- ==== Proof.AttnValue.lean ====
/-
  What the attention kernel's result array ends holding, from finite queries and keys. By induction on the grid point:
  after a row block's tile number `j` the carried arrays hold, for every head and row, a real maximum and the sums of the
  first `j + 1` tiles against it.
-/
module

public import proofs.«01_k».proof.Proof.AttnBlocks
public import proofs.«01_k».proof.Proof.AttnMath
public import proofs.«01_k».proof.Proof.Gen.AttentionIdeal.Value
public import Idealize.ShloMosaic.Lib.Tactic

@[expose] public section

noncomputable section

open Idealize.ShloMosaic Idealize.ShloMosaic.TcCoe Idealize.SL.Sem

namespace Cert.AttentionIdeal.Val

open Cert.AttentionIdeal Cert.AttentionIdeal.Gen Cert.AttentionIdeal.Value Cert.AttnMath

/-- One head's row over one tile. -/
theorem step_row (S : Fin 512 → Fin 1024 → EReal) (V : Vec Ideal S1024x128 .bf16) (mm ll aa : Fin 512 → Fin 128 → EReal)
    (σ : Fin 16384 → ℝ) (w : Fin 16384 → EReal) (j : ℕ) (r : Fin 512) (d : Fin 128)
    (hS : ∀ x, S r x = (σ (key j x) : EReal)) (hV : ∀ x, V (ix2 x d) = w (key j x)) (h0 : mm r d = mm r 0)
    (h : Carried σ w j (mm r d) (ll r d) (aa r d)) :
    Carried σ w (j + 1) (mN S mm r d) (lN S mm ll r d) (aN S V mm aa r d) := by
  have e : mN S mm r 0 = mN S mm r d := by unfold mN; rw [h0]
  have eS : S r = fun x => (σ (key j x) : EReal) := funext hS
  unfold lN aN
  rw [e]
  simp only [hS, hV]
  exact step σ w j _ _ _ h _ (by unfold mN; rw [eS])

variable (m : (ℓ : Loc nD τ sig) → Buf (Elt Ideal) ℓ)

theorem lt_N (t : Fin cfg0.N) : t.val < 2048 := lt_of_lt_of_eq t.isLt (show cfg0.N = 2048 from N_0)

/-- Where the windows stand at point `t`. -/
theorem at_point : ∀ t : Fin cfg0.N,
    (win0_0.index t (0 : Fin 2) = t.val / 1024 * 32 + t.val / 16 % 32 ∧ win0_0.index t (1 : Fin 2) = t.val / 512 % 2)
    ∧ (win0_1.index t (0 : Fin 2) = t.val / 1024 * 16 + t.val % 16 ∧ win0_1.index t (1 : Fin 2) = t.val / 512 % 2)
    ∧ (win0_2.index t (0 : Fin 2) = t.val / 1024 * 16 + t.val % 16 ∧ win0_2.index t (1 : Fin 2) = t.val / 512 % 2)
    ∧ (win0_3.index t (0 : Fin 2) = t.val / 1024 * 32 + t.val / 16 % 32 ∧ win0_3.index t (1 : Fin 2) = t.val / 512 % 2) :=
  (by decide +kernel : ∀ t : Fin grid0.N, _)

/-- Row `r` of the queries of point `t`, and row `x` of its keys. -/
def tok (t : Fin cfg0.N) (r : Fin 512) : Fin 32768 :=
  ⟨512 * (t.val / 1024 * 32 + t.val / 16 % 32) + r.val, by have := lt_N t; omega⟩
def ktok (t : Fin cfg0.N) (x : Fin 1024) : Fin 32768 :=
  ⟨1024 * (t.val / 1024 * 16 + t.val % 16) + x.val, by have := lt_N t; omega⟩
/-- The group of heads. -/
def grp (t : Fin cfg0.N) : Fin 2 := ⟨t.val / 512 % 2, by omega⟩

/-- The block of queries. -/
theorem iblk0 (c : Dev nD) (t : Fin cfg0.N) (r : Fin 512) (k : Fin 512) :
    iblk m c 0 t (ix2 r k)
      = m ((c : Thread nD τ).loc main_arg0) (ix2 (tok t r) ⟨512 * (grp t).val + k.val, by have := (grp t).isLt; omega⟩) := by
  unfold iblk
  rw [View.read_apply, ← V_main_arg0 m c]
  show V m c main_arg0 _ = _
  congr 1
  funext a
  apply Fin.ext
  obtain ⟨⟨e0, e1⟩, -⟩ := at_point t
  match a with
  | ⟨0, _⟩ => show win0_0.index t 0 * 512 + 1 * r.val = 512 * (t.val / 1024 * 32 + t.val / 16 % 32) + r.val; omega
  | ⟨1, _⟩ => show win0_0.index t 1 * 512 + 1 * k.val = 512 * (t.val / 512 % 2) + k.val; omega

/-- The block of keys. -/
theorem iblk1 (c : Dev nD) (t : Fin cfg0.N) (x : Fin 1024) (k : Fin 128) :
    iblk m c 1 t (ix2 x k)
      = m ((c : Thread nD τ).loc main_arg1) (ix2 (ktok t x) ⟨128 * (grp t).val + k.val, by have := (grp t).isLt; omega⟩) := by
  unfold iblk
  rw [View.read_apply, ← V_main_arg1 m c]
  show V m c main_arg1 _ = _
  congr 1
  funext a
  apply Fin.ext
  obtain ⟨-, ⟨e0, e1⟩, -⟩ := at_point t
  match a with
  | ⟨0, _⟩ => show win0_1.index t 0 * 1024 + 1 * x.val = 1024 * (t.val / 1024 * 16 + t.val % 16) + x.val; omega
  | ⟨1, _⟩ => show win0_1.index t 1 * 128 + 1 * k.val = 128 * (t.val / 512 % 2) + k.val; omega

/-- The block of values. -/
theorem iblk2 (c : Dev nD) (t : Fin cfg0.N) (x : Fin 1024) (k : Fin 128) :
    iblk m c 2 t (ix2 x k)
      = m ((c : Thread nD τ).loc main_arg2) (ix2 (ktok t x) ⟨128 * (grp t).val + k.val, by have := (grp t).isLt; omega⟩) := by
  unfold iblk
  rw [View.read_apply, ← V_main_arg2 m c]
  show V m c main_arg2 _ = _
  congr 1
  funext a
  apply Fin.ext
  obtain ⟨-, -, ⟨e0, e1⟩, -⟩ := at_point t
  match a with
  | ⟨0, _⟩ => show win0_2.index t 0 * 1024 + 1 * x.val = 1024 * (t.val / 1024 * 16 + t.val % 16) + x.val; omega
  | ⟨1, _⟩ => show win0_2.index t 1 * 128 + 1 * k.val = 128 * (t.val / 512 % 2) + k.val; omega

/-- The arguments as tables; queries and keys as real numbers. -/
def aQ (c : Dev nD) : Fin 32768 → Fin 1024 → ℝ := fun r k => (m ((c : Thread nD τ).loc main_arg0) (ix2 r k)).toReal
def aK (c : Dev nD) : Fin 32768 → Fin 256 → ℝ := fun r k => (m ((c : Thread nD τ).loc main_arg1) (ix2 r k)).toReal
def aV (c : Dev nD) : Fin 32768 → Fin 256 → EReal := fun r k => m ((c : Thread nD τ).loc main_arg2) (ix2 r k)

/-- Queries and keys are finite. -/
def Real2 (c : Dev nD) : Prop :=
  (∀ r k, m ((c : Thread nD τ).loc main_arg0) (ix2 r k) = (aQ m c r k : EReal))
  ∧ (∀ r k, m ((c : Thread nD τ).loc main_arg1) (ix2 r k) = (aK m c r k : EReal))

/-- What is claimed of the carried arrays after point `t`. -/
def Good (c : Dev nD) (t : Fin cfg0.N) (p : Vec Ideal S4x512x128 .f32 × Vec Ideal S4x512x128 .f32 × Vec Ideal S4x512x128 .f32)
    (j : ℕ) : Prop :=
  ∀ h r d, p.1 (ix3 h r d) = p.1 (ix3 h r 0)
    ∧ Carried (score (aQ m c) (aK m c) (tok t r) (grp t) h) (value (aV m c) (tok t r) (grp t) d) j
        (p.1 (ix3 h r d)) (p.2.1 (ix3 h r d)) (p.2.2 (ix3 h r d))

/-- One tile's step keeps it. -/
theorem Good.step {c : Dev nD} {t : Fin cfg0.N} (hf : Real2 m c) {s0 s1 s2 n0 n1 n2 : Vec Ideal S4x512x128 .f32}
    (hg : Good m c t (s0, s1, s2) (t.val % 16))
    (h0 : ∀ h r d, n0 (ix3 h r d) = stepM (iblk m c 0 t) (iblk m c 1 t) s0 h r d)
    (h1 : ∀ h r d, n1 (ix3 h r d) = stepL (iblk m c 0 t) (iblk m c 1 t) s0 s1 h r d)
    (h2 : ∀ h r d, n2 (ix3 h r d) = stepA (iblk m c 0 t) (iblk m c 1 t) (iblk m c 2 t) s0 s2 h r d) :
    Good m c t (n0, n1, n2) (t.val % 16 + 1) := by
  intro h r d
  have hk : ∀ x, (⟨16384 * ((tok t r).val / 16384) + (key (t.val % 16) x).val, by
      have := (tok t r).isLt; have := (key (t.val % 16) x).isLt; omega⟩ : Fin 32768) = ktok t x := fun x => Fin.ext (by
    have := lt_N t
    show 16384 * ((512 * (t.val / 1024 * 32 + t.val / 16 % 32) + r.val) / 16384) + (1024 * (t.val % 16) + x.val) % 16384
      = 1024 * (t.val / 1024 * 16 + t.val % 16) + x.val
    omega)
  have hS : ∀ x, sc (qh (iblk m c 0 t) h) (iblk m c 1 t) r x
      = (score (aQ m c) (aK m c) (tok t r) (grp t) h (key (t.val % 16) x) : EReal) := fun x => by
    unfold sc qh score
    rw [coe_sum]
    refine Finset.sum_congr rfl fun j _ => ?_
    rw [iblk0 m c t, iblk1 m c t, hf.1, hf.2, EReal.coe_mul, hk x]
  have hV : ∀ x, iblk m c 2 t (ix2 x d) = value (aV m c) (tok t r) (grp t) d (key (t.val % 16) x) := fun x => by
    rw [iblk2 m c t]
    unfold value
    rw [hk x]
    rfl
  refine ⟨?_, ?_⟩
  · show n0 (ix3 h r d) = n0 (ix3 h r 0)
    rw [h0, h0]
    unfold stepM mN part
    exact congrArg (fun y => max y _) (hg h r d).1
  · show Carried _ _ _ (n0 (ix3 h r d)) (n1 (ix3 h r d)) (n2 (ix3 h r d))
    rw [h0, h1, h2]
    exact step_row _ _ (part s0 h) (part s1 h) (part s2 h) _ _ _ r d hS hV (hg h r d).1 (hg h r d).2

/-- The reset arrays, before the first tile. -/
theorem good_reset (c : Dev nD) (t : Fin cfg0.N) :
    Good m c t (k0_pay8 (F := Ideal), k0_pay9 (F := Ideal), k0_pay10 (F := Ideal)) 0 := fun h r d =>
  ⟨(reset_m r d h).trans (reset_m r 0 h).symm, Or.inl ⟨rfl, reset_m r d h, reset_l r d h, reset_a r d h⟩⟩

/-- A row block's first point establishes it. -/
theorem first (c : Dev nD) (t : Fin cfg0.N) (hf : Real2 m c) (h0 : t.val % 16 = 0) :
    Good m c t (outsAt0 m c t.val t.isLt).2 (t.val % 16 + 1) := by
  have h1 : ¬t.val % 16 = 15 := by omega
  rw [outsAt0_A m c t h0 h1]
  exact Good.step m hf (h0 ▸ good_reset m c t) (fun h r d => sA0 ..) (fun h r d => sA1 ..) (fun h r d => sA2 ..)

/-- A later point keeps it. -/
theorem later (c : Dev nD) (t s : Fin cfg0.N) (hs : s.val = t.val - 1) (h0 : ¬t.val % 16 = 0) (hf : Real2 m c)
    (ih : Good m c s (outsAt0 m c s.val s.isLt).2 (s.val % 16 + 1)) :
    Good m c t (outsAt0 m c t.val t.isLt).2 (t.val % 16 + 1) := by
  obtain ⟨s, hsN⟩ := s
  obtain rfl : s = t.val - 1 := hs
  have hN := lt_N t
  have e0 : ∀ r, tok ⟨t.val - 1, hsN⟩ r = tok t r := fun r => Fin.ext (by
    show 512 * ((t.val - 1) / 1024 * 32 + (t.val - 1) / 16 % 32) + r.val = 512 * (t.val / 1024 * 32 + t.val / 16 % 32) + r.val
    omega)
  have e1 : grp ⟨t.val - 1, hsN⟩ = grp t := Fin.ext (by
    show (t.val - 1) / 512 % 2 = t.val / 512 % 2
    omega)
  have e2 : (t.val - 1) % 16 + 1 = t.val % 16 := by omega
  have ih' : Good m c t (outsAt0 m c (t.val - 1) hsN).2 (t.val % 16) := fun h r d => by
    have := ih h r d
    rw [e0, e1] at this
    exact e2 ▸ this
  by_cases h1 : t.val % 16 = 15
  · rw [outsAt0_C m c t h0 h1]
    revert ih'
    generalize outsAt0 m c (t.val - 1) _ = p
    intro ih'
    exact Good.step m hf (s0 := p.2.1) (s1 := p.2.2.1) (s2 := p.2.2.2) ih' (fun h r d => sC0 ..) (fun h r d => sC1 ..) (fun h r d => sC2 ..)
  · rw [outsAt0_B m c t h0 h1]
    revert ih'
    generalize outsAt0 m c (t.val - 1) _ = p
    intro ih'
    exact Good.step m hf (s0 := p.2.1) (s1 := p.2.2.1) (s2 := p.2.2.2) ih' (fun h r d => sB0 ..) (fun h r d => sB1 ..) (fun h r d => sB2 ..)

/-- It holds after every point. -/
theorem after (c : Dev nD) (hf : Real2 m c) :
    ∀ (n : ℕ) (hn : n < cfg0.N), Good m c ⟨n, hn⟩ (outsAt0 m c n hn).2 (n % 16 + 1)
  | 0, hn => first m c ⟨0, hn⟩ hf (Nat.zero_mod _)
  | n + 1, hn => by
    by_cases h0 : (n + 1) % 16 = 0
    · exact first m c ⟨n + 1, hn⟩ hf h0
    · exact later m c ⟨n + 1, hn⟩ ⟨n, Nat.lt_of_succ_lt hn⟩ rfl h0 hf (after c hf n _)

/-- The result's blocks are written back after the last tile. -/
theorem flush_last : ∀ t : Fin cfg0.N, (cfg0.win 3).flush t = true → t.val % 16 = 15 :=
  (by decide +kernel : ∀ t : Fin grid0.N, (win0 3).flush t = true → t.val % 16 = 15)

/-- The block written back. -/
theorem written (c : Dev nD) (t : Fin cfg0.N) (hf : Real2 m c) (h1 : t.val % 16 = 15) (h : Fin 4) (r : Fin 512) (d : Fin 128) :
    (outsAt0 m c t.val t.isLt).1 (ix2 r (colOf h d)) = attn (aQ m c) (aK m c) (aV m c) (tok t r) (grp t) h d := by
  have h0 : ¬t.val % 16 = 0 := by omega
  have hg := (after m c hf t.val t.isLt h r d).2
  rw [show t.val % 16 + 1 = 16 by omega] at hg
  rw [outsAt0_C m c t h0 h1] at hg ⊢
  dsimp only at hg ⊢
  have e1 := sC1 c (grid0.coords t) (ms0_0 t) (hs0_0 t) (ms0_1 t) (hs0_1 t) (ms0_2 t) (hs0_2 t) (ms0_3 t) (hs0_3 t) scM0_0 scM0_1 scM0_2
    (Memref.isWhole_whole _) (Memref.isWhole_whole _) (Memref.isWhole_whole _) (iblk m c 0 t) (iblk m c 1 t) (iblk m c 2 t)
    (outsAt0 m c (t.val - 1) (Nat.lt_of_le_of_lt (Nat.sub_le _ _) t.isLt)).2.1
    (outsAt0 m c (t.val - 1) (Nat.lt_of_le_of_lt (Nat.sub_le _ _) t.isLt)).2.2.1
    (outsAt0 m c (t.val - 1) (Nat.lt_of_le_of_lt (Nat.sub_le _ _) t.isLt)).2.2.2 h r d
    (fun h => h0 ((hcond0_0 t).mp h)) ((hcond0_1 t).mpr h1)
  have e2 := sC2 c (grid0.coords t) (ms0_0 t) (hs0_0 t) (ms0_1 t) (hs0_1 t) (ms0_2 t) (hs0_2 t) (ms0_3 t) (hs0_3 t) scM0_0 scM0_1 scM0_2
    (Memref.isWhole_whole _) (Memref.isWhole_whole _) (Memref.isWhole_whole _) (iblk m c 0 t) (iblk m c 1 t) (iblk m c 2 t)
    (outsAt0 m c (t.val - 1) (Nat.lt_of_le_of_lt (Nat.sub_le _ _) t.isLt)).2.1
    (outsAt0 m c (t.val - 1) (Nat.lt_of_le_of_lt (Nat.sub_le _ _) t.isLt)).2.2.1
    (outsAt0 m c (t.val - 1) (Nat.lt_of_le_of_lt (Nat.sub_le _ _) t.isLt)).2.2.2 h r d
    (fun h => h0 ((hcond0_0 t).mp h)) ((hcond0_1 t).mpr h1)
  refine (oC ..).trans ((congrArg₂ Ideal.div e2.symm e1.symm).trans ?_)
  exact final _ _ _ _ _ hg 0

/-- The result array. -/
def G (c : Dev nD) : Vec Ideal S32768x1024 .bf16 := fun i =>
  attn (aQ m c) (aK m c) (aV m c) (i (0 : Fin 2)) ⟨(i (1 : Fin 2)).val / 512, by have : (i (1 : Fin 2)).val < 1024 := (i (1 : Fin 2)).isLt; omega⟩
    ⟨(i (1 : Fin 2)).val / 128 % 4, by omega⟩ ⟨(i (1 : Fin 2)).val % 128, by omega⟩

theorem result (c : Dev nD) (hf : Real2 m c) : (dats m 0 c).arrAt 3 cfg0.N = G m c := by
  refine (dats m 0 c).arrAt_eq_of_covers 3 _ (by decide +kernel) fun t hfl y => ?_
  have h1 := flush_last t hfl
  blk_simp
  rw [after0_3]
  obtain ⟨r, k, rfl⟩ : ∃ (r : Fin 512) (k : Fin 512), y = ix2 r k := ⟨y 0, y 1, eq_ix2 y⟩
  have hk : k = colOf ⟨k.val / 128, by omega⟩ ⟨k.val % 128, by omega⟩ := Fin.ext (by
    show k.val = 128 * (k.val / 128) + k.val % 128
    omega)
  rw [hk]
  refine (written m c t hf h1 _ r _).trans ?_
  obtain ⟨-, -, -, e0, e1⟩ := at_point t
  have hN := lt_N t
  unfold G
  congr 1
  · apply Fin.ext
    show 512 * (t.val / 1024 * 32 + t.val / 16 % 32) + r.val = win0_3.index t 0 * 512 + 1 * r.val
    omega
  · apply Fin.ext
    show t.val / 512 % 2 = (win0_3.index t 1 * 512 + 1 * (128 * (k.val / 128) + k.val % 128)) / 512
    omega
  · apply Fin.ext
    show k.val / 128 = (win0_3.index t 1 * 512 + 1 * (128 * (k.val / 128) + k.val % 128)) / 128 % 4
    omega
  · apply Fin.ext
    show k.val % 128 = (win0_3.index t 1 * 512 + 1 * (128 * (k.val / 128) + k.val % 128)) % 128
    omega

end Cert.AttentionIdeal.Val
-- ==== Proof.AttnPre.lean ====
/-
  What the precondition says: every query and key is a real number.
-/
module

public import proofs.«01_k».proof.Defs
public import Idealize.ShloMosaic.Lib.ReduceAll
public import Idealize.ShloMosaic.Lib.Pointwise

@[expose] public section

noncomputable section

open Idealize.ShloMosaic Idealize.ShloMosaic.TcCoe

namespace Cert.AttentionIdeal.Val

theorem inf_word : Ideal.ofBits FTy.bf16 0x7F80#16 = ⊤ := by
  simp [Ideal.ofBits, Ideal.ieee]

/-- An extended real whose absolute value is below infinity is real. -/
theorem real_of_abs_lt (x : EReal) (h : max x (-x) < ⊤) : x = (x.toReal : EReal) := by
  induction x using EReal.rec with
  | bot => exact absurd h (by simp)
  | coe r => rfl
  | top => exact absurd h (by simp)

theorem and_one : ∀ a b : BitVec 1, IntOp.andi a b = 1#1 → a = 1#1 ∧ b = 1#1 := by decide

/-- The comparison with the word of infinity. -/
theorem below (x : Ideal .bf16) (h : FloatOps.cmpf .olt (FloatOps.hostAbsf x) (Scalar.ofBits .bf16 32640#16) = 1#1) :
    max (x : EReal) (-x) < ⊤ := by
  rw [Ideal.hostAbsf_def, Ideal.absf_def, Ideal.cmpf_def] at h
  change Ideal.cmp .olt (max (x : EReal) (-x)) (Ideal.ofBits FTy.bf16 0x7F80#16) = 1#1 at h
  rw [inf_word] at h
  by_contra hn
  simp [Ideal.cmp, hn] at h

/-- Both conjuncts, element by element. -/
theorem finite_reads [Cert.Pre_finite.Facts] (q : FVec Ideal Cert.Pre_finite.S32768x1024 .bf16) (k v : FVec Ideal Cert.Pre_finite.S32768x256 .bf16)
    (h : Cert.Pre_finite.fn (F := Ideal) q k v = fun _ => 1#1) :
    (∀ i, q i = ((q i).toReal : EReal)) ∧ (∀ i, k i = ((k i).toReal : EReal)) := by
  have h0 := congrFun h (fun a => a.elim0)
  unfold Cert.Pre_finite.fn at h0
  dsimp only at h0
  change IntOp.andi _ _ = 1#1 at h0
  haveI : Subsingleton Cert.Pre_finite.S_.Idx := ⟨fun a b => funext fun i => i.elim0⟩
  obtain ⟨h1, h2⟩ := and_one _ _ h0
  refine ⟨fun i => real_of_abs_lt _ ?_, fun i => real_of_abs_lt _ ?_⟩
  · have := Host.reduce_andi_all _ _ _ _ _ h1 i
    exact below (q i) this
  · have := Host.reduce_andi_all _ _ _ _ _ h2 i
    exact below (k i) this

end Cert.AttentionIdeal.Val
-- ==== Proof.AttnRef.lean ====
/-
  The attention's reference, element by element, from finite queries and keys: the same softmax-weighted sums.
-/
module

public import proofs.«01_k».proof.Proof.AttnMath
public import proofs.«01_k».proof.Proof.Gen.AttentionRefIdeal.Run
public import proofs.«01_k».proof.Proof.Gen.AttentionRefIdeal.Read
public import Idealize.ShloMosaic.Lib.Pointwise

@[expose] public section

noncomputable section

open Idealize.ShloMosaic Idealize.ShloMosaic.TcCoe Idealize.SL.Sem

namespace Cert.AttentionRefIdeal.Val

open Cert.AttentionRefIdeal Cert.AttentionRefIdeal.Gen Cert.AttentionRefIdeal.Read Cert.AttnMath

/-- The two constants of the scale. -/
theorem w128 : Ideal.ofBits FTy.f32 0x43000000#32 = ((128 : ℝ) : EReal) := by
  simp [Ideal.ofBits, Ideal.ieee, -EReal.coe_mul]; norm_num [← EReal.coe_mul]
theorem w2 : Ideal.ofBits FTy.f32 0x40000000#32 = ((2 : ℝ) : EReal) := by
  simp [Ideal.ofBits, Ideal.ieee, -EReal.coe_mul]; norm_num [← EReal.coe_mul]
theorem wbot : Ideal.ofBits FTy.f32 0xFF800000#32 = ⊥ := by
  simp [Ideal.ofBits, Ideal.ieee]

theorem v6_at (i : S_.Idx) : val_main_v6 (F := Ideal) i = ((Real.sqrt 128 : ℝ) : EReal) := by
  pointwise [val_main_v6, val_main_cst]
  rw [w128, Ideal.sqrt_coe, if_neg (by norm_num)]

theorem v8_at (i : S_.Idx) : val_main_v8 (F := Ideal) i = ((Real.sqrt 128 * Real.log 2 : ℝ) : EReal) := by
  rw [val_main_v8_apply, v6_at]
  show _ * val_main_v7 (F := Ideal) i = _
  have : val_main_v7 (F := Ideal) i = ((Real.log 2 : ℝ) : EReal) := by
    pointwise [val_main_v7, val_main_cst_0]
    rw [w2, Ideal.log_coe, if_neg (by norm_num)]
  rw [this, EReal.coe_mul]

variable (q : FVec Ideal S32768x1024 .bf16) (k v : FVec Ideal S32768x256 .bf16)

/-- Token `t` of sequence `b`; column `j` of head `h` in group `g`; column `j` of group `g`. -/
def tk (b : Fin 2) (t : Fin 16384) : Fin 32768 := ⟨16384 * b.val + t.val, by omega⟩
def qc (g : Fin 2) (h : Fin 4) (j : Fin 128) : Fin 1024 := ⟨512 * g.val + (128 * h.val + j.val), by omega⟩
def kc (g : Fin 2) (j : Fin 128) : Fin 256 := ⟨128 * g.val + j.val, by omega⟩

section Read

variable (b : Fin 2) (t n : Fin 16384) (g : Fin 2) (h : Fin 4) (j : Fin 128)

/-- The queries, keys and values by sequence, group and head. -/
theorem v1_at : val_main_v1 (F := Ideal) q (ix5 b t g h j) = q (ix2 (tk b t) (qc g h j)) := by
  pointwise [val_main_v1, val_main_v0]
  congr 2 <;> exact Fin.ext (by simp only [tk, qc]; omega)

theorem v3_at : val_main_v3 (F := Ideal) k (ix4 b t g j) = k (ix2 (tk b t) (kc g j)) := by
  pointwise [val_main_v3, val_main_v2]
  congr 2 <;> exact Fin.ext (by simp only [tk, kc]; omega)

theorem v5_at : val_main_v5 (F := Ideal) v (ix4 b t g j) = v (ix2 (tk b t) (kc g j)) := by
  pointwise [val_main_v5, val_main_v4]
  congr 2 <;> exact Fin.ext (by simp only [tk, kc]; omega)

/-- The arguments as tables; queries and keys as real numbers. -/
def tQ : Fin 32768 → Fin 1024 → ℝ := fun r k => (q (ix2 r k)).toReal
def tK : Fin 32768 → Fin 256 → ℝ := fun r c => (k (ix2 r c)).toReal
def tV : Fin 32768 → Fin 256 → EReal := fun r c => v (ix2 r c)

variable (hq : ∀ i, q i = ((q i).toReal : EReal)) (hk : ∀ i, k i = ((k i).toReal : EReal))

include hq hk in
/-- The scaled scores. -/
theorem v14_at : val_main_v14 (F := Ideal) q k (ix5 b g h t n)
    = ((score (tQ q) (tK k) (tk b t) g h n * Real.log 2 : ℝ) : EReal) := by
  pointwise [val_main_v14, val_main_v13, val_main_v12, val_main_v11, val_main_v10, val_main_v9]
  have e : ∀ x : Fin 128, val_main_v3 (F := Ideal) k (ix4 b n g x) * (val_main_v1 (F := Ideal) q (ix5 b t g h x) * val_main_v8 (F := Ideal) ix0)
      = ((tK k (tk b n) (kc g x) * (tQ q (tk b t) (qc g h x) * (Real.sqrt 128 * Real.log 2)) : ℝ) : EReal) := fun x => by
    rw [v1_at, v3_at, v8_at, hq, hk, ← EReal.coe_mul, ← EReal.coe_mul]
    rfl
  have hs : Real.sqrt 128 ≠ 0 := Real.sqrt_ne_zero'.mpr (by norm_num)
  simp only [e]
  rw [← coe_sum, v6_at, Ideal.div_coe hs, ← EReal.coe_mul]
  congr 1
  unfold score
  rw [Finset.sum_mul, Finset.sum_mul]
  refine Finset.sum_congr rfl fun x _ => ?_
  have en : (⟨16384 * ((tk b t).val / 16384) + n.val, by have := (tk b t).isLt; omega⟩ : Fin 32768) = tk b n := Fin.ext (by
    show 16384 * ((16384 * b.val + t.val) / 16384) + n.val = 16384 * b.val + n.val
    omega)
  rw [en]
  show _ = tQ q (tk b t) (qc g h x) * tK k (tk b n) (kc g x) * Real.log 2
  field_simp

include hq hk in
/-- The largest score of a row is a real number. -/
theorem v17_at : ∃ M : ℝ, val_main_v17 (F := Ideal) q k (ix4 b g h t) = (M : EReal) := by
  obtain ⟨M, hM⟩ := max_real (n := 16384) (by norm_num) fun n => score (tQ q) (tK k) (tk b t) g h n * Real.log 2
  refine ⟨M, ?_⟩
  rw [val_main_v17_apply]
  show max (val_main_v16 (F := Ideal) (ix4 b g h t)) (val_main_v15 (F := Ideal) q k (ix4 b g h t)) = _
  have e16 : val_main_v16 (F := Ideal) (ix4 b g h t) = ⊥ := by
    rw [val_main_v16_apply, val_main_cst_2_apply]
    exact wbot
  have e15 : val_main_v15 (F := Ideal) q k (ix4 b g h t) = (M : EReal) := by
    rw [← hM]
    unfold val_main_v15
    have hy : ∀ n : Fin 16384, val_main_v14 (F := Ideal) q k (ix5 b g h t n)
        = ((score (tQ q) (tK k) (tk b t) g h n * Real.log 2 : ℝ) : EReal) := fun n => v14_at q k b t n g h hq hk
    revert hy
    generalize val_main_v14 (F := Ideal) q k = y
    intro hy
    have hr : S2x2x4x16384x16384.Reduces [4] S2x2x4x16384 := by decide
    rw [Host.reduce_eq_fold_single (α := Ideal .f32) FloatOps.maximumf y _ reducesTo_S2x2x4x16384x16384_S2x2x4x16384_d4 hr, val_main_cst_1_apply]
    show Finset.univ.fold max (Ideal.ofBits FTy.f32 0xFF800000#32) (fun n : Fin 16384 => y (hr.lift (ix4 b g h t) n)) = _
    rw [wbot]
    refine congrArg (fun f => Finset.univ.fold max ⊥ f) (funext fun n => ?_)
    refine Eq.trans (congrArg y (funext fun a => Fin.ext ?_)) (hy n)
    match a with
    | ⟨0, _⟩ => rfl
    | ⟨1, _⟩ => rfl
    | ⟨2, _⟩ => rfl
    | ⟨3, _⟩ => rfl
    | ⟨4, _⟩ => rfl
  rw [e16, e15]
  exact max_eq_right bot_le

/-- The weights. -/
theorem v25_at : val_main_v25 (F := Ideal) q k (ix5 b g h t n)
    = Ideal.div (Ideal.exp (val_main_v14 (F := Ideal) q k (ix5 b g h t n) - val_main_v17 (F := Ideal) q k (ix4 b g h t)))
      (∑ x : Fin 16384, Ideal.exp (val_main_v14 (F := Ideal) q k (ix5 b g h t x) - val_main_v17 (F := Ideal) q k (ix4 b g h t))) := by
  pointwise [val_main_v25, val_main_v24, val_main_v23, val_main_v22, val_main_v21, val_main_v20, val_main_v19, val_main_v18, val_main_cst_3]

include hq hk in
/-- The reference's result, element by element. -/
theorem v29_at : val_main_v29 (F := Ideal) q k v (ix2 (tk b t) (qc g h j)) = attn (tQ q) (tK k) (tV v) (tk b t) g h j := by
  obtain ⟨M, hM⟩ := v17_at q k b t g h hq hk
  have ev : ∀ n : Fin 16384, v (ix2 (tk b n) (kc g j)) = value (tV v) (tk b t) g j n := fun n => by
    refine congrArg (fun r => v (ix2 r (kc g j))) (Fin.ext ?_)
    show 16384 * b.val + n.val = 16384 * ((16384 * b.val + t.val) / 16384) + n.val
    have := t.isLt
    omega
  have goal := soft_shift (score (tQ q) (tK k) (tk b t) g h) (value (tV v) (tk b t) g j) M 0
  unfold attn
  rw [← goal]
  unfold soft
  generalize hr : score (tQ q) (tK k) (tk b t) g h = σ
  generalize hw : value (tV v) (tk b t) g j = w at ev ⊢
  unfold tk qc
  pointwise [val_main_v29, val_main_v28, val_main_v27, val_main_v26]
  simp only [v25_at, v14_at q k b t _ g h hq hk, hM, v5_at, ev, hr]

end Read

end Cert.AttentionRefIdeal.Val
-- ==== Proof.AttnClaim.lean ====
/-
  The attention's claim: from finite queries and keys, the kernel's result array and the reference's are equal.
-/
module

public import proofs.«01_k».proof.Proof.AttnValue
public import proofs.«01_k».proof.Proof.AttnPre
public import proofs.«01_k».proof.Proof.AttnRef

@[expose] public section

noncomputable section

open Idealize.ShloMosaic Idealize.ShloMosaic.TcCoe Idealize.SL.Sem

namespace Cert.Proof

open Cert.AttnMath Cert.AttentionRefIdeal.Val

/-- A token is a place in one of the two sequences. -/
theorem tk_split (r : Fin 32768) : r = tk ⟨r.val / 16384, by omega⟩ ⟨r.val % 16384, by omega⟩ :=
  Fin.ext (by simp only [tk]; omega)

/-- A query column belongs to one head of one group. -/
theorem qc_split (k : Fin 1024) :
    k = qc ⟨k.val / 512, by omega⟩ ⟨k.val / 128 % 4, by omega⟩ ⟨k.val % 128, by omega⟩ :=
  Fin.ext (by simp only [qc]; omega)

/-- The kernel and the reference end with equal results, from finite queries and keys. -/
theorem attention [Cert.AttentionIdeal.Facts] [Cert.AttentionRefIdeal.Facts] [Cert.Pre_finite.Facts] :
    Cert.algebraic_AttentionIdeal_AttentionRefIdeal_pre_finite := by
  intro m g m' g' hpre hagree
  have hfin := fun c => Cert.AttentionIdeal.Val.finite_reads _ _ _ (hpre c)
  have hf : ∀ c, Cert.AttentionIdeal.Val.Real2 m c := fun c => ⟨fun r k => (hfin c).1 (ix2 r k), fun r k => (hfin c).2 (ix2 r k)⟩
  refine ⟨fun c => Cert.AttentionIdeal.Val.G m c, ?_, ?_⟩
  · exact (θ_run _ _ _).mono (fun r h c => ⟨(h c).1.trans (Cert.AttentionIdeal.Val.result m c (hf c)), (h c).2⟩)
      (Cert.AttentionIdeal.Value.run_blocks m g)
  · refine (θ_run _ _ _).mono (fun r h c => ⟨?_, (h c).2⟩) (Cert.AttentionRefIdeal.Value.run m' g')
    obtain ⟨e0, e1, e2⟩ := hagree c
    refine ((h c).1.trans (Cert.AttentionRefIdeal.Read.val_main_v29_eq ..)).trans ?_
    rw [e0, e1, e2]
    funext i
    obtain ⟨r, k, rfl⟩ : ∃ (r : Fin 32768) (k : Fin 1024), i = ix2 r k := ⟨i 0, i 1, eq_ix2 i⟩
    have hv := v29_at _ _ (m ((c.tc : Thread Cert.AttentionIdeal.nD Cert.AttentionIdeal.τ).loc Cert.AttentionIdeal.main_arg2))
      ⟨r.val / 16384, by omega⟩ ⟨r.val % 16384, by omega⟩ ⟨k.val / 512, by omega⟩ ⟨k.val / 128 % 4, by omega⟩
      ⟨k.val % 128, by omega⟩ (hfin c).1 (hfin c).2
    rw [← tk_split r, ← qc_split k] at hv
    exact hv

end Cert.Proof
-- ==== Proof.FfnBlocks.lean ====
/-
  One grid point of the feed-forward kernel: what the body leaves in the result block and in the carried rows, as the
  payloads of its stores; and what each input block holds, as elements of the call's arguments.
-/
module

public import proofs.«01_k».proof.Defs
public import proofs.«01_k».proof.Proof.Gen.FfnIdeal.Value
public import Idealize.ShloMosaic.Lib.Pointwise
public import Idealize.ShloMosaic.Lib.Tactic
public import Idealize.ShloMosaic.Lib.StableHlo.ReadAt

@[expose] public section

noncomputable section

open Idealize.ShloMosaic Idealize.ShloMosaic.TcCoe Idealize.SL.Sem

namespace Cert.FfnIdeal.Val

open Cert.FfnIdeal Cert.FfnIdeal.Gen

theorem hz : (![0, 0] : Fin 2 → Nat) = fun _ => 0 := funext fun a => by fin_cases a <;> rfl

section Cases
variable (c : Dev nD) (i : grid0.Coords)
  (a2 : Memref sig .tc .vmem S512x2048 .f32) (h2 : a2.IsWhole) (a3 : Memref sig .tc .vmem S1x2048 .f32) (h3 : a3.IsWhole)
  (a4 : Memref sig .tc .vmem S2048x512 .bf16) (h4 : a4.IsWhole) (a5 : Memref sig .tc .vmem S2048x512 .bf16) (h5 : a5.IsWhole)
  (a6 : Memref sig .tc .vmem S512x2048 .bf16) (h6 : a6.IsWhole) (a7 : Memref sig .tc .vmem S512x2048 .f32) (h7 : a7.IsWhole)
  (a8 : Memref sig .tc .vmem S512x2048 .bf16) (h8 : a8.IsWhole)
  (x0 : Vec Ideal S512x2048 .f32) (x1 : Vec Ideal S1x2048 .f32) (x2 x3 : Vec Ideal S2048x512 .bf16) (x4 : Vec Ideal S512x2048 .bf16)
  (xo : Vec Ideal S512x2048 .f32) (xs : Vec Ideal S512x2048 .bf16)

/-- A later point adds its tile to what the block holds, over the carried rows. -/
theorem outB (hc : ¬cond0_0 i) :
    out0_B_5 c i a2 h2 a3 h3 a4 h4 a5 h5 a6 h6 a7 h7 a8 h8 hc x0 x1 x2 x3 x4 xo xs = k0_pay2 xs x2 x3 xo x4 := by
  unfold out0_B_5
  rw [View.read_writes_eq_canon _ _ _ (cover0_B_5 c i a2 h2 a3 h3 a4 h4 a5 h5 a6 h6 a7 h7 a8 h8 hc x0 x1 x2 x3 x4 xo xs)]
  unfold kernelRun0_B
  dsimp only
  rw [View.canon_unit_zero hz]
  simp only [View.readAt_eq_ld, h2.read_unread, h4.read_unread, h5.read_unread, h6.read_unread, h7.read_unread,
    h8.read_unread, View.ld_unit_zero (S := S512x2048) hz, View.ld_unit_zero (S := S2048x512) hz]

/-- A later point leaves the carried rows alone. -/
theorem soutB (hc : ¬cond0_0 i) :
    sout0_B_0 c i a2 h2 a3 h3 a4 h4 a5 h5 a6 h6 a7 h7 a8 h8 hc x0 x1 x2 x3 x4 xo xs = xs := by
  unfold sout0_B_0
  rfl

/-- A row block's first point stores the normalised rows. -/
theorem soutA (hc : cond0_0 i) :
    sout0_A_0 c i a2 h2 a3 h3 a4 h4 a5 h5 a6 h6 a7 h7 a8 h8 hc x0 x1 x2 x3 x4 = k0_pay1 x0 x1 := by
  unfold sout0_A_0
  rw [View.read_writes_eq_canon _ _ _ (scover0_A_0 c i a2 h2 a3 h3 a4 h4 a5 h5 a6 h6 a7 h7 a8 h8 hc x0 x1 x2 x3 x4)]
  unfold kernelRun0_A
  dsimp only
  sl_unfold_words
  rw [View.canon_unit_zero hz]
  simp only [View.readAt_eq_ld, h2.read_unread, h3.read_unread, View.ld_unit_zero (S := S512x2048) hz,
    View.ld_unit_zero (S := S1x2048) hz]

/-- A row block's first point leaves the rows plus the first tile. -/
theorem outA (hc : cond0_0 i) :
    out0_A_5 c i a2 h2 a3 h3 a4 h4 a5 h5 a6 h6 a7 h7 a8 h8 hc x0 x1 x2 x3 x4 = k0_pay2 (k0_pay1 x0 x1) x2 x3 x0 x4 := by
  unfold out0_A_5
  rw [View.read_writes_eq_canon _ _ _ (cover0_A_5 c i a2 h2 a3 h3 a4 h4 a5 h5 a6 h6 a7 h7 a8 h8 hc x0 x1 x2 x3 x4)]
  unfold kernelRun0_A
  dsimp only
  sl_unfold_words
  rw [View.canon_cons_unit_zero (S := S512x2048) hz]
  simp only [View.readCov_unit_zero (S := S512x2048) _ hz, View.readAt_eq_ld, h2.read_unread, h3.read_unread, h4.read_unread, h5.read_unread,
    h6.read_unread, View.ld_unit_zero (S := S512x2048) hz, View.ld_unit_zero (S := S2048x512) hz, View.ld_unit_zero (S := S1x2048) hz]

end Cases

variable (m : (ℓ : Loc nD τ sig) → Buf (Elt Ideal) ℓ)

/-- Where the windows stand at point `t`: row block `t / 11`, hidden tile `t % 11`. -/
theorem at_point : ∀ t : Fin cfg0.N,
    (win0_0.index t (0 : Fin 2) = t.val / 11 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = t.val % 11)
    ∧ (win0_3.index t (0 : Fin 2) = 0 ∧ win0_3.index t (1 : Fin 2) = 11 + t.val % 11)
    ∧ (win0_4.index t (0 : Fin 2) = t.val % 11 ∧ win0_4.index t (1 : Fin 2) = 0) :=
  (by decide +kernel : ∀ t : Fin grid0.N, _)

theorem lt_N (t : Fin cfg0.N) : t.val < 704 := lt_of_lt_of_eq t.isLt (show cfg0.N = 704 from N_0)

theorem V_w (c : Dev nD) (j : S2048x11264.Idx) : V m c main_v0 j = m ((c : Thread nD τ).loc main_arg2) j := by
  unfold V
  after_reads_at

theorem V_d (c : Dev nD) (j : S5632x2048.Idx) : V m c main_v1 j = m ((c : Thread nD τ).loc main_arg3) j := by
  unfold V
  after_reads_at

/-- The row block. -/
theorem iblk0 (c : Dev nD) (t : Fin cfg0.N) (r : Fin 512) (k : Fin 2048) :
    iblk m c 0 t (ix2 r k) = m ((c : Thread nD τ).loc main_arg0) (ix2 ⟨512 * (t.val / 11) + r.val, by have := lt_N t; omega⟩ k) := by
  unfold iblk
  rw [View.read_apply, ← V_main_arg0 m c]
  show V m c main_arg0 _ = _
  congr 1
  funext a
  apply Fin.ext
  obtain ⟨⟨e0, e1⟩, -⟩ := at_point t
  match a with
  | ⟨0, _⟩ => show win0_0.index t 0 * 512 + 1 * r.val = 512 * (t.val / 11) + r.val; omega
  | ⟨1, _⟩ => show win0_0.index t 1 * 2048 + 1 * k.val = k.val; omega

/-- The norm's weights. -/
theorem iblk1 (c : Dev nD) (t : Fin cfg0.N) (k : Fin 2048) :
    iblk m c 1 t (ix2 (0 : Fin 1) k) = m ((c : Thread nD τ).loc main_arg1) (ix2 0 k) := by
  unfold iblk
  rw [View.read_apply, ← V_main_arg1 m c]
  show V m c main_arg1 _ = _
  congr 1
  funext a
  apply Fin.ext
  obtain ⟨-, ⟨e0, e1⟩, -⟩ := at_point t
  match a with
  | ⟨0, _⟩ => show win0_1.index t 0 * 1 + 1 * 0 = 0; omega
  | ⟨1, _⟩ => show win0_1.index t 1 * 2048 + 1 * k.val = k.val; omega

/-- The gate columns of the tile. -/
theorem iblk2 (c : Dev nD) (t : Fin cfg0.N) (k : Fin 2048) (x : Fin 512) :
    iblk m c 2 t (ix2 k x) = m ((c : Thread nD τ).loc main_arg2) (ix2 k ⟨t.val % 11 * 512 + x.val, by omega⟩) := by
  unfold iblk
  rw [View.read_apply, ← V_w m c]
  show V m c main_v0 _ = _
  congr 1
  funext a
  apply Fin.ext
  obtain ⟨-, -, ⟨e0, e1⟩, -⟩ := at_point t
  match a with
  | ⟨0, _⟩ => show win0_2.index t 0 * 2048 + 1 * k.val = k.val; omega
  | ⟨1, _⟩ => show win0_2.index t 1 * 512 + 1 * x.val = t.val % 11 * 512 + x.val; omega

/-- The up columns of the tile. -/
theorem iblk3 (c : Dev nD) (t : Fin cfg0.N) (k : Fin 2048) (x : Fin 512) :
    iblk m c 3 t (ix2 k x) = m ((c : Thread nD τ).loc main_arg2) (ix2 k ⟨5632 + (t.val % 11 * 512 + x.val), by omega⟩) := by
  unfold iblk
  rw [View.read_apply, ← V_w m c]
  show V m c main_v0 _ = _
  congr 1
  funext a
  apply Fin.ext
  obtain ⟨-, -, -, ⟨e0, e1⟩, -⟩ := at_point t
  match a with
  | ⟨0, _⟩ => show win0_3.index t 0 * 2048 + 1 * k.val = k.val; omega
  | ⟨1, _⟩ => show win0_3.index t 1 * 512 + 1 * x.val = 5632 + (t.val % 11 * 512 + x.val); omega

/-- The tile's rows of the projection back. -/
theorem iblk4 (c : Dev nD) (t : Fin cfg0.N) (x : Fin 512) (k : Fin 2048) :
    iblk m c 4 t (ix2 x k) = m ((c : Thread nD τ).loc main_arg3) (ix2 ⟨t.val % 11 * 512 + x.val, by omega⟩ k) := by
  unfold iblk
  rw [View.read_apply, ← V_d m c]
  show V m c main_v1 _ = _
  congr 1
  funext a
  apply Fin.ext
  obtain ⟨-, -, -, -, ⟨e0, e1⟩⟩ := at_point t
  match a with
  | ⟨0, _⟩ => show win0_4.index t 0 * 512 + 1 * x.val = t.val % 11 * 512 + x.val; omega
  | ⟨1, _⟩ => show win0_4.index t 1 * 2048 + 1 * k.val = k.val; omega

end Cert.FfnIdeal.Val
-- ==== Proof.FfnMath.lean ====
/-
  The feed-forward block as mathematics over the extended reals: a token's row is normalised, projected onto gate and up
  columns, gated, and projected back onto the model's width; the result is added to the row. Beside it the same value as
  a sum over eleven tiles of 512 hidden columns, and that the two agree.
-/
module

public import Idealize.ShloMosaic.Lib.Pointwise

@[expose] public section

noncomputable section

open Idealize.ShloMosaic

namespace Cert.FfnMath

variable (X : Fin 32768 → Fin 2048 → EReal) (G : Fin 2048 → EReal)
variable (W : Fin 2048 → Fin 11264 → EReal) (D : Fin 5632 → Fin 2048 → EReal)

/-- Token `r`'s row over its root mean square, times the norm's weight, at column `k`. -/
def nrm (r : Fin 32768) (k : Fin 2048) : EReal :=
  X r k * Ideal.rsqrt (Ideal.div (∑ j, X r j * X r j) (Ideal.ofBits FTy.f32 1157627904#32)
    + Ideal.ofBits FTy.f32 897988541#32) * G k

/-- Column `c` of the gate-and-up projection of token `r`. -/
def proj (r : Fin 32768) (c : Fin 11264) : EReal := ∑ k, nrm X G r k * W k c

/-- Hidden column `c` of token `r`: the gate column through silu, times the up column. -/
def hid (r : Fin 32768) (c : Fin 5632) : EReal :=
  proj X G W r ⟨c.val, by omega⟩ * Ideal.logistic (proj X G W r ⟨c.val, by omega⟩) * proj X G W r ⟨5632 + c.val, by omega⟩

/-- The block's result for token `r` at column `k`. -/
def out (r : Fin 32768) (k : Fin 2048) : EReal := X r k + ∑ c, hid X G W r c * D c k

/-- What tile `s` of 512 hidden columns adds to token `r`'s result at column `k`. -/
def tile (r : Fin 32768) (s : ℕ) (k : Fin 2048) : EReal :=
  if h : s < 11 then ∑ x : Fin 512, hid X G W r ⟨s * 512 + x.val, by omega⟩ * D ⟨s * 512 + x.val, by omega⟩ k else 0

/-- The row plus the first `n` tiles. -/
def upTo (n : ℕ) (r : Fin 32768) (k : Fin 2048) : EReal := X r k + ∑ s ∈ Finset.range n, tile X G W D r s k

theorem upTo_zero (r : Fin 32768) (k : Fin 2048) : upTo X G W D 0 r k = X r k := by
  simp [upTo]

theorem upTo_succ (n : ℕ) (r : Fin 32768) (k : Fin 2048) :
    upTo X G W D (n + 1) r k = upTo X G W D n r k + tile X G W D r n k := by
  simp only [upTo, Finset.sum_range_succ, add_assoc]

/-- All eleven tiles make up the sum over the 5632 hidden columns. -/
theorem upTo_eleven (r : Fin 32768) (k : Fin 2048) : upTo X G W D 11 r k = out X G W D r k := by
  unfold upTo out
  rw [Fin.sum_univ_tiles 11 512 (by norm_num), Finset.sum_range]
  refine congrArg _ (Finset.sum_congr rfl fun s _ => ?_)
  unfold tile
  rw [dif_pos s.isLt]

end Cert.FfnMath
-- ==== Proof.FfnValue.lean ====
/-
  What the feed-forward kernel's result array ends holding: the block's mathematics, element by element. By induction on
  the grid point: after a row block's point number `j` the result block is the rows plus the first `j + 1` tiles, and the
  carried rows are the normalised ones.
-/
module

public import proofs.«01_k».proof.Proof.FfnBlocks
public import proofs.«01_k».proof.Proof.FfnMath

@[expose] public section

noncomputable section

open Idealize.ShloMosaic Idealize.ShloMosaic.TcCoe Idealize.SL.Sem

namespace Cert.FfnIdeal.Val

open Cert.FfnIdeal Cert.FfnIdeal.Gen Cert.FfnIdeal.Value Cert.FfnMath

variable (m : (ℓ : Loc nD τ sig) → Buf (Elt Ideal) ℓ)

/-- The arguments as tables. -/
def aX (c : Dev nD) : Fin 32768 → Fin 2048 → EReal := fun r k => m ((c : Thread nD τ).loc main_arg0) (ix2 r k)
def aG (c : Dev nD) : Fin 2048 → EReal := fun k => m ((c : Thread nD τ).loc main_arg1) (ix2 (0 : Fin 1) k)
def aW (c : Dev nD) : Fin 2048 → Fin 11264 → EReal := fun k e => m ((c : Thread nD τ).loc main_arg2) (ix2 k e)
def aD (c : Dev nD) : Fin 5632 → Fin 2048 → EReal := fun e k => m ((c : Thread nD τ).loc main_arg3) (ix2 e k)

/-- Row `r` of the row block of point `t`, as a token. -/
def tok (t : Fin cfg0.N) (r : Fin 512) : Fin 32768 := ⟨512 * (t.val / 11) + r.val, by have := lt_N t; omega⟩

/-- The stored rows are the normalised ones. -/
theorem pay1_at (c : Dev nD) (t : Fin cfg0.N) (r : Fin 512) (k : Fin 2048) :
    k0_pay1 (iblk m c 0 t) (iblk m c 1 t) (ix2 r k) = nrm (aX m c) (aG m c) (tok t r) k := by
  pointwise [k0_pay1]
  simp only [iblk0 m c t, iblk1 m c t]
  rfl

/-- Over the normalised rows, a point's step adds its tile. -/
theorem pay2_at (c : Dev nD) (t : Fin cfg0.N) (h : Vec Ideal S512x2048 .bf16) (o : Vec Ideal S512x2048 .f32)
    (hh : ∀ r k, h (ix2 r k) = nrm (aX m c) (aG m c) (tok t r) k) (r : Fin 512) (k : Fin 2048) :
    k0_pay2 h (iblk m c 2 t) (iblk m c 3 t) o (iblk m c 4 t) (ix2 r k)
      = o (ix2 r k) + tile (aX m c) (aG m c) (aW m c) (aD m c) (tok t r) (t.val % 11) k := by
  pointwise [k0_pay2]
  simp only [iblk2 m c t, iblk3 m c t, iblk4 m c t, hh]
  unfold tile
  rw [dif_pos (Nat.mod_lt _ (by norm_num))]
  rfl

/-- What is claimed of the contents `p` (the block, the carried rows) after point `t`. -/
def Good (c : Dev nD) (t : Fin cfg0.N) (p : Vec Ideal S512x2048 .f32 × Vec Ideal S512x2048 .bf16) : Prop :=
  (∀ r k, p.2 (ix2 r k) = nrm (aX m c) (aG m c) (tok t r) k)
  ∧ (∀ r k, p.1 (ix2 r k) = upTo (aX m c) (aG m c) (aW m c) (aD m c) (t.val % 11 + 1) (tok t r) k)

/-- A row block's first point establishes it. -/
theorem first (c : Dev nD) (t : Fin cfg0.N) (h0 : t.val % 11 = 0) : Good m c t (outsAt0 m c t.val t.isLt) := by
  rw [outsAt0_A m c t h0, outA, soutA]
  refine ⟨pay1_at m c t, fun r k => ?_⟩
  refine (pay2_at m c t _ _ (pay1_at m c t) r k).trans ?_
  rw [h0, upTo_succ, upTo_zero, iblk0]
  rfl

/-- A later point keeps it. -/
theorem later (c : Dev nD) (t s : Fin cfg0.N) (hs : s.val = t.val - 1) (h0 : ¬t.val % 11 = 0)
    (ih : Good m c s (outsAt0 m c s.val s.isLt)) : Good m c t (outsAt0 m c t.val t.isLt) := by
  obtain ⟨s, hsN⟩ := s
  obtain rfl : s = t.val - 1 := hs
  rw [outsAt0_B m c t h0, outB, soutB]
  revert ih
  generalize outsAt0 m c (t.val - 1) _ = p
  intro ih
  have ht : ∀ r, tok ⟨t.val - 1, hsN⟩ r = tok t r := fun r => Fin.ext (by
    show 512 * ((t.val - 1) / 11) + r.val = 512 * (t.val / 11) + r.val; omega)
  have hs : t.val % 11 = (t.val - 1) % 11 + 1 := by omega
  have hh : ∀ r k, p.2 (ix2 r k) = nrm (aX m c) (aG m c) (tok t r) k := fun r k => by rw [ih.1, ht]
  refine ⟨hh, fun r k => ?_⟩
  refine (pay2_at m c t _ _ hh r k).trans ?_
  rw [upTo_succ, ih.2, ht, ← hs]

/-- It holds after every point. -/
theorem after (c : Dev nD) : ∀ (n : ℕ) (hn : n < cfg0.N), Good m c ⟨n, hn⟩ (outsAt0 m c n hn)
  | 0, hn => first m c ⟨0, hn⟩ (Nat.zero_mod _)
  | n + 1, hn => by
    by_cases h0 : (n + 1) % 11 = 0
    · exact first m c ⟨n + 1, hn⟩ h0
    · exact later m c ⟨n + 1, hn⟩ ⟨n, Nat.lt_of_succ_lt hn⟩ rfl h0 (after c n _)

/-- The result array, element by element. -/
theorem result (c : Dev nD) (r : Fin 32768) (k : Fin 2048) :
    G5 m c (ix2 r k) = out (aX m c) (aG m c) (aW m c) (aD m c) r k := by
  have hp : pt5Of (ix2 r k) < cfg0.N := by
    rw [show cfg0.N = 704 from N_0]
    show 11 * (1 * (r.val / 512 - 0) + 1 * (k.val / 2048 - 0)) + 10 < 704
    omega
  unfold G5
  rw [dif_pos hp, ← outsAt0_sweep m c _ hp]
  have hl : loc5Of (ix2 r k) = ix2 (⟨r.val % 512, by omega⟩ : Fin 512) k := by
    funext a
    apply Fin.ext
    match a with
    | ⟨0, _⟩ => rfl
    | ⟨1, _⟩ => show k.val % 2048 = k.val; omega
  rw [hl, (after m c _ hp).2]
  have h11 : pt5Of (ix2 r k) % 11 + 1 = 11 := by
    show (11 * (1 * (r.val / 512 - 0) + 1 * (k.val / 2048 - 0)) + 10) % 11 + 1 = 11
    omega
  have ht : tok ⟨_, hp⟩ (⟨r.val % 512, by omega⟩ : Fin 512) = r := Fin.ext (by
    show 512 * ((11 * (1 * (r.val / 512 - 0) + 1 * (k.val / 2048 - 0)) + 10) / 11) + r.val % 512 = r.val
    omega)
  rw [h11, ht, upTo_eleven]

end Cert.FfnIdeal.Val
-- ==== Proof.FfnClaim.lean ====
/-
  The feed-forward block's claim: what the reference computes is the same mathematics, so the two results are equal.
-/
module

public import proofs.«01_k».proof.Proof.FfnValue
public import proofs.«01_k».proof.Proof.Gen.FfnRefIdeal.Run
public import proofs.«01_k».proof.Proof.Gen.FfnRefIdeal.Read

@[expose] public section

noncomputable section

open Idealize.ShloMosaic Idealize.ShloMosaic.TcCoe Idealize.SL.Sem

namespace Cert.FfnRefIdeal.Val

open Cert.FfnRefIdeal Cert.FfnRefIdeal.Read Cert.FfnMath

variable (x : FVec Ideal S32768x2048 .f32) (g : FVec Ideal S1x2048 .f32) (w : FVec Ideal S2048x11264 .f32) (d : FVec Ideal S5632x2048 .f32)

/-- The reference's normalised rows. -/
theorem nrm_at (r : Fin 32768) (k : Fin 2048) :
    val_main_v11 (F := Ideal) x g (ix2 r k) = nrm (fun r k => x (ix2 r k)) (fun k => g (ix2 0 k)) r k := by
  pointwise [val_main_v11, val_main_v10, val_main_v9, val_main_v8, val_main_v7, val_main_v6, val_main_v5, val_main_v4,
    val_main_v3, val_main_v2, val_main_v1, val_main_v0, val_main_cst, val_main_cst_0, val_main_cst_1]
  rfl

/-- The reference's projection onto the hidden columns. -/
theorem proj_at (r : Fin 32768) (e : Fin 11264) :
    val_main_v12 (F := Ideal) x g w (ix2 r e) = proj (fun r k => x (ix2 r k)) (fun k => g (ix2 0 k)) (fun k e => w (ix2 k e)) r e := by
  pointwise [val_main_v12]
  simp only [nrm_at]
  rfl

theorem gate_at (r : Fin 32768) (e : Fin 5632) :
    val_main_v13 (F := Ideal) x g w (ix2 r e)
      = proj (fun r k => x (ix2 r k)) (fun k => g (ix2 0 k)) (fun k e => w (ix2 k e)) r ⟨e.val, by omega⟩ := by
  pointwise [val_main_v13]
  rw [proj_at]

theorem up_at (r : Fin 32768) (e : Fin 5632) :
    val_main_v14 (F := Ideal) x g w (ix2 r e)
      = proj (fun r k => x (ix2 r k)) (fun k => g (ix2 0 k)) (fun k e => w (ix2 k e)) r ⟨5632 + e.val, by omega⟩ := by
  pointwise [val_main_v14]
  rw [proj_at]

/-- One over one plus the exponential of the negated gate is the gate's logistic. -/
theorem sigmoid_at (r : Fin 32768) (e : Fin 5632) :
    val_main_call0_v5 (F := Ideal) x g w (ix2 r e)
      = Ideal.logistic (proj (fun r k => x (ix2 r k)) (fun k => g (ix2 0 k)) (fun k e => w (ix2 k e)) r ⟨e.val, by omega⟩) := by
  pointwise [val_main_call0_v5, val_main_call0_v4, val_main_call0_v3, val_main_call0_v2, val_main_call0_v1,
    val_main_call0_v0, val_main_call0_cst, val_main_call0_cst_0]
  simp only [gate_at]
  rfl

/-- The reference's result, element by element. -/
theorem result (r : Fin 32768) (k : Fin 2048) :
    val_main_v18 (F := Ideal) x g w d (ix2 r k)
      = out (fun r k => x (ix2 r k)) (fun k => g (ix2 0 k)) (fun k e => w (ix2 k e)) (fun e k => d (ix2 e k)) r k := by
  pointwise [val_main_v18, val_main_v17, val_main_v16, val_main_v15]
  simp only [gate_at, up_at, sigmoid_at]
  rfl

end Cert.FfnRefIdeal.Val

namespace Cert.Proof

/-- The kernel and the reference end with equal results. -/
theorem ffn [Cert.FfnIdeal.Facts] [Cert.FfnRefIdeal.Facts] : Cert.algebraic_FfnIdeal_FfnRefIdeal := by
  intro m g m' g' _ hagree
  refine ⟨fun c => Cert.FfnIdeal.Value.G5 m c, Cert.FfnIdeal.Value.run m g, ?_⟩
  refine (θ_run _ _ _).mono (fun r h c => ⟨?_, (h c).2⟩) (Cert.FfnRefIdeal.Value.run m' g')
  obtain ⟨e0, e1, e2, e3⟩ := hagree c
  refine ((h c).1.trans (Cert.FfnRefIdeal.Read.val_main_v18_eq ..)).trans ?_
  rw [e0, e1, e2, e3]
  funext i
  rw [eq_ix2 i]
  exact (Cert.FfnRefIdeal.Val.result _ _ _ _ _ _).trans (Cert.FfnIdeal.Val.result m c _ _).symm

end Cert.Proof
-- ==== Proof.ProjMath.lean ====
/-
  The mathematics that the projections share: a row over its root mean square, and a projection of it onto a column.
-/
module

public import Idealize.ShloMosaic.Lib.Pointwise
public import Idealize.ShloMosaic.Lib.StableHlo.ReadAt
public import Idealize.ShloMosaic.Lib.Pipeline.FrameBody

@[expose] public section

noncomputable section

open Idealize.ShloMosaic

namespace Cert.ProjMath

/-- Entry `k` of the row `z` over its root mean square, times the weight; `N` is the literal of the row's length. -/
def rms {n : ℕ} (N : BitVec 32) (z g : Fin n → EReal) (k : Fin n) : EReal :=
  z k * Ideal.rsqrt (Ideal.div (∑ j, z j * z j) (Ideal.ofBits FTy.f32 N) + Ideal.ofBits FTy.f32 897988541#32) * g k

/-- Row `r` of `X`, normalised, against column `c` of `W`. -/
def zed {R C : ℕ} (X : Fin R → Fin 2048 → EReal) (G : Fin 2048 → EReal) (W : Fin 2048 → Fin C → EReal) (r : Fin R) (c : Fin C) : EReal :=
  ∑ k, rms 1157627904#32 (X r) G k * W k c

/-- An element of an array is that of its two coordinates. -/
theorem pair {M N : ℕ} {α : Type} (A : (Shape.mk 2 ![M, N]).Idx → α) (i : (Shape.mk 2 ![M, N]).Idx) (r : Fin M) (k : Fin N)
    (h0 : (i 0).val = r.val) (h1 : (i 1).val = k.val) : A i = A (ix2 r k) :=
  congrArg A (funext fun a => Fin.ext (match a with | ⟨0, _⟩ => h0 | ⟨1, _⟩ => h1))

/-- Column `c` of head `c / 128`: a table of heads, read column by column. -/
def byHead {H N : ℕ} (hN : N = 128 * H) (f : Fin H → Fin 128 → EReal) (c : Fin N) : EReal :=
  f ⟨c.val / 128, by omega⟩ ⟨c.val % 128, by omega⟩

theorem byHead_at {H N : ℕ} (hN : N = 128 * H) (f : Fin H → Fin 128 → EReal) (c : Fin N) (h : Fin H) (d : Fin 128)
    (hc : c.val = 128 * h.val + d.val) : byHead hN f c = f h d := by
  obtain ⟨c, hl⟩ := c
  obtain ⟨h, hh⟩ := h
  obtain ⟨d, hd⟩ := d
  obtain rfl : c = 128 * h + d := hc
  have e0 : (128 * h + d) / 128 = h := by omega
  have e1 : (128 * h + d) % 128 = d := by omega
  unfold byHead
  simp only [e0, e1]

end Cert.ProjMath
-- ==== Proof.InprojMath.lean ====
/-
  The mathematics of the input projection's branches: the exact gelu, the spatial gate, the axial turn of a head, and the
  attention over the memory tokens in its two forms (to base two with the division last, and the plain softmax).
-/
module

public import proofs.«01_k».proof.Proof.ProjMath
public import proofs.«01_k».proof.Proof.AttnMath

@[expose] public section

noncomputable section

open Idealize.ShloMosaic

namespace Cert.InprojMath

open Cert.ProjMath
open Cert.AttnMath (mul_sum coe_sum max_real)

/-- The exact gelu, by the error function. -/
def gelu (z : EReal) : EReal :=
  Ideal.ofBits FTy.f32 0x3F000000#32 * z * (1 + Ideal.erf (z * Ideal.ofBits FTy.f32 0x3F3504F3#32))

/-- The exact gelu, by the complementary error function. -/
theorem gelu_erfc (z : EReal) :
    Ideal.ofBits FTy.f32 0x3F000000#32 * z * Ideal.erfc (-z * Ideal.ofBits FTy.f32 0x3F3504F3#32) = gelu z := by
  unfold gelu
  rw [neg_mul, Ideal.erfc_neg]

/-- One gated element: the row's own half times the mixed normalised halves of its chunk, with the row's bias. -/
def gated (u : EReal) (w v : Fin 128 → EReal) (b : EReal) : EReal := u * ((∑ j, w j * v j) + b)

/-- The lane 32 above, and 32 below, around the end. -/
def up (d : Fin 128) : Fin 128 := ⟨(d.val + 32) % 128, Nat.mod_lt _ (by norm_num)⟩
def down (d : Fin 128) : Fin 128 := ⟨(d.val + 96) % 128, Nat.mod_lt _ (by norm_num)⟩

/-- A head turned: each lane with its partner, by tables of cosines and signed sines. -/
def turned (n cs sn : Fin 128 → EReal) (d : Fin 128) : EReal :=
  n d * cs d + (if d.val % 64 < 32 then n (up d) else n (down d)) * sn d

/-- Four tables of 32 lanes side by side. -/
def four (a b c e : Fin 32 → EReal) (d : Fin 128) : EReal :=
  if h : d.val < 32 then a ⟨d.val, h⟩
  else if h : d.val - 32 < 32 then b ⟨d.val - 32, h⟩
  else if h : d.val - 32 - 32 < 32 then c ⟨d.val - 32 - 32, h⟩
  else e ⟨d.val - 32 - 32 - 32, by omega⟩

/-- A head turned by quarters: each half by its own axis's cosines and sines. -/
def rotated (n : Fin 128 → EReal) (a b c e : Fin 32 → EReal) (d : Fin 128) : EReal :=
  if h : d.val < 64 then
    if h' : d.val < 32 then n d * a ⟨d.val, h'⟩ - n ⟨32 + d.val, by omega⟩ * b ⟨d.val, h'⟩
    else n ⟨32 + (d.val - 32), by omega⟩ * a ⟨d.val - 32, by omega⟩ + n ⟨d.val - 32, by omega⟩ * b ⟨d.val - 32, by omega⟩
  else
    if h' : d.val - 64 < 32 then
      n ⟨64 + (d.val - 64), by omega⟩ * c ⟨d.val - 64, h'⟩ - n ⟨64 + (32 + (d.val - 64)), by omega⟩ * e ⟨d.val - 64, h'⟩
    else n ⟨64 + (32 + (d.val - 64 - 32)), by omega⟩ * c ⟨d.val - 64 - 32, by omega⟩
      + n ⟨64 + (d.val - 64 - 32), by omega⟩ * e ⟨d.val - 64 - 32, by omega⟩

/-- The two ways to turn agree. -/
theorem rotated_eq (n : Fin 128 → EReal) (a b c e : Fin 32 → EReal) (d : Fin 128) :
    rotated n a b c e d = turned n (four a a c c) (four (fun k => -b k) b (fun k => -e k) e) d := by
  have hd := d.isLt
  have sub : ∀ x y z w : EReal, x * y - z * w = x * y + z * -w := fun x y z w => by rw [sub_eq_add_neg, mul_neg]
  unfold rotated turned four up down
  by_cases h1 : d.val < 32
  · rw [dif_pos (by omega : d.val < 64), dif_pos h1, dif_pos h1, dif_pos h1, if_pos (by omega : d.val % 64 < 32), sub]
    congr 3
    exact Fin.ext (by show 32 + d.val = (d.val + 32) % 128; omega)
  by_cases h2 : d.val < 64
  · rw [dif_pos h2, dif_neg h1, dif_neg h1, dif_neg h1, dif_pos (by omega : d.val - 32 < 32), dif_pos (by omega : d.val - 32 < 32),
      if_neg (by omega : ¬d.val % 64 < 32)]
    congr 3
    · exact Fin.ext (by show 32 + (d.val - 32) = d.val; omega)
    · exact Fin.ext (by show d.val - 32 = (d.val + 96) % 128; omega)
  by_cases h3 : d.val < 96
  · rw [dif_neg h2, dif_pos (by omega : d.val - 64 < 32), dif_neg h1, dif_neg h1, dif_neg (by omega : ¬d.val - 32 < 32),
      dif_neg (by omega : ¬d.val - 32 < 32), dif_pos (by omega : d.val - 32 - 32 < 32), dif_pos (by omega : d.val - 32 - 32 < 32),
      if_pos (by omega : d.val % 64 < 32), sub]
    congr 3
    · exact Fin.ext (by show 64 + (d.val - 64) = d.val; omega)
    · exact Fin.ext (by show 64 + (32 + (d.val - 64)) = (d.val + 32) % 128; omega)
  · rw [dif_neg h2, dif_neg (by omega : ¬d.val - 64 < 32), dif_neg h1, dif_neg h1, dif_neg (by omega : ¬d.val - 32 < 32),
      dif_neg (by omega : ¬d.val - 32 < 32), dif_neg (by omega : ¬d.val - 32 - 32 < 32), dif_neg (by omega : ¬d.val - 32 - 32 < 32),
      if_neg (by omega : ¬d.val % 64 < 32)]
    congr 3
    · exact Fin.ext (by show 64 + (32 + (d.val - 64 - 32)) = d.val; omega)
    · exact Fin.ext (by show 64 + (d.val - 64 - 32) = (d.val + 96) % 128; omega)

/-- Attention over `N` memory tokens to base two, scores `s`, the division last. -/
def attend {N : ℕ} (s v : Fin N → EReal) : EReal :=
  Ideal.div (∑ n, Ideal.exp2 (s n - Finset.univ.fold max ⊥ s) * v n) (∑ n, Ideal.exp2 (s n - Finset.univ.fold max ⊥ s))

/-- The plain softmax-weighted sum, scores `t`, shifted by their maximum. -/
def softened {N : ℕ} (t v : Fin N → EReal) : EReal :=
  ∑ n, v n * Ideal.div (Ideal.exp (t n - Finset.univ.fold max ⊥ t)) (∑ k, Ideal.exp (t k - Finset.univ.fold max ⊥ t))

/-- Of real scores the two are one, when the first's are the second's over `log 2`. -/
theorem attend_eq {N : ℕ} (hN : 0 < N) (s t v : Fin N → EReal) (σ : Fin N → ℝ) (hs : ∀ n, s n = (σ n : EReal))
    (ht : ∀ n, t n = ((σ n * Real.log 2 : ℝ) : EReal)) : attend s v = softened t v := by
  obtain rfl : s = fun n => (σ n : EReal) := funext hs
  obtain rfl : t = fun n => ((σ n * Real.log 2 : ℝ) : EReal) := funext ht
  obtain ⟨M, hM⟩ := max_real hN σ
  obtain ⟨M', hM'⟩ := max_real hN fun n => σ n * Real.log 2
  have hp : ∀ n, 0 < Real.rpow 2 (σ n - M) := fun n => Real.rpow_pos_of_pos (by norm_num) _
  have hpos : 0 < ∑ n, Real.rpow 2 (σ n - M) := Finset.sum_pos (fun n _ => hp n) ⟨⟨0, hN⟩, Finset.mem_univ _⟩
  have he : ∀ n, Real.exp (σ n * Real.log 2 - M') = Real.exp (M * Real.log 2 - M') * Real.rpow 2 (σ n - M) := fun n => by
    show _ = _ * (2 : ℝ) ^ (σ n - M)
    rw [Real.rpow_def_of_pos (by norm_num), ← Real.exp_add]
    congr 1
    ring
  have hc := Real.exp_pos (M * Real.log 2 - M')
  unfold attend softened
  simp only [hM, hM', ← EReal.coe_sub, Ideal.exp2_coe, Ideal.exp_coe, he, ← coe_sum]
  rw [Ideal.div_coe hpos.ne', mul_comm, mul_sum _ _ _ (one_div_nonneg.mpr hpos.le)]
  refine Finset.sum_congr rfl fun n _ => ?_
  rw [← Finset.mul_sum, Ideal.div_coe (mul_pos hc hpos).ne', ← EReal.coe_mul, mul_comm (v n), ← mul_assoc, ← EReal.coe_mul]
  congr 2
  field_simp

/-! ## What is real -/

def IsReal (x : EReal) : Prop := ∃ r : ℝ, x = (r : EReal)

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem eps_word : ∃ e : ℝ, 0 < e ∧ Ideal.ofBits FTy.f32 897988541#32 = (e : EReal) := by
  refine ⟨8796093 * (2 ^ 43)⁻¹, by norm_num, ?_⟩
  simp [Ideal.ofBits, Ideal.ieee, -EReal.coe_mul]

theorem sq_nonneg (x : EReal) : 0 ≤ x * x := by
  induction x using EReal.rec with
  | bot => simp
  | coe r => rw [← EReal.coe_mul]; exact EReal.coe_nonneg.mpr (mul_self_nonneg r)
  | top => simp

/-- A row over its root mean square is real under real weights: with an infinite entry its mean square is infinite, and every
    entry becomes 0. -/
theorem rms_real {n : ℕ} (N : BitVec 32) (c : ℝ) (hc : 0 < c) (hN : Ideal.ofBits FTy.f32 N = (c : EReal)) (z g : Fin n → EReal)
    (hg : ∀ k, IsReal (g k)) (k : Fin n) : IsReal (rms N z g k) := by
  refine IsReal.mul ?_ (hg k)
  obtain ⟨e, he, hw⟩ := eps_word
  by_cases hz : ∀ j, IsReal (z j)
  · refine (hz k).mul ?_
    choose a ha using hz
    have hs : 0 ≤ ∑ j, a j * a j := Finset.sum_nonneg fun j _ => mul_self_nonneg _
    have hp : 0 < (∑ j, a j * a j) * (1 / c) + e := by positivity
    simp only [ha, ← EReal.coe_mul, ← coe_sum, hN, hw]
    rw [Ideal.div_coe hc.ne', ← EReal.coe_mul, ← EReal.coe_add, Ideal.rsqrt_coe, if_neg (not_lt.mpr hp.le), if_neg hp.ne']
    exact ⟨_, rfl⟩
  · obtain ⟨j, hj⟩ := not_forall.mp hz
    have ht : z j * z j = ⊤ := by
      revert hj
      induction z j using EReal.rec with
      | bot => simp
      | coe r => exact fun h => absurd ⟨r, rfl⟩ h
      | top => simp
    have hs : ∑ i, z i * z i = ⊤ := top_le_iff.mp (ht ▸ Finset.single_le_sum (f := fun i => z i * z i) (fun i _ => sq_nonneg _) (Finset.mem_univ j))
    rw [hs, hN, hw, Ideal.div_coe hc.ne', EReal.top_mul_coe_of_pos (by positivity), EReal.top_add_coe, Ideal.rsqrt_top, mul_zero]
    exact ⟨0, rfl⟩

theorem word128 : Ideal.ofBits FTy.f32 1124073472#32 = ((128 : ℝ) : EReal) := by
  simp [Ideal.ofBits, Ideal.ieee, -EReal.coe_mul]; norm_num [← EReal.coe_mul]

/-- The scale of a query, `1 / (√128 · log 2)`. -/
def scale : ℝ := (Real.sqrt 128)⁻¹ * (Real.log 2)⁻¹

theorem root_ne : Real.sqrt 128 ≠ 0 := Real.sqrt_ne_zero'.mpr (by norm_num)
theorem log_ne : Real.log 2 ≠ 0 := (Real.log_pos (by norm_num)).ne'

/-- Dividing by `√128 · log 2` is scaling. -/
theorem div_scale (x : EReal) : Ideal.div x ((Real.sqrt 128 * Real.log 2 : ℝ) : EReal) = x * (scale : EReal) := by
  rw [Ideal.div_coe (mul_ne_zero root_ne log_ne), scale, one_div, mul_inv]

/-- The memory attention's two forms agree on real queries and keys: the query scaled beforehand, or the score divided. -/
theorem mem_eq {N : ℕ} (hN : 0 < N) (q : Fin 128 → EReal) (k : Fin N → Fin 128 → EReal) (v : Fin N → EReal) (hq : ∀ d, IsReal (q d))
    (hk : ∀ n d, IsReal (k n d)) :
    attend (fun n => ∑ d, q d * (scale : EReal) * k n d) v
      = softened (fun n => Ideal.div (∑ d, q d * k n d) ((Real.sqrt 128 : ℝ) : EReal)) v := by
  choose a ha using hq
  choose b hb using hk
  refine attend_eq hN _ _ v (fun n => ∑ d, a d * scale * b n d) (fun n => ?_) (fun n => ?_)
  · simp only [ha, hb, ← EReal.coe_mul, ← coe_sum]
  · simp only [ha, hb, ← EReal.coe_mul, ← coe_sum]
    rw [Ideal.div_coe root_ne, ← EReal.coe_mul]
    congr 1
    rw [Finset.sum_mul, Finset.sum_mul]
    refine Finset.sum_congr rfl fun d _ => ?_
    have h0 := root_ne
    have h1 := log_ne
    unfold scale
    field_simp

/-! ## The five results of a token, from its row of the projection -/

/-- The queries: eight heads, normalised, turned, scaled. -/
def qrow (z : Fin 3072 → EReal) (g cs sn : Fin 128 → EReal) (c : Fin 1024) : EReal :=
  byHead (H := 8) rfl (fun h d => turned (rms 1124073472#32 (fun d => z ⟨1024 + (128 * h.val + d.val), by omega⟩) g) cs sn d * (scale : EReal)) c

/-- The keys: two heads, normalised, turned. -/
def krow (z : Fin 3072 → EReal) (g cs sn : Fin 128 → EReal) (c : Fin 256) : EReal :=
  byHead (H := 2) rfl (fun h d => turned (rms 1124073472#32 (fun d => z ⟨2048 + (128 * h.val + d.val), by omega⟩) g) cs sn d) c

/-- The values. -/
def vrow (z : Fin 3072 → EReal) (c : Fin 256) : EReal := z ⟨2304 + c.val, by omega⟩

/-- The memory attention: four heads, over the sequence's 256 memory keys and values. -/
def mrow (z : Fin 3072 → EReal) (g : Fin 128 → EReal) (K V : Fin 256 → Fin 512 → EReal) (c : Fin 512) : EReal :=
  byHead (H := 4) rfl (fun h d => attend
    (fun n => ∑ j, rms 1124073472#32 (fun d => z ⟨2560 + (128 * h.val + d.val), by omega⟩) g j * (scale : EReal) * K n ⟨128 * h.val + j.val, by omega⟩)
    (fun n => V n ⟨128 * h.val + d.val, by omega⟩)) c

/-- The spatial gate of row `p` of a chunk of 128 rows `z`: four groups. -/
def srow (z : Fin 128 → Fin 3072 → EReal) (p : Fin 128) (g : Fin 128 → EReal) (w : Fin 4 → Fin 128 → Fin 128 → EReal)
    (b : Fin 128 → Fin 512 → EReal) (c : Fin 512) : EReal :=
  byHead (H := 4) rfl (fun h d => gated (gelu (z p ⟨128 * h.val + d.val, by omega⟩)) (w h p)
    (fun j => rms 1124073472#32 (fun d => gelu (z j ⟨512 + (128 * h.val + d.val), by omega⟩)) g d) (b p ⟨128 * h.val + d.val, by omega⟩)) c

/-! ## The five results, over the whole array of tokens -/

/-- A token's position in its sequence, the memory token `n` of its sequence, and token `p` of its chunk of 128. -/
def pos (r : Fin 32768) : Fin 16384 := ⟨r.val % 16384, Nat.mod_lt _ (by norm_num)⟩
def mem (r : Fin 32768) (n : Fin 256) : Fin 512 := ⟨256 * (r.val / 16384) + n.val, by omega⟩
def chunk (r : Fin 32768) (p : Fin 128) : Fin 32768 := ⟨128 * (r.val / 128) + p.val, by omega⟩

variable (z : Fin 32768 → Fin 3072 → EReal)

def sOut (g : Fin 128 → EReal) (w : Fin 4 → Fin 128 → Fin 128 → EReal) (b : Fin 128 → Fin 512 → EReal) (r : Fin 32768) (c : Fin 512) : EReal :=
  srow (fun p => z (chunk r p)) ⟨r.val % 128, Nat.mod_lt _ (by norm_num)⟩ g w b c

def qOut (g : Fin 128 → EReal) (cs sn : Fin 16384 → Fin 128 → EReal) (r : Fin 32768) (c : Fin 1024) : EReal :=
  qrow (z r) g (cs (pos r)) (sn (pos r)) c

def kOut (g : Fin 128 → EReal) (cs sn : Fin 16384 → Fin 128 → EReal) (r : Fin 32768) (c : Fin 256) : EReal :=
  krow (z r) g (cs (pos r)) (sn (pos r)) c

def mOut (g : Fin 128 → EReal) (K V : Fin 512 → Fin 512 → EReal) (r : Fin 32768) (c : Fin 512) : EReal :=
  mrow (z r) g (fun n => K (mem r n)) (fun n => V (mem r n)) c

/-- The tables of cosines and of signed sines, of the two axes' tables. -/
def cosT (cr cc : Fin 16384 → Fin 32 → EReal) (r : Fin 16384) : Fin 128 → EReal := four (cr r) (cr r) (cc r) (cc r)
def sinT (sr sc : Fin 16384 → Fin 32 → EReal) (r : Fin 16384) : Fin 128 → EReal :=
  four (fun e => -sr r e) (sr r) (fun e => -sc r e) (sc r)

/-- The projection's first 3072 columns. -/
def proj (X : Fin 32768 → Fin 2048 → EReal) (G : Fin 2048 → EReal) (W : Fin 2048 → Fin 9216 → EReal) (r : Fin 32768) (e : Fin 3072) : EReal :=
  zed X G W r ⟨e.val, by omega⟩

end Cert.InprojMath
-- ==== Proof.InprojBlocks.lean ====
/-
  What the input projection's body leaves in its five result blocks, element by element, from its input blocks.
-/
module

public import proofs.«01_k».proof.Defs
public import proofs.«01_k».proof.Proof.InprojMath
public import proofs.«01_k».proof.Proof.Gen.InprojIdeal.Value
public import Idealize.ShloMosaic.Lib.Pointwise
public import Idealize.ShloMosaic.Lib.Tactic
public import Idealize.ShloMosaic.Lib.StableHlo.ReadAt

@[expose] public section

noncomputable section

open Idealize.ShloMosaic Idealize.ShloMosaic.TcCoe Idealize.SL.Sem

namespace Cert.InprojIdeal.Val

open Cert.InprojIdeal Cert.InprojIdeal.Gen Cert.InprojIdeal.Value Cert.ProjMath Cert.InprojMath

theorem hz : (![0, 0] : Fin 2 → Nat) = fun _ => 0 := funext fun a => by fin_cases a <;> rfl

/-- The named constant is the queries' scale. -/
theorem scale_named : Named.named (F := Ideal) κ "q_scale" (φ := .f32) 0x3E0293EE#32 = (scale : EReal) :=
  IdealRules.named_const.ideal_named_scalar _ _ _ _ rfl

/-! ## The body's operations on blocks -/

/-- A head's columns over their root mean square, times the weights. -/
def headv (z : FVec Ideal S512x128 .f32) (g : FVec Ideal S1x128 .f32) : FVec Ideal S512x128 .f32 :=
  mulf (mulf z (broadcastTo S512x128 (rsqrt (addf (divf (shapeCast S512x1 (multiReduction .add [1] S512 (mulf z z) 0x00000000#32
    reduces_S512x128_S512 (.inl rfl) rfl) shapeCasts_S512_S512x1) (broadcast S512x1 (Scalar.ofBits .f32 0x43000000#32)))
    (broadcast S512x1 (Scalar.ofBits .f32 0x358637BD#32)))) broadcasts_S512x1_S512x128)) (broadcastTo S512x128 g broadcasts_S1x128_S512x128)

theorem headv_at (z : FVec Ideal S512x128 .f32) (g : FVec Ideal S1x128 .f32) (r : Fin 512) (d : Fin 128) :
    headv z g (ix2 r d) = rms 1124073472#32 (fun d => z (ix2 r d)) (fun d => g (ix2 0 d)) d := by
  pointwise [headv]
  rfl

/-- A head turned by the tables. -/
def turn (n cs sn : FVec Ideal S512x128 .f32) : FVec Ideal S512x128 .f32 :=
  addf (mulf n (shapeCast S512x128 cs shapeCasts_S512x128_S512x128))
    (mulf (select k0_pay40 (dynamicRotate 1 96#32 none n rotates_S512x128_d1) (dynamicRotate 1 32#32 none n rotates_S512x128_d1))
      (shapeCast S512x128 sn shapeCasts_S512x128_S512x128))

theorem lane_bit : ∀ d : Fin 128, IntOp.cmpi .eq (IntOp.andi (BitVec.ofNat 32 d.val) 32#32) 0#32 = if d.val % 64 < 32 then 1#1 else 0#1 := by
  decide +kernel

theorem bit_at (r : Fin 512) (d : Fin 128) : k0_pay40 (ix2 r d) = if d.val % 64 < 32 then 1#1 else 0#1 := by
  rw [← lane_bit]
  pointwise [k0_pay40]

theorem up_at (n : FVec Ideal S512x128 .f32) (r : Fin 512) (d : Fin 128) :
    dynamicRotate 1 96#32 none n rotates_S512x128_d1 (ix2 r d) = n (ix2 r (up d)) :=
  congrArg n (funext fun b => Fin.ext (match b with
    | ⟨0, _⟩ => rfl
    | ⟨1, _⟩ => by show (d.val + 128 - 96 % 128) % 128 = (d.val + 32) % 128; omega))

theorem down_at (n : FVec Ideal S512x128 .f32) (r : Fin 512) (d : Fin 128) :
    dynamicRotate 1 32#32 none n rotates_S512x128_d1 (ix2 r d) = n (ix2 r (down d)) :=
  congrArg n (funext fun b => Fin.ext (match b with
    | ⟨0, _⟩ => rfl
    | ⟨1, _⟩ => by show (d.val + 128 - 32 % 128) % 128 = (d.val + 96) % 128; omega))

theorem turn_at (n cs sn : FVec Ideal S512x128 .f32) (r : Fin 512) (d : Fin 128) :
    turn n cs sn (ix2 r d) = turned (fun d => n (ix2 r d)) (fun d => cs (ix2 r d)) (fun d => sn (ix2 r d)) d := by
  have hu := up_at n r d
  have hd := down_at n r d
  have hb := bit_at r d
  unfold turn turned
  generalize dynamicRotate 1 96#32 none n rotates_S512x128_d1 = p at hu ⊢
  generalize dynamicRotate 1 32#32 none n rotates_S512x128_d1 = q at hd ⊢
  generalize k0_pay40 = b at hb ⊢
  pointwise []
  rw [hb, hu, hd]
  split <;> rfl

/-- Scaled. -/
def scaled (n : FVec Ideal S512x128 .f32) : FVec Ideal S512x128 .f32 :=
  mulf n (broadcast S512x128 (Named.named κ "q_scale" 0x3E0293EE#32))

theorem scaled_at (n : FVec Ideal S512x128 .f32) (r : Fin 512) (d : Fin 128) : scaled n (ix2 r d) = n (ix2 r d) * (scale : EReal) :=
  congrArg (n (ix2 r d) * ·) scale_named

/-- The memory attention of a head. -/
def memv (q : FVec Ideal S512x128 .f32) (k v : FVec Ideal S256x128 .bf16) : FVec Ideal S512x128 .f32 :=
  have s := matmul dot_S512x128_S256x128_S512x256_1_1_0_0_n_n none (truncf .bf16 q bitsLt_bf16_f32) k (constant (F := Ideal) S512x256 .f32 0x00000000#32)
  have p := exp2 (subf s (broadcastTo S512x256 (shapeCast S512x1 (multiReduction .maximumf [1] S512 s 0xFF800000#32 reduces_S512x256_S512 (.inl rfl) rfl)
    shapeCasts_S512_S512x1) broadcasts_S512x1_S512x256))
  divf (matmul dot_S512x256_S256x128_S512x128_1_0_0_1_n_n none (truncf .bf16 p bitsLt_bf16_f32) v (constant (F := Ideal) S512x128 .f32 0x00000000#32))
    (broadcastTo S512x128 (shapeCast S512x1 (multiReduction .add [1] S512 p 0x00000000#32 reduces_S512x256_S512 (.inl rfl) rfl)
      shapeCasts_S512_S512x1) broadcasts_S512x1_S512x128)

theorem bot_word : Ideal.ofBits FTy.f32 4286578688#32 = ⊥ := by
  simp [Ideal.ofBits, Ideal.ieee]

theorem memv_at (q : FVec Ideal S512x128 .f32) (k v : FVec Ideal S256x128 .bf16) (r : Fin 512) (d : Fin 128) :
    memv q k v (ix2 r d) = attend (fun n => ∑ j, q (ix2 r j) * k (ix2 n j)) (fun n => v (ix2 n d)) := by
  pointwise [memv]
  rw [bot_word]
  rfl

/-- A chunk of a group gated. -/
def gatev (u v : FVec Ideal S128x128 .f32) (w : FVec Ideal S1x128x128 .bf16) (b : FVec Ideal S128x128 .f32) : FVec Ideal S128x128 .f32 :=
  mulf u (addf (matmul dot_S128x128_S128x128_S128x128_1_0_0_1_n_n none (shapeCast S128x128 w shapeCasts_S1x128x128_S128x128)
    (truncf .bf16 v bitsLt_bf16_f32) (constant (F := Ideal) S128x128 .f32 0x00000000#32)) (shapeCast S128x128 b shapeCasts_S128x128_S128x128))

theorem gatev_at (u v : FVec Ideal S128x128 .f32) (w : FVec Ideal S1x128x128 .bf16) (b : FVec Ideal S128x128 .f32) (p d : Fin 128) :
    gatev u v w b (ix2 p d) = gated (u (ix2 p d)) (fun j => w (ix3 0 p j)) (fun j => v (ix2 j d)) (b (ix2 p d)) := by
  pointwise [gatev]
  rfl

/-! ## Parts of blocks -/

/-- 128 columns of a block of rows. -/
theorem cols_at {N : ℕ} (z : FVec Ideal (Shape.mk 2 ![512, N]) .f32) (o : ℕ) (hs) (r : Fin 512) (d : Fin 128) (c : Fin N) (hc : c.val = o + d.val) :
    extractStridedSlice S512x128 ![0, o] z hs (ix2 r d) = z (ix2 r c) :=
  extractStridedSlice_apply _ _ _ _ _ (fun a => match a with
    | ⟨0, _⟩ => by show r.val = 0 + r.val; omega
    | ⟨1, _⟩ => hc)

/-- A chunk of 128 rows. -/
theorem chunk_at (z : FVec Ideal S512x128 .f32) (o : ℕ) (hs) (p d : Fin 128) (r : Fin 512) (hr : r.val = o + p.val) :
    extractStridedSlice S128x128 ![o, 0] z hs (ix2 p d) = z (ix2 r d) :=
  extractStridedSlice_apply _ _ _ _ _ (fun a => match a with
    | ⟨0, _⟩ => hr
    | ⟨1, _⟩ => by show d.val = 0 + d.val; omega)

/-- Some columns of a block loaded. -/
def lanes {M N n : ℕ} {φ : EltTy} (x : Vec Ideal (Shape.mk 2 ![M, N]) φ) (o : ℕ)
    (inb : ∀ a, (![0, o] : Fin 2 → ℕ) a + (![M, n] : Fin 2 → ℕ) a ≤ (Shape.mk 2 ![M, N]).size a) : Vec Ideal (Shape.mk 2 ![M, n]) φ :=
  View.ld x (Rect.unit (s := Shape.mk 2 ![M, N]) ![0, o] ![M, n] inb)

theorem lanes_at {M N n : ℕ} {φ : EltTy} (x : Vec Ideal (Shape.mk 2 ![M, N]) φ) (o : ℕ) (inb) (r : Fin M) (e : Fin n) (c : Fin N)
    (hc : c.val = o + e.val) : lanes x o inb (ix2 r e) = x (ix2 r c) :=
  pair x _ r c (by show 0 + 1 * r.val = r.val; omega) (by show o + 1 * e.val = c.val; omega)

/-- A group's mixing matrix loaded. -/
def slab (x : Vec Ideal S4x128x128 .bf16) (h : ℕ) (inb : ∀ a, (![h, 0, 0] : Fin 3 → ℕ) a + S1x128x128.size a ≤ S4x128x128.size a) :
    Vec Ideal S1x128x128 .bf16 :=
  View.ld x (Rect.unit (s := S4x128x128) ![h, 0, 0] S1x128x128.size inb)

theorem slab_at (x : Vec Ideal S4x128x128 .bf16) (h : Fin 4) (inb) (p j : Fin 128) : slab x h.val inb (ix3 0 p j) = x (ix3 h p j) := by
  refine congrArg x (funext fun a => Fin.ext ?_)
  match a with
  | ⟨0, _⟩ => show h.val + 1 * 0 = h.val; omega
  | ⟨1, _⟩ => show 0 + 1 * p.val = p.val; omega
  | ⟨2, _⟩ => show 0 + 1 * j.val = j.val; omega

/-! ## The projections -/

variable (x0 : Vec Ideal S512x2048 .f32) (x1 : Vec Ideal S1x2048 .f32) (x2 : Vec Ideal S2048x3072 .bf16) (x3 x4 : Vec Ideal S512x128 .f32)
  (x5 : Vec Ideal S1x128 .f32) (x6 : Vec Ideal S4x128x128 .bf16) (x7 : Vec Ideal S128x512 .f32) (x8 x9 x10 : Vec Ideal S1x128 .f32)
  (x11 x12 : Vec Ideal S256x512 .bf16)

/-- The block's projection. -/
def Z (r : Fin 512) (c : Fin 3072) : EReal := zed (fun r k => x0 (ix2 r k)) (fun k => x1 (ix2 0 k)) (fun k c => x2 (ix2 k c)) r c

theorem zs_at (w : Vec Ideal S2048x1024 .bf16) (o : ℕ) (ho : o + 1024 ≤ 3072)
    (hw : ∀ k e, w (ix2 k e) = x2 (ix2 k ⟨o + e.val, by omega⟩)) (r : Fin 512) (e : Fin 1024) :
    k0_pay3 x0 x1 w (ix2 r e) = gelu (Z x0 x1 x2 r ⟨o + e.val, by omega⟩) := by
  pointwise [k0_pay3, k0_pay2]
  simp only [hw]
  rfl

theorem zq_at (w : Vec Ideal S2048x1024 .bf16) (o : ℕ) (ho : o + 1024 ≤ 3072)
    (hw : ∀ k e, w (ix2 k e) = x2 (ix2 k ⟨o + e.val, by omega⟩)) (r : Fin 512) (e : Fin 1024) :
    k0_pay41 (k0_pay2 x0 x1) w (ix2 r e) = Z x0 x1 x2 r ⟨o + e.val, by omega⟩ := by
  pointwise [k0_pay41, k0_pay2]
  simp only [hw]
  rfl

theorem zkv_at (w : Vec Ideal S2048x512 .bf16) (o : ℕ) (ho : o + 512 ≤ 3072)
    (hw : ∀ k e, w (ix2 k e) = x2 (ix2 k ⟨o + e.val, by omega⟩)) (r : Fin 512) (e : Fin 512) :
    k0_pay59 (k0_pay2 x0 x1) w (ix2 r e) = Z x0 x1 x2 r ⟨o + e.val, by omega⟩ := by
  pointwise [k0_pay59, k0_pay2]
  simp only [hw]
  rfl

/-! ## The result blocks -/

def Q : Vec Ideal S512x1024 .bf16 := fun y =>
  qrow (Z x0 x1 x2 (y 0)) (fun d => x8 (ix2 0 d)) (fun d => x3 (ix2 (y 0) d)) (fun d => x4 (ix2 (y 0) d)) (y 1)

theorem q_at (z : FVec Ideal S512x1024 .f32) (hz : ∀ r e, z (ix2 r e) = Z x0 x1 x2 r ⟨1024 + e.val, by omega⟩) (h : Fin 8) (hs)
    (r : Fin 512) (d : Fin 128) :
    scaled (turn (headv (extractStridedSlice S512x128 ![0, 128 * h.val] z hs) x8) x3 x4) (ix2 r d)
      = turned (rms 1124073472#32 (fun d => Z x0 x1 x2 r ⟨1024 + (128 * h.val + d.val), by omega⟩) (fun d => x8 (ix2 0 d)))
          (fun d => x3 (ix2 r d)) (fun d => x4 (ix2 r d)) d * (scale : EReal) := by
  have hc : ∀ d : Fin 128, extractStridedSlice S512x128 ![0, 128 * h.val] z hs (ix2 r d) = Z x0 x1 x2 r ⟨1024 + (128 * h.val + d.val), by omega⟩ :=
    fun d => (cols_at z _ hs r d ⟨128 * h.val + d.val, by omega⟩ rfl).trans (hz r _)
  rw [scaled_at, turn_at]
  simp only [headv_at, hc]

theorem q_piece (z : FVec Ideal S512x1024 .f32) (hz : ∀ r e, z (ix2 r e) = Z x0 x1 x2 r ⟨1024 + e.val, by omega⟩) (h : Fin 8) (hs) (x : S512x128.Idx)
    (y : S512x1024.Idx) (e0 : (y 0).val = (x 0).val) (e1 : (y 1).val = 128 * h.val + (x 1).val) :
    scaled (turn (headv (extractStridedSlice S512x128 ![0, 128 * h.val] z hs) x8) x3 x4) x = Q x0 x1 x2 x3 x4 x8 y := by
  rw [eq_ix2 x]
  refine (q_at x0 x1 x2 x3 x4 x8 z hz h hs (x 0) (x 1)).trans ?_
  rw [show x 0 = y 0 from Fin.ext e0.symm]
  exact (byHead_at (H := 8) rfl (fun h d => turned (rms 1124073472#32 (fun d => Z x0 x1 x2 (y 0) ⟨1024 + (128 * h.val + d.val), by omega⟩)
    (fun d => x8 (ix2 0 d))) (fun d => x3 (ix2 (y 0) d)) (fun d => x4 (ix2 (y 0) d)) d * (scale : EReal)) (y 1) h (x 1) e1).symm

theorem out14_at (y : S512x1024.Idx) : out0_14 x0 x1 x2 x3 x4 x5 x6 x7 x8 x9 x10 x11 x12 y = Q x0 x1 x2 x3 x4 x8 y := by
  unfold_out out0_14
  simp only [View.ld_unit_zero (S := S512x2048) hz, View.ld_unit_zero (S := S1x2048) hz, View.ld_unit_zero (S := S512x128) hz,
    View.ld_unit_zero (S := S1x128) hz]
  refine (View.canon_apply_of_pieces (Q x0 x1 x2 x3 x4 x8) _ ?_ y (cover0_14 _ _ _ _ _ _ _ _ _))
  have zq := zq_at x0 x1 x2 (View.ld x2 r0_29) 1024 (by norm_num) fun k e => lanes_at (n := 1024) x2 1024 _ k e _ rfl
  have key := q_piece x0 x1 x2 x3 x4 x8 _ zq
  intro pc hpc
  rcases List.mem_cons.mp hpc with rfl | hpc
  · exact fun x => key 7 slices_S512x1024_o0_896_S512x128 x _ (by show 0 + 1 * (x 0).val = _; omega) (by show 896 + 1 * (x 1).val = 128 * 7 + (x 1).val; omega)
  rcases List.mem_cons.mp hpc with rfl | hpc
  · exact fun x => key 6 slices_S512x1024_o0_768_S512x128 x _ (by show 0 + 1 * (x 0).val = _; omega) (by show 768 + 1 * (x 1).val = 128 * 6 + (x 1).val; omega)
  rcases List.mem_cons.mp hpc with rfl | hpc
  · exact fun x => key 5 slices_S512x1024_o0_640_S512x128 x _ (by show 0 + 1 * (x 0).val = _; omega) (by show 640 + 1 * (x 1).val = 128 * 5 + (x 1).val; omega)
  rcases List.mem_cons.mp hpc with rfl | hpc
  · exact fun x => key 4 slices_S512x1024_o0_512_S512x128 x _ (by show 0 + 1 * (x 0).val = _; omega) (by show 512 + 1 * (x 1).val = 128 * 4 + (x 1).val; omega)
  rcases List.mem_cons.mp hpc with rfl | hpc
  · exact fun x => key 3 slices_S512x1024_o0_384_S512x128 x _ (by show 0 + 1 * (x 0).val = _; omega) (by show 384 + 1 * (x 1).val = 128 * 3 + (x 1).val; omega)
  rcases List.mem_cons.mp hpc with rfl | hpc
  · exact fun x => key 2 slices_S512x1024_o0_256_S512x128 x _ (by show 0 + 1 * (x 0).val = _; omega) (by show 256 + 1 * (x 1).val = 128 * 2 + (x 1).val; omega)
  rcases List.mem_cons.mp hpc with rfl | hpc
  · exact fun x => key 1 slices_S512x1024_o0_128_S512x128 x _ (by show 0 + 1 * (x 0).val = _; omega) (by show 128 + 1 * (x 1).val = 128 * 1 + (x 1).val; omega)
  rcases List.mem_cons.mp hpc with rfl | hpc
  · exact fun x => key 0 slices_S512x1024_o0_0_S512x128 x _ (by show 0 + 1 * (x 0).val = _; omega) (by show 0 + 1 * (x 1).val = 128 * 0 + (x 1).val; omega)
  nomatch hpc

def K : Vec Ideal S512x256 .bf16 := fun y =>
  krow (Z x0 x1 x2 (y 0)) (fun d => x9 (ix2 0 d)) (fun d => x3 (ix2 (y 0) d)) (fun d => x4 (ix2 (y 0) d)) (y 1)

theorem k_at (z : FVec Ideal S512x512 .f32) (hz : ∀ r e, z (ix2 r e) = Z x0 x1 x2 r ⟨2048 + e.val, by omega⟩) (h : Fin 2) (hs)
    (r : Fin 512) (d : Fin 128) :
    turn (headv (extractStridedSlice S512x128 ![0, 128 * h.val] z hs) x9) x3 x4 (ix2 r d)
      = turned (rms 1124073472#32 (fun d => Z x0 x1 x2 r ⟨2048 + (128 * h.val + d.val), by omega⟩) (fun d => x9 (ix2 0 d)))
          (fun d => x3 (ix2 r d)) (fun d => x4 (ix2 r d)) d := by
  have hc : ∀ d : Fin 128, extractStridedSlice S512x128 ![0, 128 * h.val] z hs (ix2 r d) = Z x0 x1 x2 r ⟨2048 + (128 * h.val + d.val), by omega⟩ :=
    fun d => (cols_at z _ hs r d ⟨128 * h.val + d.val, by omega⟩ rfl).trans (hz r _)
  rw [turn_at]
  simp only [headv_at, hc]

theorem k_piece (z : FVec Ideal S512x512 .f32) (hz : ∀ r e, z (ix2 r e) = Z x0 x1 x2 r ⟨2048 + e.val, by omega⟩) (h : Fin 2) (hs) (x : S512x128.Idx)
    (y : S512x256.Idx) (e0 : (y 0).val = (x 0).val) (e1 : (y 1).val = 128 * h.val + (x 1).val) :
    turn (headv (extractStridedSlice S512x128 ![0, 128 * h.val] z hs) x9) x3 x4 x = K x0 x1 x2 x3 x4 x9 y := by
  rw [eq_ix2 x]
  refine (k_at x0 x1 x2 x3 x4 x9 z hz h hs (x 0) (x 1)).trans ?_
  rw [show x 0 = y 0 from Fin.ext e0.symm]
  exact (byHead_at (H := 2) rfl (fun h d => turned (rms 1124073472#32 (fun d => Z x0 x1 x2 (y 0) ⟨2048 + (128 * h.val + d.val), by omega⟩)
    (fun d => x9 (ix2 0 d))) (fun d => x3 (ix2 (y 0) d)) (fun d => x4 (ix2 (y 0) d)) d) (y 1) h (x 1) e1).symm

theorem out15_at (y : S512x256.Idx) : out0_15 x0 x1 x2 x3 x4 x5 x6 x7 x8 x9 x10 x11 x12 y = K x0 x1 x2 x3 x4 x9 y := by
  unfold_out out0_15
  simp only [View.ld_unit_zero (S := S512x2048) hz, View.ld_unit_zero (S := S1x2048) hz, View.ld_unit_zero (S := S512x128) hz,
    View.ld_unit_zero (S := S1x128) hz]
  refine (View.canon_apply_of_pieces (K x0 x1 x2 x3 x4 x9) _ ?_ y (cover0_15 _ _ _))
  have key := k_piece x0 x1 x2 x3 x4 x9 _
    (zkv_at x0 x1 x2 (View.ld x2 r0_38) 2048 (by norm_num) fun k e => lanes_at (n := 512) x2 2048 _ k e _ rfl)
  intro pc hpc
  rcases List.mem_cons.mp hpc with rfl | hpc
  · exact fun x => key 1 slices_S512x512_o0_128_S512x128 x _ (by show 0 + 1 * (x 0).val = _; omega) (by show 128 + 1 * (x 1).val = 128 * 1 + (x 1).val; omega)
  rcases List.mem_cons.mp hpc with rfl | hpc
  · exact fun x => key 0 slices_S512x512_o0_0_S512x128 x _ (by show 0 + 1 * (x 0).val = _; omega) (by show 0 + 1 * (x 1).val = 128 * 0 + (x 1).val; omega)
  nomatch hpc

theorem out16_at (r : Fin 512) (c : Fin 256) : out0_16 x0 x1 x2 x3 x4 x5 x6 x7 x8 x9 x10 x11 x12 (ix2 r c) = vrow (Z x0 x1 x2 r) c := by
  unfold_out out0_16
  simp only [View.ld_unit_zero (S := S512x2048) hz, View.ld_unit_zero (S := S1x2048) hz]
  have zv := zkv_at x0 x1 x2 (View.ld x2 r0_38) 2048 (by norm_num) fun k e => lanes_at (n := 512) x2 2048 _ k e _ rfl
  revert zv
  generalize View.ld x2 r0_38 = w
  intro zv
  refine (canon16_eq _ _ _ _).trans ?_
  refine (pair (k0_pay59 (k0_pay2 x0 x1) w) (ix16_0 (ix2 r c)) r ⟨256 + c.val, by omega⟩ rfl (Nat.add_comm _ _)).trans ((zv r _).trans ?_)
  exact congrArg (Z x0 x1 x2 r) (Fin.ext (by show 2048 + (256 + c.val) = 2304 + c.val; omega))

def M : Vec Ideal S512x512 .bf16 := fun y =>
  mrow (Z x0 x1 x2 (y 0)) (fun d => x10 (ix2 0 d)) (fun n j => x11 (ix2 n j)) (fun n j => x12 (ix2 n j)) (y 1)

theorem m_at (z : FVec Ideal S512x512 .f32) (hz : ∀ r e, z (ix2 r e) = Z x0 x1 x2 r ⟨2560 + e.val, by omega⟩) (h : Fin 4) (hs) (ik iv)
    (r : Fin 512) (d : Fin 128) :
    memv (scaled (headv (extractStridedSlice S512x128 ![0, 128 * h.val] z hs) x10)) (lanes (M := 256) (N := 512) (n := 128) x11 (128 * h.val) ik)
        (lanes (M := 256) (N := 512) (n := 128) x12 (128 * h.val) iv) (ix2 r d)
      = attend (fun n => ∑ j, rms 1124073472#32 (fun d => Z x0 x1 x2 r ⟨2560 + (128 * h.val + d.val), by omega⟩) (fun d => x10 (ix2 0 d)) j
          * (scale : EReal) * x11 (ix2 n ⟨128 * h.val + j.val, by omega⟩)) (fun n => x12 (ix2 n ⟨128 * h.val + d.val, by omega⟩)) := by
  have hc : ∀ d : Fin 128, extractStridedSlice S512x128 ![0, 128 * h.val] z hs (ix2 r d) = Z x0 x1 x2 r ⟨2560 + (128 * h.val + d.val), by omega⟩ :=
    fun d => (cols_at z _ hs r d ⟨128 * h.val + d.val, by omega⟩ rfl).trans (hz r _)
  have hk : ∀ (n : Fin 256) (j : Fin 128), lanes (M := 256) (N := 512) (n := 128) x11 (128 * h.val) ik (ix2 n j) = x11 (ix2 n ⟨128 * h.val + j.val, by omega⟩) :=
    fun n j => lanes_at x11 _ ik n j _ rfl
  have hv : ∀ n : Fin 256, lanes (M := 256) (N := 512) (n := 128) x12 (128 * h.val) iv (ix2 n d) = x12 (ix2 n ⟨128 * h.val + d.val, by omega⟩) :=
    fun n => lanes_at x12 _ iv n d _ rfl
  rw [memv_at]
  simp only [scaled_at, headv_at, hc, hk, hv]

theorem m_piece (z : FVec Ideal S512x512 .f32) (hz : ∀ r e, z (ix2 r e) = Z x0 x1 x2 r ⟨2560 + e.val, by omega⟩) (h : Fin 4) (hs) (ik iv)
    (x : S512x128.Idx) (y : S512x512.Idx) (e0 : (y 0).val = (x 0).val) (e1 : (y 1).val = 128 * h.val + (x 1).val) :
    memv (scaled (headv (extractStridedSlice S512x128 ![0, 128 * h.val] z hs) x10)) (lanes (M := 256) (N := 512) (n := 128) x11 (128 * h.val) ik)
        (lanes (M := 256) (N := 512) (n := 128) x12 (128 * h.val) iv) x
      = M x0 x1 x2 x10 x11 x12 y := by
  rw [eq_ix2 x]
  refine (m_at x0 x1 x2 x10 x11 x12 z hz h hs ik iv (x 0) (x 1)).trans ?_
  rw [show x 0 = y 0 from Fin.ext e0.symm]
  exact (byHead_at (H := 4) rfl (fun h d => attend
    (fun n => ∑ j, rms 1124073472#32 (fun d => Z x0 x1 x2 (y 0) ⟨2560 + (128 * h.val + d.val), by omega⟩) (fun d => x10 (ix2 0 d)) j * (scale : EReal)
      * x11 (ix2 n ⟨128 * h.val + j.val, by omega⟩))
    (fun n => x12 (ix2 n ⟨128 * h.val + d.val, by omega⟩))) (y 1) h (x 1) e1).symm

theorem zmq_at (w : Vec Ideal S2048x512 .bf16) (o : ℕ) (ho : o + 512 ≤ 3072)
    (hw : ∀ k e, w (ix2 k e) = x2 (ix2 k ⟨o + e.val, by omega⟩)) (r : Fin 512) (e : Fin 512) :
    k0_pay63 (k0_pay2 x0 x1) w (ix2 r e) = Z x0 x1 x2 r ⟨o + e.val, by omega⟩ := by
  pointwise [k0_pay63, k0_pay2]
  simp only [hw]
  rfl

theorem out17_at (y : S512x512.Idx) : out0_17 x0 x1 x2 x3 x4 x5 x6 x7 x8 x9 x10 x11 x12 y = M x0 x1 x2 x10 x11 x12 y := by
  unfold_out out0_17
  simp only [View.ld_unit_zero (S := S512x2048) hz, View.ld_unit_zero (S := S1x2048) hz, View.ld_unit_zero (S := S1x128) hz]
  refine (View.canon_apply_of_pieces (M x0 x1 x2 x10 x11 x12) _ ?_ y (cover0_17 _ _ _ _ _))
  have key := m_piece x0 x1 x2 x10 x11 x12 _
    (zmq_at x0 x1 x2 (View.ld x2 r0_42) 2560 (by norm_num) fun k e => lanes_at (n := 512) x2 2560 _ k e _ rfl)
  intro pc hpc
  rcases List.mem_cons.mp hpc with rfl | hpc
  · exact fun x => key 3 slices_S512x512_o0_384_S512x128 inb_S256x512_S256x128_0_384 inb_S256x512_S256x128_0_384 x _ (by show 0 + 1 * (x 0).val = _; omega) (by show 384 + 1 * (x 1).val = 128 * 3 + (x 1).val; omega)
  rcases List.mem_cons.mp hpc with rfl | hpc
  · exact fun x => key 2 slices_S512x512_o0_256_S512x128 inb_S256x512_S256x128_0_256 inb_S256x512_S256x128_0_256 x _ (by show 0 + 1 * (x 0).val = _; omega) (by show 256 + 1 * (x 1).val = 128 * 2 + (x 1).val; omega)
  rcases List.mem_cons.mp hpc with rfl | hpc
  · exact fun x => key 1 slices_S512x512_o0_128_S512x128 inb_S256x512_S256x128_0_128 inb_S256x512_S256x128_0_128 x _ (by show 0 + 1 * (x 0).val = _; omega) (by show 128 + 1 * (x 1).val = 128 * 1 + (x 1).val; omega)
  rcases List.mem_cons.mp hpc with rfl | hpc
  · exact fun x => key 0 slices_S512x512_o0_0_S512x128 inb_S256x512_S256x128_0_0 inb_S256x512_S256x128_0_0 x _ (by show 0 + 1 * (x 0).val = _; omega) (by show 0 + 1 * (x 1).val = 128 * 0 + (x 1).val; omega)
  nomatch hpc

/-- Row `p` of the chunk of row `r`. -/
def crow (r : Fin 512) (p : Fin 128) : Fin 512 := ⟨128 * (r.val / 128) + p.val, by omega⟩

def S : Vec Ideal S512x512 .bf16 := fun y =>
  srow (fun p => Z x0 x1 x2 (crow (y 0) p)) ⟨(y 0).val % 128, Nat.mod_lt _ (by norm_num)⟩ (fun d => x5 (ix2 0 d)) (fun h p j => x6 (ix3 h p j))
    (fun p c => x7 (ix2 p c)) (y 1)

theorem s_at (z : FVec Ideal S512x1024 .f32) (hz : ∀ r e, z (ix2 r e) = gelu (Z x0 x1 x2 r ⟨0 + e.val, by omega⟩)) (h q : Fin 4) (h0 h1 c0 c1) (iw ib)
    (p d : Fin 128) :
    gatev (extractStridedSlice S128x128 ![128 * q.val, 0] (extractStridedSlice S512x128 ![0, 128 * h.val] z h0) c0)
        (extractStridedSlice S128x128 ![128 * q.val, 0] (headv (extractStridedSlice S512x128 ![0, 512 + 128 * h.val] z h1) x5) c1)
        (slab x6 h.val iw) (lanes (M := 128) (N := 512) (n := 128) x7 (128 * h.val) ib) (ix2 p d)
      = gated (gelu (Z x0 x1 x2 ⟨128 * q.val + p.val, by omega⟩ ⟨128 * h.val + d.val, by omega⟩)) (fun j => x6 (ix3 h p j))
          (fun j => rms 1124073472#32 (fun d => gelu (Z x0 x1 x2 ⟨128 * q.val + j.val, by omega⟩ ⟨512 + (128 * h.val + d.val), by omega⟩))
            (fun d => x5 (ix2 0 d)) d) (x7 (ix2 p ⟨128 * h.val + d.val, by omega⟩)) := by
  have hu : ∀ r : Fin 512, extractStridedSlice S512x128 ![0, 128 * h.val] z h0 (ix2 r d) = gelu (Z x0 x1 x2 r ⟨128 * h.val + d.val, by omega⟩) :=
    fun r => (cols_at z _ h0 r d ⟨128 * h.val + d.val, by omega⟩ rfl).trans ((hz r _).trans (by simp only [Nat.zero_add]))
  have hv : ∀ (r : Fin 512) (d : Fin 128), extractStridedSlice S512x128 ![0, 512 + 128 * h.val] z h1 (ix2 r d)
      = gelu (Z x0 x1 x2 r ⟨512 + (128 * h.val + d.val), by omega⟩) :=
    fun r d => (cols_at z _ h1 r d ⟨512 + (128 * h.val + d.val), by omega⟩ (Nat.add_assoc _ _ _).symm).trans ((hz r _).trans (by simp only [Nat.zero_add]))
  have hc := fun (y : FVec Ideal S512x128 .f32) (j : Fin 128) => chunk_at y (128 * q.val) c0 j d ⟨128 * q.val + j.val, by omega⟩ rfl
  have hb : lanes (M := 128) (N := 512) (n := 128) x7 (128 * h.val) ib (ix2 p d) = x7 (ix2 p ⟨128 * h.val + d.val, by omega⟩) :=
    lanes_at x7 _ ib p d _ rfl
  rw [gatev_at]
  simp only [hc, headv_at, hu, hv, hb, slab_at]

theorem s_row (h q : Fin 4) (p d : Fin 128) (r : Fin 512) (c : Fin 512) (e0 : r.val = 128 * q.val + p.val) (e1 : c.val = 128 * h.val + d.val) :
    gated (gelu (Z x0 x1 x2 ⟨128 * q.val + p.val, by omega⟩ ⟨128 * h.val + d.val, by omega⟩)) (fun j => x6 (ix3 h p j))
        (fun j => rms 1124073472#32 (fun d => gelu (Z x0 x1 x2 ⟨128 * q.val + j.val, by omega⟩ ⟨512 + (128 * h.val + d.val), by omega⟩))
          (fun d => x5 (ix2 0 d)) d) (x7 (ix2 p ⟨128 * h.val + d.val, by omega⟩))
      = srow (fun p => Z x0 x1 x2 (crow r p)) ⟨r.val % 128, Nat.mod_lt _ (by norm_num)⟩ (fun d => x5 (ix2 0 d)) (fun h p j => x6 (ix3 h p j))
          (fun p c => x7 (ix2 p c)) c := by
  have hr : ∀ j : Fin 128, (⟨128 * q.val + j.val, by omega⟩ : Fin 512) = crow r j := fun j => Fin.ext (by
    show 128 * q.val + j.val = 128 * (r.val / 128) + j.val; omega)
  have hp : p = ⟨r.val % 128, Nat.mod_lt _ (by norm_num)⟩ := Fin.ext (by show p.val = r.val % 128; omega)
  simp only [hr]
  rw [← hp]
  unfold srow
  rw [byHead_at (H := 4) rfl _ c h d e1]

theorem s_piece (z : FVec Ideal S512x1024 .f32) (hz : ∀ r e, z (ix2 r e) = gelu (Z x0 x1 x2 r ⟨0 + e.val, by omega⟩)) (h q : Fin 4) (h0 h1 c0 c1) (iw ib)
    (x : S128x128.Idx) (y : S512x512.Idx) (e0 : (y 0).val = 128 * q.val + (x 0).val) (e1 : (y 1).val = 128 * h.val + (x 1).val) :
    gatev (extractStridedSlice S128x128 ![128 * q.val, 0] (extractStridedSlice S512x128 ![0, 128 * h.val] z h0) c0)
        (extractStridedSlice S128x128 ![128 * q.val, 0] (headv (extractStridedSlice S512x128 ![0, 512 + 128 * h.val] z h1) x5) c1)
        (slab x6 h.val iw) (lanes (M := 128) (N := 512) (n := 128) x7 (128 * h.val) ib) x
      = S x0 x1 x2 x5 x6 x7 y := by
  rw [eq_ix2 x]
  exact (s_at x0 x1 x2 x5 x6 x7 z hz h q h0 h1 c0 c1 iw ib (x 0) (x 1)).trans (s_row x0 x1 x2 x5 x6 x7 h q (x 0) (x 1) (y 0) (y 1) e0 e1)

theorem at_off (q n : ℕ) : 128 * q + 1 * n = 128 * q + n := by omega

theorem out13_at (y : S512x512.Idx) : out0_13 x0 x1 x2 x3 x4 x5 x6 x7 x8 x9 x10 x11 x12 y = S x0 x1 x2 x5 x6 x7 y := by
  unfold_out out0_13
  simp only [View.ld_unit_zero (S := S512x2048) hz, View.ld_unit_zero (S := S1x2048) hz, View.ld_unit_zero (S := S1x128) hz]
  refine (View.canon_apply_of_pieces (S x0 x1 x2 x5 x6 x7) _ ?_ y (cover0_13 _ _ _ _ _ _ _ _ _ _ _ _ _ _ _ _ _))
  have key := s_piece x0 x1 x2 x5 x6 x7 _
    (zs_at x0 x1 x2 (View.ld x2 r0_2) 0 (by norm_num) fun k e => lanes_at (n := 1024) x2 0 _ k e _ rfl)
  intro pc hpc
  rcases List.mem_cons.mp hpc with rfl | hpc
  · exact fun x => key 3 3 slices_S512x1024_o0_384_S512x128 slices_S512x1024_o0_896_S512x128 slices_S512x128_o384_0_S128x128 slices_S512x128_o384_0_S128x128
      inb_S4x128x128_S1x128x128_3_0_0 inb_S128x512_S128x128_0_384 x _ (at_off 3 (x 0)) (at_off 3 (x 1))
  rcases List.mem_cons.mp hpc with rfl | hpc
  · exact fun x => key 3 2 slices_S512x1024_o0_384_S512x128 slices_S512x1024_o0_896_S512x128 slices_S512x128_o256_0_S128x128 slices_S512x128_o256_0_S128x128
      inb_S4x128x128_S1x128x128_3_0_0 inb_S128x512_S128x128_0_384 x _ (at_off 2 (x 0)) (at_off 3 (x 1))
  rcases List.mem_cons.mp hpc with rfl | hpc
  · exact fun x => key 3 1 slices_S512x1024_o0_384_S512x128 slices_S512x1024_o0_896_S512x128 slices_S512x128_o128_0_S128x128 slices_S512x128_o128_0_S128x128
      inb_S4x128x128_S1x128x128_3_0_0 inb_S128x512_S128x128_0_384 x _ (at_off 1 (x 0)) (at_off 3 (x 1))
  rcases List.mem_cons.mp hpc with rfl | hpc
  · exact fun x => key 3 0 slices_S512x1024_o0_384_S512x128 slices_S512x1024_o0_896_S512x128 slices_S512x128_o0_0_S128x128 slices_S512x128_o0_0_S128x128
      inb_S4x128x128_S1x128x128_3_0_0 inb_S128x512_S128x128_0_384 x _ (at_off 0 (x 0)) (at_off 3 (x 1))
  rcases List.mem_cons.mp hpc with rfl | hpc
  · exact fun x => key 2 3 slices_S512x1024_o0_256_S512x128 slices_S512x1024_o0_768_S512x128 slices_S512x128_o384_0_S128x128 slices_S512x128_o384_0_S128x128
      inb_S4x128x128_S1x128x128_2_0_0 inb_S128x512_S128x128_0_256 x _ (at_off 3 (x 0)) (at_off 2 (x 1))
  rcases List.mem_cons.mp hpc with rfl | hpc
  · exact fun x => key 2 2 slices_S512x1024_o0_256_S512x128 slices_S512x1024_o0_768_S512x128 slices_S512x128_o256_0_S128x128 slices_S512x128_o256_0_S128x128
      inb_S4x128x128_S1x128x128_2_0_0 inb_S128x512_S128x128_0_256 x _ (at_off 2 (x 0)) (at_off 2 (x 1))
  rcases List.mem_cons.mp hpc with rfl | hpc
  · exact fun x => key 2 1 slices_S512x1024_o0_256_S512x128 slices_S512x1024_o0_768_S512x128 slices_S512x128_o128_0_S128x128 slices_S512x128_o128_0_S128x128
      inb_S4x128x128_S1x128x128_2_0_0 inb_S128x512_S128x128_0_256 x _ (at_off 1 (x 0)) (at_off 2 (x 1))
  rcases List.mem_cons.mp hpc with rfl | hpc
  · exact fun x => key 2 0 slices_S512x1024_o0_256_S512x128 slices_S512x1024_o0_768_S512x128 slices_S512x128_o0_0_S128x128 slices_S512x128_o0_0_S128x128
      inb_S4x128x128_S1x128x128_2_0_0 inb_S128x512_S128x128_0_256 x _ (at_off 0 (x 0)) (at_off 2 (x 1))
  rcases List.mem_cons.mp hpc with rfl | hpc
  · exact fun x => key 1 3 slices_S512x1024_o0_128_S512x128 slices_S512x1024_o0_640_S512x128 slices_S512x128_o384_0_S128x128 slices_S512x128_o384_0_S128x128
      inb_S4x128x128_S1x128x128_1_0_0 inb_S128x512_S128x128_0_128 x _ (at_off 3 (x 0)) (at_off 1 (x 1))
  rcases List.mem_cons.mp hpc with rfl | hpc
  · exact fun x => key 1 2 slices_S512x1024_o0_128_S512x128 slices_S512x1024_o0_640_S512x128 slices_S512x128_o256_0_S128x128 slices_S512x128_o256_0_S128x128
      inb_S4x128x128_S1x128x128_1_0_0 inb_S128x512_S128x128_0_128 x _ (at_off 2 (x 0)) (at_off 1 (x 1))
  rcases List.mem_cons.mp hpc with rfl | hpc
  · exact fun x => key 1 1 slices_S512x1024_o0_128_S512x128 slices_S512x1024_o0_640_S512x128 slices_S512x128_o128_0_S128x128 slices_S512x128_o128_0_S128x128
      inb_S4x128x128_S1x128x128_1_0_0 inb_S128x512_S128x128_0_128 x _ (at_off 1 (x 0)) (at_off 1 (x 1))
  rcases List.mem_cons.mp hpc with rfl | hpc
  · exact fun x => key 1 0 slices_S512x1024_o0_128_S512x128 slices_S512x1024_o0_640_S512x128 slices_S512x128_o0_0_S128x128 slices_S512x128_o0_0_S128x128
      inb_S4x128x128_S1x128x128_1_0_0 inb_S128x512_S128x128_0_128 x _ (at_off 0 (x 0)) (at_off 1 (x 1))
  rcases List.mem_cons.mp hpc with rfl | hpc
  · exact fun x => key 0 3 slices_S512x1024_o0_0_S512x128 slices_S512x1024_o0_512_S512x128 slices_S512x128_o384_0_S128x128 slices_S512x128_o384_0_S128x128
      inb_S4x128x128_S1x128x128_0_0_0 inb_S128x512_S128x128_0_0 x _ (at_off 3 (x 0)) (at_off 0 (x 1))
  rcases List.mem_cons.mp hpc with rfl | hpc
  · exact fun x => key 0 2 slices_S512x1024_o0_0_S512x128 slices_S512x1024_o0_512_S512x128 slices_S512x128_o256_0_S128x128 slices_S512x128_o256_0_S128x128
      inb_S4x128x128_S1x128x128_0_0_0 inb_S128x512_S128x128_0_0 x _ (at_off 2 (x 0)) (at_off 0 (x 1))
  rcases List.mem_cons.mp hpc with rfl | hpc
  · exact fun x => key 0 1 slices_S512x1024_o0_0_S512x128 slices_S512x1024_o0_512_S512x128 slices_S512x128_o128_0_S128x128 slices_S512x128_o128_0_S128x128
      inb_S4x128x128_S1x128x128_0_0_0 inb_S128x512_S128x128_0_0 x _ (at_off 1 (x 0)) (at_off 0 (x 1))
  rcases List.mem_cons.mp hpc with rfl | hpc
  · exact fun x => key 0 0 slices_S512x1024_o0_0_S512x128 slices_S512x1024_o0_512_S512x128 slices_S512x128_o0_0_S128x128 slices_S512x128_o0_0_S128x128
      inb_S4x128x128_S1x128x128_0_0_0 inb_S128x512_S128x128_0_0 x _ (at_off 0 (x 0)) (at_off 0 (x 1))
  nomatch hpc

end Cert.InprojIdeal.Val
-- ==== Proof.InprojValue.lean ====
/-
  What the input projection's five result arrays end holding, element by element.
-/
module

public import proofs.«01_k».proof.Proof.InprojBlocks

@[expose] public section

noncomputable section

open Idealize.ShloMosaic Idealize.ShloMosaic.TcCoe Idealize.SL.Sem

namespace Cert.InprojIdeal.Val

open Cert.InprojIdeal Cert.InprojIdeal.Gen Cert.InprojIdeal.Value Cert.ProjMath Cert.InprojMath

variable (m : (ℓ : Loc nD τ sig) → Buf (Elt Ideal) ℓ)

/-- The arguments as tables. -/
def aX (c : Dev nD) : Fin 32768 → Fin 2048 → EReal := fun r k => m ((c : Thread nD τ).loc main_arg0) (ix2 r k)
def aCr (c : Dev nD) : Fin 16384 → Fin 32 → EReal := fun r k => m ((c : Thread nD τ).loc main_arg1) (ix2 r k)
def aSr (c : Dev nD) : Fin 16384 → Fin 32 → EReal := fun r k => m ((c : Thread nD τ).loc main_arg2) (ix2 r k)
def aCc (c : Dev nD) : Fin 16384 → Fin 32 → EReal := fun r k => m ((c : Thread nD τ).loc main_arg3) (ix2 r k)
def aSc (c : Dev nD) : Fin 16384 → Fin 32 → EReal := fun r k => m ((c : Thread nD τ).loc main_arg4) (ix2 r k)
def aG (c : Dev nD) : Fin 2048 → EReal := fun k => m ((c : Thread nD τ).loc main_arg5) (ix2 (0 : Fin 1) k)
def aW (c : Dev nD) : Fin 2048 → Fin 9216 → EReal := fun k e => m ((c : Thread nD τ).loc main_arg6) (ix2 k e)
def aGs (c : Dev nD) : Fin 128 → EReal := fun k => m ((c : Thread nD τ).loc main_arg7) (ix2 (0 : Fin 1) k)
def aWs (c : Dev nD) : Fin 4 → Fin 128 → Fin 128 → EReal := fun h p j => m ((c : Thread nD τ).loc main_arg8) (ix3 h p j)
def aBs (c : Dev nD) : Fin 4 → Fin 128 → EReal := fun h p => m ((c : Thread nD τ).loc main_arg9) (ix2 h p)
def aGq (c : Dev nD) : Fin 128 → EReal := fun k => m ((c : Thread nD τ).loc main_arg10) (ix2 (0 : Fin 1) k)
def aGk (c : Dev nD) : Fin 128 → EReal := fun k => m ((c : Thread nD τ).loc main_arg11) (ix2 (0 : Fin 1) k)
def aGm (c : Dev nD) : Fin 128 → EReal := fun k => m ((c : Thread nD τ).loc main_arg12) (ix2 (0 : Fin 1) k)
def aMk (c : Dev nD) : Fin 512 → Fin 512 → EReal := fun r k => m ((c : Thread nD τ).loc main_arg13) (ix2 r k)
def aMv (c : Dev nD) : Fin 512 → Fin 512 → EReal := fun r k => m ((c : Thread nD τ).loc main_arg14) (ix2 r k)

/-! ## What the steps before the launch leave -/

theorem V_w (c : Dev nD) (j) : V m c main_v7 j = m ((c : Thread nD τ).loc main_arg6) j := by
  unfold V
  after_reads_at

theorem V_sgu (c : Dev nD) (j) : V m c main_v8 j = m ((c : Thread nD τ).loc main_arg8) j := by
  unfold V
  after_reads_at

theorem V_cos (c : Dev nD) (r : Fin 16384) (d : Fin 128) :
    V m c main_v0 (ix2 r d) = cosT (aCr m c) (aCc m c) r d := by
  unfold V
  after_reads_at
  pointwise []
  rfl

theorem V_sin (c : Dev nD) (r : Fin 16384) (d : Fin 128) :
    V m c main_v3 (ix2 r d) = sinT (aSr m c) (aSc m c) r d := by
  unfold V
  after_reads_at
  pointwise []
  rfl

theorem V_bias (c : Dev nD) (p : Fin 128) (k : Fin 512) : V m c main_v6 (ix2 p k) = aBs m c ⟨k.val / 128, by omega⟩ p := by
  unfold V
  after_reads_at
  pointwise []
  rfl

/-! ## Where the windows stand at point `t` -/

theorem at_rows : ∀ t : Fin cfg0.N,
    (win0_0.index t (0 : Fin 2) = t.val ∧ win0_0.index t (1 : Fin 2) = 0)
    ∧ (win0_3.index t (0 : Fin 2) = t.val % 32 ∧ win0_3.index t (1 : Fin 2) = 0)
    ∧ (win0_4.index t (0 : Fin 2) = t.val % 32 ∧ win0_4.index t (1 : Fin 2) = 0)
    ∧ (win0_11.index t (0 : Fin 2) = t.val / 32 ∧ win0_11.index t (1 : Fin 2) = 0)
    ∧ (win0_12.index t (0 : Fin 2) = t.val / 32 ∧ win0_12.index t (1 : Fin 2) = 0) :=
  (by decide +kernel : ∀ t : Fin grid0.N, _)

theorem at_whole : ∀ t : Fin cfg0.N,
    (∀ a : Fin 2, win0_1.index t a = 0) ∧ (∀ a : Fin 2, win0_2.index t a = 0) ∧ (∀ a : Fin 2, win0_5.index t a = 0)
    ∧ (∀ a : Fin 3, win0_6.index t a = 0) ∧ (∀ a : Fin 2, win0_7.index t a = 0) ∧ (∀ a : Fin 2, win0_8.index t a = 0)
    ∧ (∀ a : Fin 2, win0_9.index t a = 0) ∧ (∀ a : Fin 2, win0_10.index t a = 0) :=
  (by decide +kernel : ∀ t : Fin grid0.N, _)

theorem at_out : ∀ t : Fin cfg0.N,
    (win0_13.index t (0 : Fin 2) = t.val ∧ win0_13.index t (1 : Fin 2) = 0)
    ∧ (win0_14.index t (0 : Fin 2) = t.val ∧ win0_14.index t (1 : Fin 2) = 0)
    ∧ (win0_15.index t (0 : Fin 2) = t.val ∧ win0_15.index t (1 : Fin 2) = 0)
    ∧ (win0_16.index t (0 : Fin 2) = t.val ∧ win0_16.index t (1 : Fin 2) = 0)
    ∧ (win0_17.index t (0 : Fin 2) = t.val ∧ win0_17.index t (1 : Fin 2) = 0) :=
  (by decide +kernel : ∀ t : Fin grid0.N, _)

theorem lt_N (t : Fin cfg0.N) : t.val < 64 := lt_of_lt_of_eq t.isLt (show cfg0.N = 64 from N_0)

/-- Row `r` of the block of point `t`. -/
def tok (t : Fin cfg0.N) (r : Fin 512) : Fin 32768 := ⟨512 * t.val + r.val, by have := lt_N t; omega⟩

/-! ## The blocks, of the arguments -/

theorem iblk0 (c : Dev nD) (t : Fin cfg0.N) (r : Fin 512) (k : Fin 2048) : iblk m c 0 t (ix2 r k) = aX m c (tok t r) k := by
  have e := (at_rows t).1
  refine (pair (V m c main_arg0) _ (tok t r) k ?_ ?_).trans (congrFun (V_main_arg0 m c) _)
  · show win0_0.index t 0 * 512 + 1 * r.val = 512 * t.val + r.val; omega
  · show win0_0.index t 1 * 2048 + 1 * k.val = k.val; omega

theorem iblk1 (c : Dev nD) (t : Fin cfg0.N) (k : Fin 2048) : iblk m c 1 t (ix2 (0 : Fin 1) k) = aG m c k := by
  have e := (at_whole t).1
  have e0 := e 0; have e1 := e 1
  refine (pair (V m c main_arg5) _ (0 : Fin 1) k ?_ ?_).trans (congrFun (V_main_arg5 m c) _)
  · show win0_1.index t 0 * 1 + 1 * 0 = 0; omega
  · show win0_1.index t 1 * 2048 + 1 * k.val = k.val; omega

theorem iblk2 (c : Dev nD) (t : Fin cfg0.N) (r : Fin 2048) (k : Fin 3072) : iblk m c 2 t (ix2 r k) = aW m c r ⟨k.val, by omega⟩ := by
  have e := (at_whole t).2.1
  have e0 := e 0; have e1 := e 1
  refine (pair (V m c main_v7) _ r (⟨k.val, by omega⟩ : Fin 9216) ?_ ?_).trans (V_w m c _)
  · show win0_2.index t 0 * 2048 + 1 * r.val = r.val; omega
  · show win0_2.index t 1 * 3072 + 1 * k.val = k.val; omega

theorem iblk3 (c : Dev nD) (t : Fin cfg0.N) (r : Fin 512) (d : Fin 128) :
    iblk m c 3 t (ix2 r d) = cosT (aCr m c) (aCc m c) (pos (tok t r)) d := by
  have e := (at_rows t).2.1
  refine (pair (V m c main_v0) _ (pos (tok t r)) d ?_ ?_).trans (V_cos m c _ _)
  · show win0_3.index t 0 * 512 + 1 * r.val = (512 * t.val + r.val) % 16384; omega
  · show win0_3.index t 1 * 128 + 1 * d.val = d.val; omega

theorem iblk4 (c : Dev nD) (t : Fin cfg0.N) (r : Fin 512) (d : Fin 128) :
    iblk m c 4 t (ix2 r d) = sinT (aSr m c) (aSc m c) (pos (tok t r)) d := by
  have e := (at_rows t).2.2.1
  refine (pair (V m c main_v3) _ (pos (tok t r)) d ?_ ?_).trans (V_sin m c _ _)
  · show win0_4.index t 0 * 512 + 1 * r.val = (512 * t.val + r.val) % 16384; omega
  · show win0_4.index t 1 * 128 + 1 * d.val = d.val; omega

theorem iblk5 (c : Dev nD) (t : Fin cfg0.N) (k : Fin 128) : iblk m c 5 t (ix2 (0 : Fin 1) k) = aGs m c k := by
  have e := (at_whole t).2.2.1
  have e0 := e 0; have e1 := e 1
  refine (pair (V m c main_arg7) _ (0 : Fin 1) k ?_ ?_).trans (congrFun (V_main_arg7 m c) _)
  · show win0_5.index t 0 * 1 + 1 * 0 = 0; omega
  · show win0_5.index t 1 * 128 + 1 * k.val = k.val; omega

theorem iblk6 (c : Dev nD) (t : Fin cfg0.N) (h : Fin 4) (p j : Fin 128) : iblk m c 6 t (ix3 h p j) = aWs m c h p j := by
  have e := (at_whole t).2.2.2.1
  have e0 := e 0; have e1 := e 1; have e2 := e 2
  refine Eq.trans ?_ (V_sgu m c (ix3 h p j))
  refine congrArg (V m c main_v8) (funext fun a => Fin.ext (match a with | ⟨0, _⟩ => ?_ | ⟨1, _⟩ => ?_ | ⟨2, _⟩ => ?_))
  · show win0_6.index t 0 * 4 + 1 * h.val = h.val; omega
  · show win0_6.index t 1 * 128 + 1 * p.val = p.val; omega
  · show win0_6.index t 2 * 128 + 1 * j.val = j.val; omega

theorem iblk7 (c : Dev nD) (t : Fin cfg0.N) (p : Fin 128) (k : Fin 512) : iblk m c 7 t (ix2 p k) = aBs m c ⟨k.val / 128, by omega⟩ p := by
  have e := (at_whole t).2.2.2.2.1
  have e0 := e 0; have e1 := e 1
  refine (pair (V m c main_v6) _ p k ?_ ?_).trans (V_bias m c _ _)
  · show win0_7.index t 0 * 128 + 1 * p.val = p.val; omega
  · show win0_7.index t 1 * 512 + 1 * k.val = k.val; omega

theorem iblk8 (c : Dev nD) (t : Fin cfg0.N) (k : Fin 128) : iblk m c 8 t (ix2 (0 : Fin 1) k) = aGq m c k := by
  have e := (at_whole t).2.2.2.2.2.1
  have e0 := e 0; have e1 := e 1
  refine (pair (V m c main_arg10) _ (0 : Fin 1) k ?_ ?_).trans (congrFun (V_main_arg10 m c) _)
  · show win0_8.index t 0 * 1 + 1 * 0 = 0; omega
  · show win0_8.index t 1 * 128 + 1 * k.val = k.val; omega

theorem iblk9 (c : Dev nD) (t : Fin cfg0.N) (k : Fin 128) : iblk m c 9 t (ix2 (0 : Fin 1) k) = aGk m c k := by
  have e := (at_whole t).2.2.2.2.2.2.1
  have e0 := e 0; have e1 := e 1
  refine (pair (V m c main_arg11) _ (0 : Fin 1) k ?_ ?_).trans (congrFun (V_main_arg11 m c) _)
  · show win0_9.index t 0 * 1 + 1 * 0 = 0; omega
  · show win0_9.index t 1 * 128 + 1 * k.val = k.val; omega

theorem iblk10 (c : Dev nD) (t : Fin cfg0.N) (k : Fin 128) : iblk m c 10 t (ix2 (0 : Fin 1) k) = aGm m c k := by
  have e := (at_whole t).2.2.2.2.2.2.2
  have e0 := e 0; have e1 := e 1
  refine (pair (V m c main_arg12) _ (0 : Fin 1) k ?_ ?_).trans (congrFun (V_main_arg12 m c) _)
  · show win0_10.index t 0 * 1 + 1 * 0 = 0; omega
  · show win0_10.index t 1 * 128 + 1 * k.val = k.val; omega

/-- Every row of a block lies in one sequence, so row `r` may be any. -/
theorem iblk11 (c : Dev nD) (t : Fin cfg0.N) (r : Fin 512) (n : Fin 256) (k : Fin 512) : iblk m c 11 t (ix2 n k) = aMk m c (mem (tok t r) n) k := by
  have e := (at_rows t).2.2.2.1
  refine (pair (V m c main_arg13) _ (mem (tok t r) n) k ?_ ?_).trans (congrFun (V_main_arg13 m c) _)
  · show win0_11.index t 0 * 256 + 1 * n.val = 256 * ((512 * t.val + r.val) / 16384) + n.val; omega
  · show win0_11.index t 1 * 512 + 1 * k.val = k.val; omega

theorem iblk12 (c : Dev nD) (t : Fin cfg0.N) (r : Fin 512) (n : Fin 256) (k : Fin 512) : iblk m c 12 t (ix2 n k) = aMv m c (mem (tok t r) n) k := by
  have e := (at_rows t).2.2.2.2
  refine (pair (V m c main_arg14) _ (mem (tok t r) n) k ?_ ?_).trans (congrFun (V_main_arg14 m c) _)
  · show win0_12.index t 0 * 256 + 1 * n.val = 256 * ((512 * t.val + r.val) / 16384) + n.val; omega
  · show win0_12.index t 1 * 512 + 1 * k.val = k.val; omega

/-! ## The five results -/

/-- The projection of the arguments. -/
def aZ (c : Dev nD) : Fin 32768 → Fin 3072 → EReal := proj (aX m c) (aG m c) (aW m c)

theorem Z_at (c : Dev nD) (t : Fin cfg0.N) (r : Fin 512) : Z (iblk m c 0 t) (iblk m c 1 t) (iblk m c 2 t) r = aZ m c (tok t r) := by
  funext e
  unfold Z zed
  simp only [iblk0 m c t, iblk1 m c t, iblk2 m c t]
  rfl

def G13 (c : Dev nD) : FVec Ideal S32768x512 .bf16 := fun i =>
  sOut (aZ m c) (aGs m c) (aWs m c) (fun p k => aBs m c ⟨k.val / 128, by omega⟩ p) (i 0) (i 1)
def G14 (c : Dev nD) : FVec Ideal S32768x1024 .bf16 := fun i =>
  qOut (aZ m c) (aGq m c) (cosT (aCr m c) (aCc m c)) (sinT (aSr m c) (aSc m c)) (i 0) (i 1)
def G15 (c : Dev nD) : FVec Ideal S32768x256 .bf16 := fun i =>
  kOut (aZ m c) (aGk m c) (cosT (aCr m c) (aCc m c)) (sinT (aSr m c) (aSc m c)) (i 0) (i 1)
def G16 (c : Dev nD) : FVec Ideal S32768x256 .bf16 := fun i => vrow (aZ m c (i 0)) (i 1)
def G17 (c : Dev nD) : FVec Ideal S32768x512 .bf16 := fun i => mOut (aZ m c) (aGm m c) (aMk m c) (aMv m c) (i 0) (i 1)

theorem block13 (c : Dev nD) (t : Fin cfg0.N) (r : Fin 512) (k : Fin 512) :
    S (iblk m c 0 t) (iblk m c 1 t) (iblk m c 2 t) (iblk m c 5 t) (iblk m c 6 t) (iblk m c 7 t) (ix2 r k) = G13 m c (ix2 (tok t r) k) := by
  have hc : ∀ p, tok t (crow r p) = chunk (tok t r) p := fun p => Fin.ext (by
    show 512 * t.val + (128 * (r.val / 128) + p.val) = 128 * ((512 * t.val + r.val) / 128) + p.val; omega)
  have hp : (⟨r.val % 128, Nat.mod_lt _ (by norm_num)⟩ : Fin 128) = ⟨(tok t r).val % 128, Nat.mod_lt _ (by norm_num)⟩ := Fin.ext (by
    show r.val % 128 = (512 * t.val + r.val) % 128; omega)
  show srow (fun p => Z (iblk m c 0 t) (iblk m c 1 t) (iblk m c 2 t) (crow r p)) ⟨r.val % 128, _⟩ (fun d => iblk m c 5 t (ix2 (0 : Fin 1) d))
    (fun h p j => iblk m c 6 t (ix3 h p j)) (fun p c' => iblk m c 7 t (ix2 p c')) k = sOut _ _ _ _ (tok t r) k
  simp only [Z_at m c t, iblk5 m c t, iblk6 m c t, iblk7 m c t, hc]
  rw [hp]
  rfl

theorem block14 (c : Dev nD) (t : Fin cfg0.N) (r : Fin 512) (k : Fin 1024) :
    Q (iblk m c 0 t) (iblk m c 1 t) (iblk m c 2 t) (iblk m c 3 t) (iblk m c 4 t) (iblk m c 8 t) (ix2 r k) = G14 m c (ix2 (tok t r) k) := by
  show qrow (Z (iblk m c 0 t) (iblk m c 1 t) (iblk m c 2 t) r) (fun d => iblk m c 8 t (ix2 (0 : Fin 1) d)) (fun d => iblk m c 3 t (ix2 r d))
    (fun d => iblk m c 4 t (ix2 r d)) k = qOut _ _ _ _ (tok t r) k
  simp only [Z_at m c t, iblk8 m c t, iblk3 m c t, iblk4 m c t]
  rfl

theorem block15 (c : Dev nD) (t : Fin cfg0.N) (r : Fin 512) (k : Fin 256) :
    K (iblk m c 0 t) (iblk m c 1 t) (iblk m c 2 t) (iblk m c 3 t) (iblk m c 4 t) (iblk m c 9 t) (ix2 r k) = G15 m c (ix2 (tok t r) k) := by
  show krow (Z (iblk m c 0 t) (iblk m c 1 t) (iblk m c 2 t) r) (fun d => iblk m c 9 t (ix2 (0 : Fin 1) d)) (fun d => iblk m c 3 t (ix2 r d))
    (fun d => iblk m c 4 t (ix2 r d)) k = kOut _ _ _ _ (tok t r) k
  simp only [Z_at m c t, iblk9 m c t, iblk3 m c t, iblk4 m c t]
  rfl

theorem block16 (c : Dev nD) (t : Fin cfg0.N) (r : Fin 512) (k : Fin 256) :
    vrow (Z (iblk m c 0 t) (iblk m c 1 t) (iblk m c 2 t) r) k = G16 m c (ix2 (tok t r) k) := by
  rw [Z_at]
  rfl

theorem block17 (c : Dev nD) (t : Fin cfg0.N) (r : Fin 512) (k : Fin 512) :
    M (iblk m c 0 t) (iblk m c 1 t) (iblk m c 2 t) (iblk m c 10 t) (iblk m c 11 t) (iblk m c 12 t) (ix2 r k) = G17 m c (ix2 (tok t r) k) := by
  show mrow (Z (iblk m c 0 t) (iblk m c 1 t) (iblk m c 2 t) r) (fun d => iblk m c 10 t (ix2 (0 : Fin 1) d)) (fun n j => iblk m c 11 t (ix2 n j))
    (fun n j => iblk m c 12 t (ix2 n j)) k = mOut _ _ _ _ (tok t r) k
  simp only [Z_at m c t, iblk10 m c t, iblk11 m c t r, iblk12 m c t r]
  rfl

/-- An index of an array of `N` columns is that of its block's row in the block of that row. -/
theorem in_block {N : ℕ} (r : Fin 32768) (k : Fin N) :
    ∃ t : Fin cfg0.N, ∃ y : (Shape.mk 2 ![512, N]).Idx, t.val * 512 + (y 0).val = r.val ∧ (y 1).val = k.val :=
  ⟨⟨r.val / 512, by rw [show cfg0.N = 64 from N_0]; omega⟩, ix2 (⟨r.val % 512, by omega⟩ : Fin 512) k,
    by show r.val / 512 * 512 + r.val % 512 = r.val; omega, rfl⟩

/-- The gated chunks' array after the run. -/
theorem final13 (c : Dev nD) : (dats m 0 c).arrAt 13 cfg0.N = G13 m c := by
  refine (dats m 0 c).arrAt_eq_of_cover 13 (G13 m c) (fun t _ => ?_) fun i => ?_
  · rw [flushed13]
    funext y
    have e := (at_out t).1
    refine (out13_at _ _ _ _ _ _ _ _ _ _ _ _ _ y).trans
      ((congrArg _ (eq_ix2 y)).trans ((block13 m c t (y 0) (y 1)).trans
        (pair (G13 m c) (((cfg0.win 13).blk t).view.emb y) (tok t (y 0)) (y 1) ?_ ?_).symm))
    · show win0_13.index t 0 * 512 + 1 * (y 0).val = 512 * t.val + (y 0).val; omega
    · show win0_13.index t 1 * 512 + 1 * (y 1).val = (y 1).val; omega
  · obtain ⟨t, y, e0, e1⟩ := in_block (N := 512) (i 0) (i 1)
    have e := (at_out t).1
    have h := ((cfg0.win 13).blk t).view.emb_mem_set y
    have hi : ((cfg0.win 13).blk t).view.emb y = i := funext fun a => Fin.ext (match a with
      | ⟨0, _⟩ => by show win0_13.index t 0 * 512 + 1 * (y 0).val = (i 0).val; omega
      | ⟨1, _⟩ => by show win0_13.index t 1 * 512 + 1 * (y 1).val = (i 1).val; omega)
    exact ⟨t, flush0_13 t, hi ▸ h⟩

/-- The queries' array after the run. -/
theorem final14 (c : Dev nD) : (dats m 0 c).arrAt 14 cfg0.N = G14 m c := by
  refine (dats m 0 c).arrAt_eq_of_cover 14 (G14 m c) (fun t _ => ?_) fun i => ?_
  · rw [flushed14]
    funext y
    have e := (at_out t).2.1
    refine (out14_at _ _ _ _ _ _ _ _ _ _ _ _ _ y).trans
      ((congrArg _ (eq_ix2 y)).trans ((block14 m c t (y 0) (y 1)).trans
        (pair (G14 m c) (((cfg0.win 14).blk t).view.emb y) (tok t (y 0)) (y 1) ?_ ?_).symm))
    · show win0_14.index t 0 * 512 + 1 * (y 0).val = 512 * t.val + (y 0).val; omega
    · show win0_14.index t 1 * 1024 + 1 * (y 1).val = (y 1).val; omega
  · obtain ⟨t, y, e0, e1⟩ := in_block (N := 1024) (i 0) (i 1)
    have e := (at_out t).2.1
    have h := ((cfg0.win 14).blk t).view.emb_mem_set y
    have hi : ((cfg0.win 14).blk t).view.emb y = i := funext fun a => Fin.ext (match a with
      | ⟨0, _⟩ => by show win0_14.index t 0 * 512 + 1 * (y 0).val = (i 0).val; omega
      | ⟨1, _⟩ => by show win0_14.index t 1 * 1024 + 1 * (y 1).val = (i 1).val; omega)
    exact ⟨t, flush0_14 t, hi ▸ h⟩

/-- The keys' array after the run. -/
theorem final15 (c : Dev nD) : (dats m 0 c).arrAt 15 cfg0.N = G15 m c := by
  refine (dats m 0 c).arrAt_eq_of_cover 15 (G15 m c) (fun t _ => ?_) fun i => ?_
  · rw [flushed15]
    funext y
    have e := (at_out t).2.2.1
    refine (out15_at _ _ _ _ _ _ _ _ _ _ _ _ _ y).trans
      ((congrArg _ (eq_ix2 y)).trans ((block15 m c t (y 0) (y 1)).trans
        (pair (G15 m c) (((cfg0.win 15).blk t).view.emb y) (tok t (y 0)) (y 1) ?_ ?_).symm))
    · show win0_15.index t 0 * 512 + 1 * (y 0).val = 512 * t.val + (y 0).val; omega
    · show win0_15.index t 1 * 256 + 1 * (y 1).val = (y 1).val; omega
  · obtain ⟨t, y, e0, e1⟩ := in_block (N := 256) (i 0) (i 1)
    have e := (at_out t).2.2.1
    have h := ((cfg0.win 15).blk t).view.emb_mem_set y
    have hi : ((cfg0.win 15).blk t).view.emb y = i := funext fun a => Fin.ext (match a with
      | ⟨0, _⟩ => by show win0_15.index t 0 * 512 + 1 * (y 0).val = (i 0).val; omega
      | ⟨1, _⟩ => by show win0_15.index t 1 * 256 + 1 * (y 1).val = (i 1).val; omega)
    exact ⟨t, flush0_15 t, hi ▸ h⟩

/-- The values' array after the run. -/
theorem final16 (c : Dev nD) : (dats m 0 c).arrAt 16 cfg0.N = G16 m c := by
  refine (dats m 0 c).arrAt_eq_of_cover 16 (G16 m c) (fun t _ => ?_) fun i => ?_
  · rw [flushed16]
    funext y
    have e := (at_out t).2.2.2.1
    refine (congrArg (out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (eq_ix2 y)).trans
      ((out16_at _ _ _ _ _ _ _ _ _ _ _ _ _ (y 0) (y 1)).trans ((block16 m c t (y 0) (y 1)).trans
        (pair (G16 m c) (((cfg0.win 16).blk t).view.emb y) (tok t (y 0)) (y 1) ?_ ?_).symm))
    · show win0_16.index t 0 * 512 + 1 * (y 0).val = 512 * t.val + (y 0).val; omega
    · show win0_16.index t 1 * 256 + 1 * (y 1).val = (y 1).val; omega
  · obtain ⟨t, y, e0, e1⟩ := in_block (N := 256) (i 0) (i 1)
    have e := (at_out t).2.2.2.1
    have h := ((cfg0.win 16).blk t).view.emb_mem_set y
    have hi : ((cfg0.win 16).blk t).view.emb y = i := funext fun a => Fin.ext (match a with
      | ⟨0, _⟩ => by show win0_16.index t 0 * 512 + 1 * (y 0).val = (i 0).val; omega
      | ⟨1, _⟩ => by show win0_16.index t 1 * 256 + 1 * (y 1).val = (i 1).val; omega)
    exact ⟨t, flush0_16 t, hi ▸ h⟩

/-- The memory attention's array after the run. -/
theorem final17 (c : Dev nD) : (dats m 0 c).arrAt 17 cfg0.N = G17 m c := by
  refine (dats m 0 c).arrAt_eq_of_cover 17 (G17 m c) (fun t _ => ?_) fun i => ?_
  · rw [flushed17]
    funext y
    have e := (at_out t).2.2.2.2
    refine (out17_at _ _ _ _ _ _ _ _ _ _ _ _ _ y).trans
      ((congrArg _ (eq_ix2 y)).trans ((block17 m c t (y 0) (y 1)).trans
        (pair (G17 m c) (((cfg0.win 17).blk t).view.emb y) (tok t (y 0)) (y 1) ?_ ?_).symm))
    · show win0_17.index t 0 * 512 + 1 * (y 0).val = 512 * t.val + (y 0).val; omega
    · show win0_17.index t 1 * 512 + 1 * (y 1).val = (y 1).val; omega
  · obtain ⟨t, y, e0, e1⟩ := in_block (N := 512) (i 0) (i 1)
    have e := (at_out t).2.2.2.2
    have h := ((cfg0.win 17).blk t).view.emb_mem_set y
    have hi : ((cfg0.win 17).blk t).view.emb y = i := funext fun a => Fin.ext (match a with
      | ⟨0, _⟩ => by show win0_17.index t 0 * 512 + 1 * (y 0).val = (i 0).val; omega
      | ⟨1, _⟩ => by show win0_17.index t 1 * 512 + 1 * (y 1).val = (i 1).val; omega)
    exact ⟨t, flush0_17 t, hi ▸ h⟩

end Cert.InprojIdeal.Val
-- ==== Proof.InprojRef.lean ====
/-
  The reference's five results, element by element: the same mathematics as the kernel's.
-/
module

public import proofs.«01_k».proof.Proof.InprojMath
public import proofs.«01_k».proof.Proof.Gen.InprojRefIdeal.Read
public import Idealize.ShloMosaic.Lib.Pointwise

@[expose] public section

noncomputable section

open Idealize.ShloMosaic Idealize.ShloMosaic.TcCoe Idealize.SL.Sem

namespace Cert.InprojRefIdeal.Val

open Cert.InprojRefIdeal Cert.InprojRefIdeal.Read Cert.ProjMath Cert.InprojMath

variable (x : FVec Ideal S32768x2048 .f32) (cr sr cc sc : FVec Ideal S16384x32 .f32) (g : FVec Ideal S1x2048 .f32)
  (w : FVec Ideal S2048x9216 .f32) (gs : FVec Ideal S1x128 .f32) (ws : FVec Ideal S4x128x128 .f32) (bs : FVec Ideal S4x128 .f32)
  (gq gk gm : FVec Ideal S1x128 .f32) (mk mv : FVec Ideal S512x512 .bf16)

/-- The projection of the arguments. -/
abbrev pr : Fin 32768 → Fin 3072 → EReal := proj (fun r k => x (ix2 r k)) (fun k => g (ix2 0 k)) (fun k e => w (ix2 k e))

theorem nrm_at (r : Fin 32768) (k : Fin 2048) :
    val_main_v11 (F := Ideal) x g (ix2 r k) = rms 1157627904#32 (fun k => x (ix2 r k)) (fun k => g (ix2 0 k)) k := by
  pointwise [val_main_v11, val_main_v10, val_main_v9, val_main_v8, val_main_v7, val_main_v6, val_main_v5, val_main_v4,
    val_main_v3, val_main_v2, val_main_v1, val_main_v0, val_main_cst, val_main_cst_0, val_main_cst_1]
  rfl

/-- The reference's projection, at any index of the two coordinates. -/
theorem proj_at (i : S32768x3072.Idx) (r : Fin 32768) (e : Fin 3072) (h0 : (i 0).val = r.val) (h1 : (i 1).val = e.val) :
    val_main_v13 (F := Ideal) x g w i = pr x g w r e := by
  rw [val_main_v13_apply]
  refine (pair _ (idx_main_v13 i) r (⟨e.val, by omega⟩ : Fin 9216) ?_ ?_).trans ?_
  · exact h0
  · exact h1
  pointwise [val_main_v12]
  simp only [nrm_at]
  rfl

/-- The gelu of the first 1024 columns. -/
theorem gelu_at (r : Fin 32768) (e : Fin 1024) :
    val_main_v27 (F := Ideal) x g w (ix2 r e) = gelu (pr x g w r ⟨e.val, by omega⟩) := by
  have z : val_main_v14 (F := Ideal) x g w (ix2 r e) = pr x g w r ⟨e.val, by omega⟩ := by
    rw [val_main_v14_apply]
    exact proj_at x g w _ r ⟨e.val, by omega⟩ rfl rfl
  pointwise [val_main_v27, val_main_v26, val_main_v25, val_main_v24, val_main_v23, val_main_v22, val_main_v21, val_main_cst_4, val_main_cst_5]
  rw [z]
  exact gelu_erfc _

/-- The second half, by group. -/
theorem half_at (r : Fin 32768) (h : Fin 4) (d : Fin 128) :
    val_main_v30 (F := Ideal) x g w (ix3 r h d) = gelu (pr x g w r ⟨512 + (128 * h.val + d.val), by omega⟩) := by
  rw [val_main_v30_apply, val_main_v29_apply]
  refine (pair _ (idx_main_v29 (idx_main_v30 (ix3 r h d))) r (⟨512 + (128 * h.val + d.val), by omega⟩ : Fin 1024) ?_ ?_).trans (gelu_at x g w _ _)
  · show ((r.val * 4 + h.val) * 128 + d.val) / 512 = r.val; omega
  · show 512 + ((r.val * 4 + h.val) * 128 + d.val) % 512 = 512 + (128 * h.val + d.val); omega

/-- A group's normalised second half. -/
theorem group_at (r : Fin 32768) (h : Fin 4) (d : Fin 128) :
    val_main_v43 (F := Ideal) x g w gs (ix3 r h d)
      = rms 1124073472#32 (fun d => gelu (pr x g w r ⟨512 + (128 * h.val + d.val), by omega⟩)) (fun k => gs (ix2 0 k)) d := by
  pointwise [val_main_v43, val_main_v42, val_main_v41, val_main_v40, val_main_v39, val_main_v38, val_main_v37, val_main_v36,
    val_main_v35, val_main_v34, val_main_v33, val_main_v32, val_main_v31, val_main_cst_6, val_main_cst_7, val_main_cst_8]
  simp only [half_at]
  rfl

/-- The chunks' normalised second halves. -/
theorem chunk_at (n : Fin 256) (p : Fin 128) (h : Fin 4) (d : Fin 128) :
    val_main_v44 (F := Ideal) x g w gs (ix4 n p h d)
      = rms 1124073472#32 (fun d => gelu (pr x g w ⟨128 * n.val + p.val, by omega⟩ ⟨512 + (128 * h.val + d.val), by omega⟩)) (fun k => gs (ix2 0 k)) d := by
  rw [val_main_v44_apply]
  have hi : idx_main_v44 (ix4 n p h d) = ix3 (⟨128 * n.val + p.val, by omega⟩ : Fin 32768) h d := by
    funext a
    apply Fin.ext
    match a with
    | ⟨0, _⟩ => show (((n.val * 128 + p.val) * 4 + h.val) * 128 + d.val) / 512 = 128 * n.val + p.val; omega
    | ⟨1, _⟩ => show (((n.val * 128 + p.val) * 4 + h.val) * 128 + d.val) / 128 % 4 = h.val; omega
    | ⟨2, _⟩ => show (((n.val * 128 + p.val) * 4 + h.val) * 128 + d.val) % 128 = d.val; omega
  rw [hi, group_at]

/-- The mixed chunks with their bias. -/
theorem mixed_at (n : Fin 256) (p : Fin 128) (h : Fin 4) (d : Fin 128) :
    val_main_v50 (F := Ideal) x g w gs ws bs (ix4 n p h d)
      = (∑ j, ws (ix3 h p j) * rms 1124073472#32 (fun d => gelu (pr x g w ⟨128 * n.val + j.val, by omega⟩ ⟨512 + (128 * h.val + d.val), by omega⟩))
          (fun k => gs (ix2 0 k)) d) + bs (ix2 h p) := by
  pointwise [val_main_v50, val_main_v49, val_main_v48, val_main_v47, val_main_v46, val_main_v45]
  simp only [chunk_at]
  simp only [mul_comm]

/-- The gated chunks. -/
theorem sgu (r : Fin 32768) (c : Fin 512) :
    val_main_v197 (F := Ideal) x g w gs ws bs (ix2 r c)
      = sOut (pr x g w) (fun k => gs (ix2 0 k)) (fun h p j => ws (ix3 h p j)) (fun p k => bs (ix2 ⟨k.val / 128, by omega⟩ p)) r c := by
  have u : val_main_v28 (F := Ideal) x g w (ix2 r c) = gelu (pr x g w r ⟨c.val, by omega⟩) := by
    rw [val_main_v28_apply]
    exact (pair _ (idx_main_v28 (ix2 r c)) r (⟨c.val, by omega⟩ : Fin 1024) rfl rfl).trans (gelu_at x g w _ _)
  have v : val_main_v51 (F := Ideal) x g w gs ws bs (ix2 r c)
      = val_main_v50 (F := Ideal) x g w gs ws bs (ix4 (⟨r.val / 128, by omega⟩ : Fin 256) (⟨r.val % 128, by omega⟩ : Fin 128)
          (⟨c.val / 128, by omega⟩ : Fin 4) (⟨c.val % 128, by omega⟩ : Fin 128)) := by
    rw [val_main_v51_apply]
    refine congrArg _ (funext fun a => Fin.ext (match a with | ⟨0, _⟩ => ?_ | ⟨1, _⟩ => ?_ | ⟨2, _⟩ => ?_ | ⟨3, _⟩ => ?_))
    · show (r.val * 512 + c.val) / 65536 = r.val / 128; omega
    · show (r.val * 512 + c.val) / 512 % 128 = r.val % 128; omega
    · show (r.val * 512 + c.val) / 128 % 4 = c.val / 128; omega
    · show (r.val * 512 + c.val) % 128 = c.val % 128; omega
  pointwise [val_main_v197, val_main_v52]
  rw [u, v, mixed_at]
  have hr : chunk r ⟨r.val % 128, Nat.mod_lt _ (by norm_num)⟩ = r := Fin.ext (by
    show 128 * (r.val / 128) + r.val % 128 = r.val; omega)
  have hc : ∀ h : 128 * (c.val / 128) + c.val % 128 < 3072, (⟨128 * (c.val / 128) + c.val % 128, h⟩ : Fin 3072) = ⟨c.val, by omega⟩ :=
    fun _ => Fin.ext (by show 128 * (c.val / 128) + c.val % 128 = c.val; omega)
  have hb : (⟨(128 * (c.val / 128) + c.val % 128) / 128, by omega⟩ : Fin 4) = ⟨c.val / 128, by omega⟩ := Fin.ext (by
    show (128 * (c.val / 128) + c.val % 128) / 128 = c.val / 128; omega)
  unfold sOut srow byHead gated
  dsimp only
  rw [hr, hc, hb]
  rfl

/-- The values. -/
theorem vals (r : Fin 32768) (c : Fin 256) : val_main_v205 (F := Ideal) x g w (ix2 r c) = vrow (pr x g w r) c := by
  pointwise [val_main_v205]
  rw [val_main_v17_apply]
  exact proj_at x g w _ r ⟨2304 + c.val, by omega⟩ rfl rfl

/-- Token `s` of sequence `b`. -/
def tk (b : Fin 2) (s : Fin 16384) : Fin 32768 := ⟨16384 * b.val + s.val, by omega⟩

/-- A head's normalised query. -/
theorem qn_at (b : Fin 2) (s : Fin 16384) (h : Fin 8) (d : Fin 128) :
    val_main_v66 (F := Ideal) x g w gq (ix4 b s h d)
      = rms 1124073472#32 (fun d => pr x g w (tk b s) ⟨1024 + (128 * h.val + d.val), by omega⟩) (fun k => gq (ix2 0 k)) d := by
  have z : ∀ d : Fin 128, val_main_v53 (F := Ideal) x g w (ix4 b s h d) = pr x g w (tk b s) ⟨1024 + (128 * h.val + d.val), by omega⟩ := fun d => by
    rw [val_main_v53_apply, val_main_v15_apply]
    refine proj_at x g w _ _ _ ?_ ?_
    · show (((b.val * 16384 + s.val) * 8 + h.val) * 128 + d.val) / 1024 = 16384 * b.val + s.val; omega
    · show 1024 + (((b.val * 16384 + s.val) * 8 + h.val) * 128 + d.val) % 1024 = 1024 + (128 * h.val + d.val); omega
  pointwise [val_main_v66, val_main_v65, val_main_v64, val_main_v63, val_main_v62, val_main_v61, val_main_v60, val_main_v59, val_main_v58,
    val_main_v57, val_main_v56, val_main_v55, val_main_v54, val_main_cst_9, val_main_cst_10, val_main_cst_11]
  simp only [z]
  rfl

theorem kn_at (b : Fin 2) (s : Fin 16384) (h : Fin 2) (d : Fin 128) :
    val_main_v121 (F := Ideal) x g w gk (ix4 b s h d)
      = rms 1124073472#32 (fun d => pr x g w (tk b s) ⟨2048 + (128 * h.val + d.val), by omega⟩) (fun k => gk (ix2 0 k)) d := by
  have z : ∀ d : Fin 128, val_main_v108 (F := Ideal) x g w (ix4 b s h d) = pr x g w (tk b s) ⟨2048 + (128 * h.val + d.val), by omega⟩ := fun d => by
    rw [val_main_v108_apply, val_main_v16_apply]
    refine proj_at x g w _ _ _ ?_ ?_
    · show (((b.val * 16384 + s.val) * 2 + h.val) * 128 + d.val) / 256 = 16384 * b.val + s.val; omega
    · show 2048 + (((b.val * 16384 + s.val) * 2 + h.val) * 128 + d.val) % 256 = 2048 + (128 * h.val + d.val); omega
  pointwise [val_main_v121, val_main_v120, val_main_v119, val_main_v118, val_main_v117, val_main_v116, val_main_v115, val_main_v114, val_main_v113,
    val_main_v112, val_main_v111, val_main_v110, val_main_v109, val_main_cst_12, val_main_cst_13, val_main_cst_14]
  simp only [z]
  rfl

theorem mn_at (b : Fin 2) (s : Fin 16384) (h : Fin 4) (d : Fin 128) :
    val_main_v176 (F := Ideal) x g w gm (ix4 b s h d)
      = rms 1124073472#32 (fun d => pr x g w (tk b s) ⟨2560 + (128 * h.val + d.val), by omega⟩) (fun k => gm (ix2 0 k)) d := by
  have z : ∀ d : Fin 128, val_main_v163 (F := Ideal) x g w (ix4 b s h d) = pr x g w (tk b s) ⟨2560 + (128 * h.val + d.val), by omega⟩ := fun d => by
    rw [val_main_v163_apply, val_main_v18_apply]
    refine proj_at x g w _ _ _ ?_ ?_
    · show (((b.val * 16384 + s.val) * 4 + h.val) * 128 + d.val) / 512 = 16384 * b.val + s.val; omega
    · show 2560 + (((b.val * 16384 + s.val) * 4 + h.val) * 128 + d.val) % 512 = 2560 + (128 * h.val + d.val); omega
  pointwise [val_main_v176, val_main_v175, val_main_v174, val_main_v173, val_main_v172, val_main_v171, val_main_v170, val_main_v169, val_main_v168,
    val_main_v167, val_main_v166, val_main_v165, val_main_v164, val_main_cst_15, val_main_cst_16, val_main_cst_17]
  simp only [z]
  rfl

/-- A head's query, turned. -/
theorem qt_at (b : Fin 2) (s : Fin 16384) (h : Fin 8) (d : Fin 128) :
    val_main_v107 (F := Ideal) x cr sr cc sc g w gq (ix4 b s h d)
      = turned (rms 1124073472#32 (fun d => pr x g w (tk b s) ⟨1024 + (128 * h.val + d.val), by omega⟩) (fun k => gq (ix2 0 k)))
          (cosT (fun r k => cr (ix2 r k)) (fun r k => cc (ix2 r k)) s) (sinT (fun r k => sr (ix2 r k)) (fun r k => sc (ix2 r k)) s) d := by
  have z := qn_at x g w gq b s h
  revert z
  generalize (rms 1124073472#32 (fun d => pr x g w (tk b s) ⟨1024 + (128 * h.val + d.val), by omega⟩) (fun k => gq (ix2 0 k))) = n
  intro z
  refine Eq.trans ?_ (rotated_eq n (fun k => cr (ix2 s k)) (fun k => sr (ix2 s k)) (fun k => cc (ix2 s k)) (fun k => sc (ix2 s k)) d)
  pointwise [val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67]
  simp only [z]
  rfl

/-- A head's key, turned. -/
theorem kt_at (b : Fin 2) (s : Fin 16384) (h : Fin 2) (d : Fin 128) :
    val_main_v162 (F := Ideal) x cr sr cc sc g w gk (ix4 b s h d)
      = turned (rms 1124073472#32 (fun d => pr x g w (tk b s) ⟨2048 + (128 * h.val + d.val), by omega⟩) (fun k => gk (ix2 0 k)))
          (cosT (fun r k => cr (ix2 r k)) (fun r k => cc (ix2 r k)) s) (sinT (fun r k => sr (ix2 r k)) (fun r k => sc (ix2 r k)) s) d := by
  have z := kn_at x g w gk b s h
  revert z
  generalize (rms 1124073472#32 (fun d => pr x g w (tk b s) ⟨2048 + (128 * h.val + d.val), by omega⟩) (fun k => gk (ix2 0 k))) = n
  intro z
  refine Eq.trans ?_ (rotated_eq n (fun k => cr (ix2 s k)) (fun k => sr (ix2 s k)) (fun k => cc (ix2 s k)) (fun k => sc (ix2 s k)) d)
  pointwise [val_main_v162, val_main_v161, val_main_v160, val_main_v159, val_main_v158, val_main_v157, val_main_v156, val_main_v155, val_main_v154, val_main_v153, val_main_v152, val_main_v151, val_main_v150, val_main_v149, val_main_v148, val_main_v147, val_main_v146, val_main_v145, val_main_v144, val_main_v143, val_main_v142, val_main_v141, val_main_v140, val_main_v139, val_main_v138, val_main_v137, val_main_v136, val_main_v135, val_main_v134, val_main_v133, val_main_v132, val_main_v131, val_main_v130, val_main_v129, val_main_v128, val_main_v127, val_main_v126, val_main_v125, val_main_v124, val_main_v123, val_main_v122]
  simp only [z]
  rfl

/-- The two constants of the scale. -/
theorem root_at (i : S_.Idx) : val_main_v19 (F := Ideal) i = ((Real.sqrt 128 : ℝ) : EReal) := by
  pointwise [val_main_v19, val_main_cst_2]
  rw [word128, Ideal.sqrt_coe, if_neg (by norm_num)]

theorem word2 : Ideal.ofBits FTy.f32 0x40000000#32 = ((2 : ℝ) : EReal) := by
  simp [Ideal.ofBits, Ideal.ieee, -EReal.coe_mul]; norm_num [← EReal.coe_mul]

theorem both_at (i : S_.Idx) : val_main_v198 (F := Ideal) i = ((Real.sqrt 128 * Real.log 2 : ℝ) : EReal) := by
  rw [val_main_v198_apply, root_at]
  show _ * val_main_v20 (F := Ideal) i = _
  have : val_main_v20 (F := Ideal) i = ((Real.log 2 : ℝ) : EReal) := by
    pointwise [val_main_v20, val_main_cst_3]
    rw [word2, Ideal.log_coe, if_neg (by norm_num)]
  rw [this, EReal.coe_mul]

/-- A token is that of its sequence and position. -/
theorem tk_split (r : Fin 32768) : tk ⟨r.val / 16384, by omega⟩ ⟨r.val % 16384, by omega⟩ = r :=
  Fin.ext (by show 16384 * (r.val / 16384) + r.val % 16384 = r.val; omega)

/-- The queries. -/
theorem queries (r : Fin 32768) (c : Fin 1024) :
    val_main_v202 (F := Ideal) x cr sr cc sc g w gq (ix2 r c)
      = qOut (pr x g w) (fun k => gq (ix2 0 k)) (cosT (fun r k => cr (ix2 r k)) (fun r k => cc (ix2 r k)))
          (sinT (fun r k => sr (ix2 r k)) (fun r k => sc (ix2 r k))) r c := by
  pointwise [val_main_v202]
  rw [val_main_v201_apply]
  have hi : idx_main_v201 (ix2 r c) = ix4 (⟨r.val / 16384, by omega⟩ : Fin 2) (⟨r.val % 16384, by omega⟩ : Fin 16384)
      (⟨c.val / 128, by omega⟩ : Fin 8) (⟨c.val % 128, by omega⟩ : Fin 128) := by
    funext a
    apply Fin.ext
    match a with
    | ⟨0, _⟩ => show (r.val * 1024 + c.val) / 16777216 = r.val / 16384; omega
    | ⟨1, _⟩ => show (r.val * 1024 + c.val) / 1024 % 16384 = r.val % 16384; omega
    | ⟨2, _⟩ => show (r.val * 1024 + c.val) / 128 % 8 = c.val / 128; omega
    | ⟨3, _⟩ => show (r.val * 1024 + c.val) % 128 = c.val % 128; omega
  rw [hi]
  pointwise [val_main_v200, val_main_v199]
  rw [both_at, div_scale, qt_at, tk_split]
  rfl

/-- The keys. -/
theorem keys (r : Fin 32768) (c : Fin 256) :
    val_main_v204 (F := Ideal) x cr sr cc sc g w gk (ix2 r c)
      = kOut (pr x g w) (fun k => gk (ix2 0 k)) (cosT (fun r k => cr (ix2 r k)) (fun r k => cc (ix2 r k)))
          (sinT (fun r k => sr (ix2 r k)) (fun r k => sc (ix2 r k))) r c := by
  pointwise [val_main_v204]
  rw [val_main_v203_apply]
  have hi : idx_main_v203 (ix2 r c) = ix4 (⟨r.val / 16384, by omega⟩ : Fin 2) (⟨r.val % 16384, by omega⟩ : Fin 16384)
      (⟨c.val / 128, by omega⟩ : Fin 2) (⟨c.val % 128, by omega⟩ : Fin 128) := by
    funext a
    apply Fin.ext
    match a with
    | ⟨0, _⟩ => show (r.val * 256 + c.val) / 4194304 = r.val / 16384; omega
    | ⟨1, _⟩ => show (r.val * 256 + c.val) / 256 % 16384 = r.val % 16384; omega
    | ⟨2, _⟩ => show (r.val * 256 + c.val) / 128 % 2 = c.val / 128; omega
    | ⟨3, _⟩ => show (r.val * 256 + c.val) % 128 = c.val % 128; omega
  rw [hi, kt_at, tk_split]
  rfl

/-! ## The memory attention -/

section Memory

variable (b : Fin 2) (s : Fin 16384) (h : Fin 4)

/-- Memory token `n` of sequence `b`, column `d` of head `h`. -/
theorem mk_at (n : Fin 256) (d : Fin 128) :
    val_main_v178 (F := Ideal) mk (ix4 b n h d) = mk (ix2 (⟨256 * b.val + n.val, by omega⟩ : Fin 512) (⟨128 * h.val + d.val, by omega⟩ : Fin 512)) := by
  rw [val_main_v178_apply]
  refine pair mk (idx_main_v178 (ix4 b n h d)) _ _ ?_ ?_
  · show (((b.val * 256 + n.val) * 4 + h.val) * 128 + d.val) / 512 = 256 * b.val + n.val; omega
  · show (((b.val * 256 + n.val) * 4 + h.val) * 128 + d.val) % 512 = 128 * h.val + d.val; omega

theorem mv_at (n : Fin 256) (d : Fin 128) :
    val_main_v194 (F := Ideal) mv (ix4 b n h d) = mv (ix2 (⟨256 * b.val + n.val, by omega⟩ : Fin 512) (⟨128 * h.val + d.val, by omega⟩ : Fin 512)) := by
  rw [val_main_v194_apply]
  refine pair mv (idx_main_v194 (ix4 b n h d)) _ _ ?_ ?_
  · show (((b.val * 256 + n.val) * 4 + h.val) * 128 + d.val) / 512 = 256 * b.val + n.val; omega
  · show (((b.val * 256 + n.val) * 4 + h.val) * 128 + d.val) % 512 = 128 * h.val + d.val; omega

/-- The scores over the root. -/
theorem score_at (n : Fin 256) :
    val_main_v181 (F := Ideal) x g w gm mk (ix4 b h s n)
      = Ideal.div (∑ j : Fin 128, val_main_v176 (F := Ideal) x g w gm (ix4 b s h j) * val_main_v178 (F := Ideal) mk (ix4 b n h j))
          ((Real.sqrt 128 : ℝ) : EReal) := by
  pointwise [val_main_v181, val_main_v180, val_main_v179]
  rw [root_at]

/-- The largest score. -/
theorem top_at : val_main_v184 (F := Ideal) x g w gm mk (ix3 b h s)
    = Finset.univ.fold max ⊥ (fun n : Fin 256 => val_main_v181 (F := Ideal) x g w gm mk (ix4 b h s n)) := by
  have wbot : Ideal.ofBits FTy.f32 0xFF800000#32 = ⊥ := by simp [Ideal.ofBits, Ideal.ieee]
  rw [val_main_v184_apply]
  show max (val_main_v183 (F := Ideal) (ix3 b h s)) (val_main_v182 (F := Ideal) x g w gm mk (ix3 b h s)) = _
  have e0 : val_main_v183 (F := Ideal) (ix3 b h s) = ⊥ := by
    rw [val_main_v183_apply, val_main_cst_19_apply]
    exact wbot
  rw [e0]
  refine (max_eq_right bot_le).trans ?_
  unfold val_main_v182
  generalize val_main_v181 (F := Ideal) x g w gm mk = y
  have hr : S2x4x16384x256.Reduces [3] S2x4x16384 := by decide
  rw [Host.reduce_eq_fold_single (α := Ideal .f32) FloatOps.maximumf y _ Gen.reducesTo_S2x4x16384x256_S2x4x16384_d3 hr, val_main_cst_18_apply]
  show Finset.univ.fold max (Ideal.ofBits FTy.f32 0xFF800000#32) (fun n : Fin 256 => y (hr.lift (ix3 b h s) n)) = _
  rw [wbot]
  refine congrArg (fun f => Finset.univ.fold max ⊥ f) (funext fun n => congrArg y (funext fun a => Fin.ext ?_))
  match a with
  | ⟨0, _⟩ => rfl
  | ⟨1, _⟩ => rfl
  | ⟨2, _⟩ => rfl
  | ⟨3, _⟩ => rfl

/-- The weights. -/
theorem weight_at (n : Fin 256) :
    val_main_v192 (F := Ideal) x g w gm mk (ix4 b h s n)
      = Ideal.div (Ideal.exp (val_main_v181 (F := Ideal) x g w gm mk (ix4 b h s n) - val_main_v184 (F := Ideal) x g w gm mk (ix3 b h s)))
        (∑ k : Fin 256, Ideal.exp (val_main_v181 (F := Ideal) x g w gm mk (ix4 b h s k) - val_main_v184 (F := Ideal) x g w gm mk (ix3 b h s))) := by
  pointwise [val_main_v192, val_main_v191, val_main_v190, val_main_v189, val_main_v188, val_main_v187, val_main_v186, val_main_v185, val_main_cst_20]

/-- A head's weighted values, from real weights and keys. -/
theorem mem_at (d : Fin 128) (hg : ∀ k, IsReal (gm (ix2 0 k))) (hk : ∀ n k, IsReal (mk (ix2 n k))) :
    val_main_v196 (F := Ideal) x g w gm mk mv (ix4 b s h d)
      = attend (fun n : Fin 256 => ∑ j, rms 1124073472#32 (fun d => pr x g w (tk b s) ⟨2560 + (128 * h.val + d.val), by omega⟩) (fun k => gm (ix2 0 k)) j
          * (scale : EReal) * mk (ix2 (⟨256 * b.val + n.val, by omega⟩ : Fin 512) (⟨128 * h.val + j.val, by omega⟩ : Fin 512)))
          (fun n => mv (ix2 (⟨256 * b.val + n.val, by omega⟩ : Fin 512) (⟨128 * h.val + d.val, by omega⟩ : Fin 512))) := by
  refine Eq.trans ?_ (mem_eq (by norm_num) _ (fun n j => mk (ix2 (⟨256 * b.val + n.val, by omega⟩ : Fin 512) (⟨128 * h.val + j.val, by omega⟩ : Fin 512))) _
    (fun j => rms_real _ 128 (by norm_num) word128 _ _ hg j) (fun n j => hk _ _)).symm
  unfold softened
  pointwise [val_main_v196, val_main_v195]
  simp only [weight_at, top_at, score_at, mn_at, mk_at, mv_at]

end Memory

/-- The memory attention's result. -/
theorem memory (r : Fin 32768) (c : Fin 512) (hg : ∀ k, IsReal (gm (ix2 0 k)))
    (hk : ∀ n k, IsReal (mk (ix2 n k))) :
    val_main_v207 (F := Ideal) x g w gm mk mv (ix2 r c)
      = mOut (pr x g w) (fun k => gm (ix2 0 k)) (fun n k => mk (ix2 n k)) (fun n k => mv (ix2 n k)) r c := by
  pointwise [val_main_v207]
  rw [val_main_v206_apply]
  have hi : idx_main_v206 (ix2 r c) = ix4 (⟨r.val / 16384, by omega⟩ : Fin 2) (⟨r.val % 16384, by omega⟩ : Fin 16384)
      (⟨c.val / 128, by omega⟩ : Fin 4) (⟨c.val % 128, by omega⟩ : Fin 128) := by
    funext a
    apply Fin.ext
    match a with
    | ⟨0, _⟩ => show (r.val * 512 + c.val) / 8388608 = r.val / 16384; omega
    | ⟨1, _⟩ => show (r.val * 512 + c.val) / 512 % 16384 = r.val % 16384; omega
    | ⟨2, _⟩ => show (r.val * 512 + c.val) / 128 % 4 = c.val / 128; omega
    | ⟨3, _⟩ => show (r.val * 512 + c.val) % 128 = c.val % 128; omega
  rw [hi, mem_at x g w gm mk mv _ _ _ _ hg hk, tk_split]
  rfl

end Cert.InprojRefIdeal.Val
-- ==== Proof.InprojClaim.lean ====
/-
  The input projection's claim: the kernel's five result arrays are the reference's five results.
-/
module

public import proofs.«01_k».proof.Proof.AttnPre
public import proofs.«01_k».proof.Proof.InprojValue
public import proofs.«01_k».proof.Proof.InprojRef

@[expose] public section

noncomputable section

open Idealize.ShloMosaic Idealize.ShloMosaic.TcCoe Idealize.SL.Sem

namespace Cert.InprojIdeal.Val

open Cert.AttentionIdeal.Val (real_of_abs_lt and_one below)
open Cert.InprojMath (IsReal)

/-- The comparison with the 32-bit word of infinity. -/
theorem below32 (x : Ideal .f32) (h : FloatOps.cmpf .olt (FloatOps.hostAbsf x) (Scalar.ofBits .f32 0x7F800000#32) = 1#1) :
    max (x : EReal) (-x) < ⊤ := by
  rw [Ideal.hostAbsf_def, Ideal.absf_def, Ideal.cmpf_def] at h
  change Ideal.cmp .olt (max (x : EReal) (-x)) (Ideal.ofBits FTy.f32 0x7F800000#32) = 1#1 at h
  rw [show Ideal.ofBits FTy.f32 0x7F800000#32 = ⊤ by simp [Ideal.ofBits, Ideal.ieee]] at h
  by_contra hn
  simp [Ideal.cmp, hn] at h

open Cert.Pre_inproj_finite in
/-- The precondition: the memory queries' weights and the memory keys are real. -/
theorem pre_reads [Cert.Pre_inproj_finite.Facts] (x : FVec Ideal S32768x2048 .f32) (cr sr cc sc : FVec Ideal S16384x32 .f32)
    (g : FVec Ideal S1x2048 .f32) (w : FVec Ideal S2048x9216 .f32) (gs : FVec Ideal S1x128 .f32) (ws : FVec Ideal S4x128x128 .f32)
    (bs : FVec Ideal S4x128 .f32) (gq gk gm : FVec Ideal S1x128 .f32) (mk mv : FVec Ideal S512x512 .bf16)
    (h : fn (F := Ideal) x cr sr cc sc g w gs ws bs gq gk gm mk mv = fun _ => 1#1) :
    (∀ i, IsReal (gm i)) ∧ (∀ i, IsReal (mk i)) := by
  have h0 := congrFun h (fun a => a.elim0)
  unfold fn at h0
  dsimp only at h0
  change IntOp.andi _ _ = 1#1 at h0
  haveI : Subsingleton S_.Idx := ⟨fun a b => funext fun i => i.elim0⟩
  obtain ⟨h1, h2⟩ := and_one _ _ h0
  exact ⟨fun i => ⟨_, real_of_abs_lt _ (below32 (gm i) (Host.reduce_andi_all _ _ _ _ _ h1 i))⟩,
    fun i => ⟨_, real_of_abs_lt _ (below (mk i) (Host.reduce_andi_all _ _ _ _ _ h2 i))⟩⟩

end Cert.InprojIdeal.Val

namespace Cert.Proof

open Cert.InprojIdeal.Val Cert.InprojRefIdeal.Read Cert.InprojRefIdeal.Val

/-- The kernel and the reference end with equal results, from finite memory keys and weights of the memory queries. -/
theorem inproj [Cert.InprojIdeal.Facts] [Cert.InprojRefIdeal.Facts] [Cert.Pre_inproj_finite.Facts] :
    Cert.algebraic_InprojIdeal_InprojRefIdeal_pre_inproj_finite := by
  intro m g m' g' hpre hagree
  have hfin := fun c => pre_reads _ _ _ _ _ _ _ _ _ _ _ _ _ _ _ (hpre c)
  refine ⟨fun c => G13 m c, fun c => G14 m c, fun c => G15 m c, fun c => G16 m c, fun c => G17 m c,
    (θ_run _ _ _).mono (fun r h c => ?_) (Cert.InprojIdeal.Value.run_blocks m g), ?_⟩
  · obtain ⟨h0, h1, h2, h3, h4, ha⟩ := h c
    exact ⟨h0.trans (final13 m c), h1.trans (final14 m c), h2.trans (final15 m c), h3.trans (final16 m c), h4.trans (final17 m c), ha⟩
  refine (θ_run _ _ _).mono (fun r h c => ?_) (Cert.InprojRefIdeal.Value.run m' g')
  obtain ⟨h0, h1, h2, h3, h4, ha⟩ := h c
  obtain ⟨e0, e1, e2, e3, e4, e5, e6, e7, e8, e9, e10, e11, e12, e13, e14⟩ := hagree c
  have l : ∀ a, StableHlo.launchContents m' c (Proc.devRef .tc a) = m' ((c.tc : Thread Cert.InprojRefIdeal.nD Cert.InprojRefIdeal.τ).loc a) := fun _ => rfl
  refine ⟨?_, ?_, ?_, ?_, ?_, ha⟩
  · refine (h0.trans (val_main_v197_eq _)).trans ?_
    simp only [l, e0, e5, e6, e7, e8, e9]
    funext i
    rw [eq_ix2 i]
    exact sgu _ _ _ _ _ _ (i 0) (i 1)
  · refine (h1.trans (val_main_v202_eq _)).trans ?_
    simp only [l, e0, e1, e2, e3, e4, e5, e6, e10]
    funext i
    rw [eq_ix2 i]
    exact queries _ _ _ _ _ _ _ _ (i 0) (i 1)
  · refine (h2.trans (val_main_v204_eq _)).trans ?_
    simp only [l, e0, e1, e2, e3, e4, e5, e6, e11]
    funext i
    rw [eq_ix2 i]
    exact keys _ _ _ _ _ _ _ _ (i 0) (i 1)
  · refine (h3.trans (val_main_v205_eq _)).trans ?_
    simp only [l, e0, e5, e6]
    funext i
    rw [eq_ix2 i]
    exact vals _ _ _ (i 0) (i 1)
  · refine (h4.trans (val_main_v207_eq _)).trans ?_
    simp only [l, e0, e5, e6, e12, e13, e14]
    funext i
    rw [eq_ix2 i]
    exact memory _ _ _ _ _ _ (i 0) (i 1) (fun k => (hfin c).1 _) (fun n k => (hfin c).2 _)

end Cert.Proof
-- ==== Proof.MemkvValue.lean ====
/-
  What the memory projection's two result arrays end holding, element by element: the normalised key heads, and the values.
-/
module

public import proofs.«01_k».proof.Defs
public import proofs.«01_k».proof.Proof.ProjMath
public import proofs.«01_k».proof.Proof.Gen.MemkvIdeal.Value
public import Idealize.ShloMosaic.Lib.Pointwise
public import Idealize.ShloMosaic.Lib.Tactic
public import Idealize.ShloMosaic.Lib.StableHlo.ReadAt

@[expose] public section

noncomputable section

open Idealize.ShloMosaic Idealize.ShloMosaic.TcCoe Idealize.SL.Sem

namespace Cert.MemkvIdeal.Val

open Cert.MemkvIdeal Cert.MemkvIdeal.Gen Cert.MemkvIdeal.Value Cert.ProjMath

theorem hz : (![0, 0] : Fin 2 → Nat) = fun _ => 0 := funext fun a => by fin_cases a <;> rfl

/-- A head's columns over their root mean square, times the weights. -/
def headv (z : FVec Ideal S256x128 .f32) (g : FVec Ideal S1x128 .f32) : FVec Ideal S256x128 .f32 :=
  mulf (mulf z (broadcastTo S256x128 (rsqrt (addf (divf (shapeCast S256x1 (multiReduction .add [1] S256 (mulf z z) 0x00000000#32
    reduces_S256x128_S256 (.inl rfl) rfl) shapeCasts_S256_S256x1) (broadcast S256x1 (Scalar.ofBits .f32 0x43000000#32)))
    (broadcast S256x1 (Scalar.ofBits .f32 0x358637BD#32)))) broadcasts_S256x1_S256x128)) (broadcastTo S256x128 g broadcasts_S1x128_S256x128)

theorem headv_at (z : FVec Ideal S256x128 .f32) (g : FVec Ideal S1x128 .f32) (r : Fin 256) (d : Fin 128) :
    headv z g (ix2 r d) = rms 1124073472#32 (fun d => z (ix2 r d)) (fun d => g (ix2 0 d)) d := by
  pointwise [headv]
  rfl

/-- 128 columns of the projection. -/
theorem cols_at (z : FVec Ideal S256x1024 .f32) (o : ℕ) (hs) (r : Fin 256) (d : Fin 128) (c : Fin 1024) (hc : c.val = o + d.val) :
    extractStridedSlice S256x128 ![0, o] z hs (ix2 r d) = z (ix2 r c) :=
  extractStridedSlice_apply _ _ _ _ _ (fun a => match a with
    | ⟨0, _⟩ => by show r.val = 0 + r.val; omega
    | ⟨1, _⟩ => hc)

/-- The keys' store of one head, at an element. -/
theorem key_at (z : FVec Ideal S256x1024 .f32) (g : FVec Ideal S1x128 .f32) (h : Fin 4) (hs) (r : Fin 256) (d : Fin 128) :
    headv (extractStridedSlice S256x128 ![0, 128 * h.val] z hs) g (ix2 r d)
      = rms 1124073472#32 (fun d => z (ix2 r ⟨128 * h.val + d.val, by omega⟩)) (fun d => g (ix2 0 d)) d := by
  rw [headv_at]
  congr 1
  exact funext fun d => cols_at z _ hs r d _ rfl

/-- The key columns of the projection `z`, as a block. -/
def keys (z : FVec Ideal S256x1024 .f32) (g : FVec Ideal S1x128 .f32) (r : Fin 256) (c : Fin 512) : EReal :=
  byHead (H := 4) rfl (fun h d => rms 1124073472#32 (fun d => z (ix2 r ⟨128 * h.val + d.val, by omega⟩)) (fun d => g (ix2 0 d)) d) c

def keysV (z : FVec Ideal S256x1024 .f32) (g : FVec Ideal S1x128 .f32) : Vec Ideal S256x512 .bf16 := fun y => keys z g (y 0) (y 1)

/-- What the body leaves in the keys' block. -/
theorem out4_at (x0 : Vec Ideal S256x2048 .f32) (x1 : Vec Ideal S1x2048 .f32) (x2 : Vec Ideal S2048x1024 .bf16) (x3 : Vec Ideal S1x128 .f32)
    (r : Fin 256) (c : Fin 512) : out0_4 x0 x1 x2 x3 (ix2 r c) = keys (k0_pay3 x0 x1 x2) x3 r c := by
  unfold_out out0_4
  simp only [View.ld_unit_zero (S := S256x2048) hz, View.ld_unit_zero (S := S1x2048) hz, View.ld_unit_zero (S := S2048x1024) hz,
    View.ld_unit_zero (S := S1x128) hz]
  refine (View.canon_apply_of_pieces (keysV (k0_pay3 x0 x1 x2) x3) _ ?_ (ix2 r c) (cover0_4 _ _ _ _ _))
  have key : ∀ (h : Fin 4) (hs) (x : S256x128.Idx) (y : S256x512.Idx), (y 0).val = (x 0).val → (y 1).val = 128 * h.val + (x 1).val →
      headv (extractStridedSlice S256x128 ![0, 128 * h.val] (k0_pay3 x0 x1 x2) hs) x3 x = keys (k0_pay3 x0 x1 x2) x3 (y 0) (y 1) := by
    intro h hs x y e0 e1
    rw [eq_ix2 x]
    refine (key_at _ _ h hs (x 0) (x 1)).trans ?_
    rw [show x 0 = y 0 from Fin.ext e0.symm]
    exact (byHead_at (H := 4) rfl (fun h d => rms 1124073472#32 (fun d => k0_pay3 x0 x1 x2 (ix2 (y 0) ⟨128 * h.val + d.val, by omega⟩))
      (fun d => x3 (ix2 0 d)) d) (y 1) h (x 1) e1).symm
  intro pc hpc
  rcases List.mem_cons.mp hpc with rfl | hpc
  · exact fun x => key 3 slices_S256x1024_o0_384_S256x128 x _ (by show 0 + 1 * (x 0).val = _; omega) (by show 384 + 1 * (x 1).val = 128 * 3 + (x 1).val; omega)
  rcases List.mem_cons.mp hpc with rfl | hpc
  · exact fun x => key 2 slices_S256x1024_o0_256_S256x128 x _ (by show 0 + 1 * (x 0).val = _; omega) (by show 256 + 1 * (x 1).val = 128 * 2 + (x 1).val; omega)
  rcases List.mem_cons.mp hpc with rfl | hpc
  · exact fun x => key 1 slices_S256x1024_o0_128_S256x128 x _ (by show 0 + 1 * (x 0).val = _; omega) (by show 128 + 1 * (x 1).val = 128 * 1 + (x 1).val; omega)
  rcases List.mem_cons.mp hpc with rfl | hpc
  · exact fun x => key 0 slices_S256x1024_o0_0_S256x128 x _ (by show 0 + 1 * (x 0).val = _; omega) (by show 0 + 1 * (x 1).val = 128 * 0 + (x 1).val; omega)
  nomatch hpc

/-- What the body leaves in the values' block. -/
theorem out5_at (x0 : Vec Ideal S256x2048 .f32) (x1 : Vec Ideal S1x2048 .f32) (x2 : Vec Ideal S2048x1024 .bf16) (x3 : Vec Ideal S1x128 .f32)
    (r : Fin 256) (c : Fin 512) : out0_5 x0 x1 x2 x3 (ix2 r c) = k0_pay3 x0 x1 x2 (ix2 r ⟨512 + c.val, by omega⟩) := by
  unfold_out out0_5
  simp only [View.ld_unit_zero (S := S256x2048) hz, View.ld_unit_zero (S := S1x2048) hz, View.ld_unit_zero (S := S2048x1024) hz]
  refine (canon5_eq _ _ _ _).trans ?_
  exact pair (k0_pay3 x0 x1 x2) (ix5_0 (ix2 r c)) r ⟨512 + c.val, by omega⟩ rfl (Nat.add_comm _ _)

variable (m : (ℓ : Loc nD τ sig) → Buf (Elt Ideal) ℓ)

/-- The arguments as tables. -/
def aX (c : Dev nD) : Fin 512 → Fin 2048 → EReal := fun r k => m ((c : Thread nD τ).loc main_arg0) (ix2 r k)
def aG (c : Dev nD) : Fin 2048 → EReal := fun k => m ((c : Thread nD τ).loc main_arg1) (ix2 (0 : Fin 1) k)
def aW (c : Dev nD) : Fin 2048 → Fin 1024 → EReal := fun k e => m ((c : Thread nD τ).loc main_arg2) (ix2 k e)
def aK (c : Dev nD) : Fin 128 → EReal := fun d => m ((c : Thread nD τ).loc main_arg3) (ix2 (0 : Fin 1) d)

/-- Where the windows stand at point `t`. -/
theorem at_point : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0) :=
  (by decide +kernel : ∀ t : Fin grid0.N, _)

theorem lt_N (t : Fin cfg0.N) : t.val < 2 := lt_of_lt_of_eq t.isLt (show cfg0.N = 2 from N_0)

/-- Row `r` of the block of point `t`. -/
def tok (t : Fin cfg0.N) (r : Fin 256) : Fin 512 := ⟨256 * t.val + r.val, by have := lt_N t; omega⟩

theorem V_cast (c : Dev nD) (j) : V m c main_v0 j = m ((c : Thread nD τ).loc main_arg2) j := by
  unfold V
  after_reads_at

theorem iblk0 (c : Dev nD) (t : Fin cfg0.N) (r : Fin 256) (k : Fin 2048) :
    iblk m c 0 t (ix2 r k) = aX m c (tok t r) k := by
  have e := (at_point t).1
  refine (pair (V m c main_arg0) _ (tok t r) k ?_ ?_).trans (congrFun (V_main_arg0 m c) _)
  · show win0_0.index t 0 * 256 + 1 * r.val = 256 * t.val + r.val; omega
  · show win0_0.index t 1 * 2048 + 1 * k.val = k.val; omega

theorem iblk1 (c : Dev nD) (t : Fin cfg0.N) (k : Fin 2048) : iblk m c 1 t (ix2 (0 : Fin 1) k) = aG m c k := by
  have e := (at_point t).2.1
  refine (pair (V m c main_arg1) _ (0 : Fin 1) k ?_ ?_).trans (congrFun (V_main_arg1 m c) _)
  · show win0_1.index t 0 * 1 + 1 * 0 = 0; omega
  · show win0_1.index t 1 * 2048 + 1 * k.val = k.val; omega

theorem iblk2 (c : Dev nD) (t : Fin cfg0.N) (r : Fin 2048) (k : Fin 1024) : iblk m c 2 t (ix2 r k) = aW m c r k := by
  have e := (at_point t).2.2.1
  refine (pair (V m c main_v0) _ r k ?_ ?_).trans (V_cast m c _)
  · show win0_2.index t 0 * 2048 + 1 * r.val = r.val; omega
  · show win0_2.index t 1 * 1024 + 1 * k.val = k.val; omega

theorem iblk3 (c : Dev nD) (t : Fin cfg0.N) (k : Fin 128) : iblk m c 3 t (ix2 (0 : Fin 1) k) = aK m c k := by
  have e := (at_point t).2.2.2.1
  refine (pair (V m c main_arg3) _ (0 : Fin 1) k ?_ ?_).trans (congrFun (V_main_arg3 m c) _)
  · show win0_3.index t 0 * 1 + 1 * 0 = 0; omega
  · show win0_3.index t 1 * 128 + 1 * k.val = k.val; omega

/-- The block's projection. -/
theorem proj_at (c : Dev nD) (t : Fin cfg0.N) (r : Fin 256) (e : Fin 1024) :
    k0_pay3 (iblk m c 0 t) (iblk m c 1 t) (iblk m c 2 t) (ix2 r e) = zed (aX m c) (aG m c) (aW m c) (tok t r) e := by
  pointwise [k0_pay3]
  simp only [iblk0 m c t, iblk1 m c t, iblk2 m c t]
  rfl

/-- The two results. -/
def keyOf (c : Dev nD) (r : Fin 512) (e : Fin 512) : EReal :=
  byHead (H := 4) rfl (fun h d => rms 1124073472#32 (fun d => zed (aX m c) (aG m c) (aW m c) r ⟨128 * h.val + d.val, by omega⟩) (aK m c) d) e
def valOf (c : Dev nD) (r : Fin 512) (e : Fin 512) : EReal := zed (aX m c) (aG m c) (aW m c) r ⟨512 + e.val, by omega⟩

def K (c : Dev nD) : FVec Ideal S512x512 .bf16 := fun i => keyOf m c (i 0) (i 1)
def U (c : Dev nD) : FVec Ideal S512x512 .bf16 := fun i => valOf m c (i 0) (i 1)

/-- The block's keys. -/
theorem block_keys (c : Dev nD) (t : Fin cfg0.N) (r : Fin 256) (e : Fin 512) :
    keys (k0_pay3 (iblk m c 0 t) (iblk m c 1 t) (iblk m c 2 t)) (iblk m c 3 t) r e = keyOf m c (tok t r) e := by
  unfold keys keyOf
  simp only [proj_at m c t, iblk3 m c t]

/-- An index of an array is that of its block's row in the block of that row. -/
theorem in_block (i : S512x512.Idx) : ∃ t : Fin cfg0.N, ∃ y : S256x512.Idx, t.val * 256 + (y 0).val = (i 0).val ∧ (y 1).val = (i 1).val := by
  have h0 : (i 0).val < 512 := (i 0).isLt
  exact ⟨⟨(i 0).val / 256, by rw [show cfg0.N = 2 from N_0]; omega⟩, ix2 (⟨(i 0).val % 256, by omega⟩ : Fin 256) (i 1),
    by show (i 0).val / 256 * 256 + (i 0).val % 256 = (i 0).val; omega, rfl⟩

/-- The keys' array after the run. -/
theorem keys_final (c : Dev nD) : (dats m 0 c).arrAt 4 cfg0.N = K m c := by
  refine (dats m 0 c).arrAt_eq_of_cover 4 (K m c) (fun t _ => ?_) fun i => ?_
  · rw [flushed4]
    funext y
    have e := (at_point t).2.2.2.2.1
    refine (congrArg (out0_4 (iblk m c 0 t) (iblk m c 1 t) (iblk m c 2 t) (iblk m c 3 t)) (eq_ix2 y)).trans
      ((out4_at _ _ _ _ (y 0) (y 1)).trans (Eq.trans ?_ (pair (K m c) (((cfg0.win 4).blk t).view.emb y) (tok t (y 0)) (y 1) ?_ ?_).symm))
    · exact block_keys m c t (y 0) (y 1)
    · show win0_4.index t 0 * 256 + 1 * (y 0).val = 256 * t.val + (y 0).val; omega
    · show win0_4.index t 1 * 512 + 1 * (y 1).val = (y 1).val; omega
  · obtain ⟨t, y, e0, e1⟩ := in_block i
    have e := (at_point t).2.2.2.2.1
    have h := ((cfg0.win 4).blk t).view.emb_mem_set y
    have hi : ((cfg0.win 4).blk t).view.emb y = i := funext fun a => Fin.ext (match a with
      | ⟨0, _⟩ => by show win0_4.index t 0 * 256 + 1 * (y 0).val = (i 0).val; omega
      | ⟨1, _⟩ => by show win0_4.index t 1 * 512 + 1 * (y 1).val = (i 1).val; omega)
    exact ⟨t, flush0_4 t, hi ▸ h⟩

/-- The values' array after the run. -/
theorem vals_final (c : Dev nD) : (dats m 0 c).arrAt 5 cfg0.N = U m c := by
  refine (dats m 0 c).arrAt_eq_of_cover 5 (U m c) (fun t _ => ?_) fun i => ?_
  · rw [flushed5]
    funext y
    have e := (at_point t).2.2.2.2.2
    refine (congrArg (out0_5 (iblk m c 0 t) (iblk m c 1 t) (iblk m c 2 t) (iblk m c 3 t)) (eq_ix2 y)).trans
      ((out5_at _ _ _ _ (y 0) (y 1)).trans (Eq.trans ?_ (pair (U m c) (((cfg0.win 5).blk t).view.emb y) (tok t (y 0)) (y 1) ?_ ?_).symm))
    · exact proj_at m c t _ _
    · show win0_5.index t 0 * 256 + 1 * (y 0).val = 256 * t.val + (y 0).val; omega
    · show win0_5.index t 1 * 512 + 1 * (y 1).val = (y 1).val; omega
  · obtain ⟨t, y, e0, e1⟩ := in_block i
    have e := (at_point t).2.2.2.2.2
    have h := ((cfg0.win 5).blk t).view.emb_mem_set y
    have hi : ((cfg0.win 5).blk t).view.emb y = i := funext fun a => Fin.ext (match a with
      | ⟨0, _⟩ => by show win0_5.index t 0 * 256 + 1 * (y 0).val = (i 0).val; omega
      | ⟨1, _⟩ => by show win0_5.index t 1 * 512 + 1 * (y 1).val = (i 1).val; omega)
    exact ⟨t, flush0_5 t, hi ▸ h⟩

end Cert.MemkvIdeal.Val
-- ==== Proof.MemkvClaim.lean ====
/-
  The memory projection's claim: what the reference computes is the same mathematics, so the two results are equal.
-/
module

public import proofs.«01_k».proof.Proof.MemkvValue
public import proofs.«01_k».proof.Proof.Gen.MemkvRefIdeal.Run
public import proofs.«01_k».proof.Proof.Gen.MemkvRefIdeal.Read

@[expose] public section

noncomputable section

open Idealize.ShloMosaic Idealize.ShloMosaic.TcCoe Idealize.SL.Sem

namespace Cert.MemkvRefIdeal.Val

open Cert.MemkvRefIdeal Cert.MemkvRefIdeal.Read Cert.ProjMath

variable (x : FVec Ideal S512x2048 .f32) (g : FVec Ideal S1x2048 .f32) (w : FVec Ideal S2048x1024 .f32) (a : FVec Ideal S1x128 .f32)

/-- The reference's projection. -/
theorem proj_at (r : Fin 512) (e : Fin 1024) :
    val_main_v12 (F := Ideal) x g w (ix2 r e) = zed (fun r k => x (ix2 r k)) (fun k => g (ix2 0 k)) (fun k e => w (ix2 k e)) r e := by
  pointwise [val_main_v12, val_main_v11, val_main_v10, val_main_v9, val_main_v8, val_main_v7, val_main_v6, val_main_v5, val_main_v4,
    val_main_v3, val_main_v2, val_main_v1, val_main_v0, val_main_cst, val_main_cst_0, val_main_cst_1]
  rfl

/-- A head's columns of the reference's projection. -/
theorem head_at (r : Fin 512) (h : Fin 4) (d : Fin 128) :
    val_main_v15 (F := Ideal) x g w (ix3 r h d) = val_main_v12 (F := Ideal) x g w (ix2 r ⟨128 * h.val + d.val, by omega⟩) := by
  rw [val_main_v15_apply, val_main_v13_apply]
  refine pair _ _ _ _ ?_ ?_
  · show ((r.val * 4 + h.val) * 128 + d.val) / 512 = r.val; omega
  · show ((r.val * 4 + h.val) * 128 + d.val) % 512 = 128 * h.val + d.val; omega

/-- The reference's keys, by heads. -/
theorem key_at (r : Fin 512) (h : Fin 4) (d : Fin 128) :
    val_main_v28 (F := Ideal) x g w a (ix3 r h d)
      = rms 1124073472#32 (fun d => zed (fun r k => x (ix2 r k)) (fun k => g (ix2 0 k)) (fun k e => w (ix2 k e)) r ⟨128 * h.val + d.val, by omega⟩)
          (fun d => a (ix2 0 d)) d := by
  pointwise [val_main_v28, val_main_v27, val_main_v26, val_main_v25, val_main_v24, val_main_v23, val_main_v22, val_main_v21, val_main_v20,
    val_main_v19, val_main_v18, val_main_v17, val_main_v16, val_main_cst_2, val_main_cst_3, val_main_cst_4]
  simp only [head_at, proj_at]
  rfl

theorem keys (r : Fin 512) (e : Fin 512) :
    val_main_v30 (F := Ideal) x g w a (ix2 r e)
      = byHead (H := 4) rfl (fun h d => rms 1124073472#32 (fun d => zed (fun r k => x (ix2 r k)) (fun k => g (ix2 0 k)) (fun k e => w (ix2 k e)) r
          ⟨128 * h.val + d.val, by omega⟩) (fun d => a (ix2 0 d)) d) e := by
  rw [val_main_v30_apply, val_main_v29_apply]
  have hi : idx_main_v29 (ix2 r e) = ix3 r (⟨e.val / 128, by omega⟩ : Fin 4) (⟨e.val % 128, by omega⟩ : Fin 128) := by
    funext b
    apply Fin.ext
    match b with
    | ⟨0, _⟩ => show (r.val * 512 + e.val) / 512 = r.val; omega
    | ⟨1, _⟩ => show (r.val * 512 + e.val) / 128 % 4 = e.val / 128; omega
    | ⟨2, _⟩ => show (r.val * 512 + e.val) % 128 = e.val % 128; omega
  rw [hi, key_at]
  rfl

theorem vals (r : Fin 512) (e : Fin 512) :
    val_main_v31 (F := Ideal) x g w (ix2 r e)
      = zed (fun r k => x (ix2 r k)) (fun k => g (ix2 0 k)) (fun k e => w (ix2 k e)) r ⟨512 + e.val, by omega⟩ := by
  rw [val_main_v31_apply, val_main_v14_apply]
  exact (pair _ _ r ⟨512 + e.val, by omega⟩ rfl rfl).trans (proj_at x g w _ _)

end Cert.MemkvRefIdeal.Val

namespace Cert.Proof

/-- The kernel and the reference end with equal results. -/
theorem memkv [Cert.MemkvIdeal.Facts] [Cert.MemkvRefIdeal.Facts] : Cert.algebraic_MemkvIdeal_MemkvRefIdeal := by
  intro m g m' g' _ hagree
  refine ⟨fun c => Cert.MemkvIdeal.Val.K m c, fun c => Cert.MemkvIdeal.Val.U m c,
    (θ_run _ _ _).mono (fun r h c => ⟨(h c).1.trans (Cert.MemkvIdeal.Val.keys_final m c),
      (h c).2.1.trans (Cert.MemkvIdeal.Val.vals_final m c), (h c).2.2⟩) (Cert.MemkvIdeal.Value.run_blocks m g), ?_⟩
  refine (θ_run _ _ _).mono (fun r h c => ⟨?_, ?_, (h c).2.2⟩) (Cert.MemkvRefIdeal.Value.run m' g')
  · obtain ⟨e0, e1, e2, e3⟩ := hagree c
    refine ((h c).1.trans (Cert.MemkvRefIdeal.Read.val_main_v30_eq ..)).trans ?_
    rw [e0, e1, e2, e3]
    funext i
    rw [eq_ix2 i]
    exact Cert.MemkvRefIdeal.Val.keys _ _ _ _ (i 0) (i 1)
  · obtain ⟨e0, e1, e2, _⟩ := hagree c
    refine ((h c).2.1.trans (Cert.MemkvRefIdeal.Read.val_main_v31_eq ..)).trans ?_
    rw [e0, e1, e2]
    funext i
    rw [eq_ix2 i]
    exact Cert.MemkvRefIdeal.Val.vals _ _ _ (i 0) (i 1)

end Cert.Proof
-- ==== Proof.MergeMath.lean ====
/-
  The gated merge as mathematics over the extended reals: each of three branches is projected onto the model's width and
  weighted by its gate, a logistic of a projection of the token's normalised row; their sum is projected once more and added
  to the row. Beside it the same value as a sum over four tiles of 512 columns, and that the two agree.
-/
module

public import proofs.«01_k».proof.Proof.FfnMath

@[expose] public section

noncomputable section

open Idealize.ShloMosaic

namespace Cert.MergeMath

open Cert.FfnMath (nrm)

variable (X : Fin 32768 → Fin 2048 → EReal) (G : Fin 2048 → EReal) (W : Fin 2048 → Fin 9216 → EReal) (B : Fin 3 → Fin 2048 → EReal)
variable (Y0 : Fin 32768 → Fin 512 → EReal) (Y1 : Fin 32768 → Fin 1024 → EReal) (Y2 : Fin 32768 → Fin 512 → EReal)
variable (U0 : Fin 512 → Fin 2048 → EReal) (U1 : Fin 1024 → Fin 2048 → EReal) (U2 : Fin 512 → Fin 2048 → EReal)

/-- Column `c` of branch `i`'s gate columns in the input projection, which the mixers' 3072 columns precede. -/
def gcol (i : Fin 3) (c : Fin 2048) : Fin 9216 := ⟨3072 + (2048 * i.val + c.val), by omega⟩

/-- Branch `i`'s gate for token `r` at column `c`. -/
def gate (r : Fin 32768) (i : Fin 3) (c : Fin 2048) : EReal :=
  Ideal.logistic ((∑ k, nrm X G r k * W k (gcol i c)) + B i c)

/-- The gated sum of the three branches for token `r` at column `c`. -/
def mix (r : Fin 32768) (c : Fin 2048) : EReal :=
  gate X G W B r 0 c * (∑ j, Y0 r j * U0 j c) + gate X G W B r 1 c * (∑ j, Y1 r j * U1 j c)
    + gate X G W B r 2 c * (∑ j, Y2 r j * U2 j c)

section Tiles
variable (Z : Fin 32768 → Fin 2048 → EReal) (O : Fin 2048 → Fin 2048 → EReal)

/-- The row plus the projected `Z`. -/
def out (r : Fin 32768) (k : Fin 2048) : EReal := X r k + ∑ c, Z r c * O c k

/-- What tile `s` of 512 columns adds to token `r`'s result at column `k`. -/
def tile (r : Fin 32768) (s : ℕ) (k : Fin 2048) : EReal :=
  if h : s < 4 then ∑ x : Fin 512, Z r ⟨s * 512 + x.val, by omega⟩ * O ⟨s * 512 + x.val, by omega⟩ k else 0

/-- The row plus the first `n` tiles. -/
def upTo (n : ℕ) (r : Fin 32768) (k : Fin 2048) : EReal := X r k + ∑ s ∈ Finset.range n, tile Z O r s k

theorem upTo_zero (r : Fin 32768) (k : Fin 2048) : upTo X Z O 0 r k = X r k := by
  simp [upTo]

theorem upTo_succ (n : ℕ) (r : Fin 32768) (k : Fin 2048) :
    upTo X Z O (n + 1) r k = upTo X Z O n r k + tile Z O r n k := by
  simp only [upTo, Finset.sum_range_succ, add_assoc]

/-- All four tiles make up the sum over the 2048 columns. -/
theorem upTo_four (r : Fin 32768) (k : Fin 2048) : upTo X Z O 4 r k = out X Z O r k := by
  unfold upTo out
  rw [Fin.sum_univ_tiles 4 512 (by norm_num), Finset.sum_range]
  refine congrArg _ (Finset.sum_congr rfl fun s _ => ?_)
  unfold tile
  rw [dif_pos s.isLt]

end Tiles

end Cert.MergeMath
-- ==== Proof.MergeBlocks.lean ====
/-
  One grid point of the merge kernel: what the body leaves in the result block and in the carried rows, as the payloads of
  its stores; and what each input block holds, as elements of the call's arguments.
-/
module

public import proofs.«01_k».proof.Defs
public import proofs.«01_k».proof.Proof.MergeMath
public import proofs.«01_k».proof.Proof.Gen.MergeIdeal.Value
public import Idealize.ShloMosaic.Lib.Pointwise
public import Idealize.ShloMosaic.Lib.Tactic
public import Idealize.ShloMosaic.Lib.StableHlo.ReadAt

@[expose] public section

noncomputable section

open Idealize.ShloMosaic Idealize.ShloMosaic.TcCoe Idealize.SL.Sem

namespace Cert.MergeIdeal.Val

open Cert.MergeIdeal Cert.MergeIdeal.Gen Cert.MergeMath

theorem hz : (![0, 0] : Fin 2 → Nat) = fun _ => 0 := funext fun a => by fin_cases a <;> rfl

/-- Row `n` of the three rows of gate biases. -/
def bias (x : Vec Ideal S3x512 .f32) (n : ℕ) (inb : ∀ a, (![n, 0] : Fin 2 → ℕ) a + S1x512.size a ≤ S3x512.size a) :
    Vec Ideal S1x512 .f32 :=
  View.ld x (Rect.unit (s := S3x512) ![n, 0] S1x512.size inb)

theorem bias_at (x : Vec Ideal S3x512 .f32) (n : Fin 3) (inb) (e : Fin 512) : bias x n.val inb (ix2 (0 : Fin 1) e) = x (ix2 n e) := by
  refine congrArg x (funext fun a => Fin.ext ?_)
  match a with
  | ⟨0, _⟩ => show n.val + 1 * 0 = n.val; omega
  | ⟨1, _⟩ => show 0 + 1 * e.val = e.val; omega

/-- A point's store into the result block, over the carried rows `h` and what the block holds. -/
def step (h : Vec Ideal S512x2048 .bf16) (x2 : Vec Ideal S512x512 .bf16) (x3 : Vec Ideal S512x1024 .bf16) (x4 : Vec Ideal S512x512 .bf16)
    (x5 x6 x7 : Vec Ideal S2048x512 .bf16) (x8 : Vec Ideal S3x512 .f32) (x9 : Vec Ideal S512x512 .bf16) (x10 : Vec Ideal S1024x512 .bf16)
    (x11 : Vec Ideal S512x512 .bf16) (x12 : Vec Ideal S512x2048 .bf16) (o : Vec Ideal S512x2048 .f32) : Vec Ideal S512x2048 .f32 :=
  k0_pay1 h (k0_pay3 h x5 (bias x8 0 inb_S3x512_S1x512_0_0) x2 x9 x6 (bias x8 1 inb_S3x512_S1x512_1_0) x3 x10) (k0_pay4 x7)
    (bias x8 2 inb_S3x512_S1x512_2_0) x4 x11 o x12

section Cases
variable (c : Dev nD) (i : grid0.Coords)
  (a2 : Memref sig .tc .vmem S512x2048 .f32) (h2 : a2.IsWhole) (a3 : Memref sig .tc .vmem S1x2048 .f32) (h3 : a3.IsWhole)
  (a4 : Memref sig .tc .vmem S512x512 .bf16) (h4 : a4.IsWhole) (a5 : Memref sig .tc .vmem S512x1024 .bf16) (h5 : a5.IsWhole)
  (a6 : Memref sig .tc .vmem S512x512 .bf16) (h6 : a6.IsWhole) (a7 : Memref sig .tc .vmem S2048x512 .bf16) (h7 : a7.IsWhole)
  (a8 : Memref sig .tc .vmem S2048x512 .bf16) (h8 : a8.IsWhole) (a9 : Memref sig .tc .vmem S2048x512 .bf16) (h9 : a9.IsWhole)
  (a10 : Memref sig .tc .vmem S3x512 .f32) (h10 : a10.IsWhole) (a11 : Memref sig .tc .vmem S512x512 .bf16) (h11 : a11.IsWhole)
  (a12 : Memref sig .tc .vmem S1024x512 .bf16) (h12 : a12.IsWhole) (a13 : Memref sig .tc .vmem S512x512 .bf16) (h13 : a13.IsWhole)
  (a14 : Memref sig .tc .vmem S512x2048 .bf16) (h14 : a14.IsWhole) (a15 : Memref sig .tc .vmem S512x2048 .f32) (h15 : a15.IsWhole)
  (a16 : Memref sig .tc .vmem S512x2048 .bf16) (h16 : a16.IsWhole)
  (x0 : Vec Ideal S512x2048 .f32) (x1 : Vec Ideal S1x2048 .f32) (x2 : Vec Ideal S512x512 .bf16) (x3 : Vec Ideal S512x1024 .bf16)
  (x4 : Vec Ideal S512x512 .bf16) (x5 x6 x7 : Vec Ideal S2048x512 .bf16) (x8 : Vec Ideal S3x512 .f32) (x9 : Vec Ideal S512x512 .bf16)
  (x10 : Vec Ideal S1024x512 .bf16) (x11 : Vec Ideal S512x512 .bf16) (x12 : Vec Ideal S512x2048 .bf16)
  (xo : Vec Ideal S512x2048 .f32) (xs : Vec Ideal S512x2048 .bf16)

/-- A later point adds its tile to what the block holds, over the carried rows. -/
theorem outB (hc : ¬cond0_0 i) :
    out0_B_13 c i a2 h2 a3 h3 a4 h4 a5 h5 a6 h6 a7 h7 a8 h8 a9 h9 a10 h10 a11 h11 a12 h12 a13 h13 a14 h14 a15 h15 a16 h16 hc x0 x1 x2 x3 x4 x5 x6
      x7 x8 x9 x10 x11 x12 xo xs = step xs x2 x3 x4 x5 x6 x7 x8 x9 x10 x11 x12 xo := by
  unfold out0_B_13
  rw [View.read_writes_eq_canon _ _ _ (cover0_B_13 c i a2 h2 a3 h3 a4 h4 a5 h5 a6 h6 a7 h7 a8 h8 a9 h9 a10 h10 a11 h11 a12 h12 a13 h13 a14 h14 a15
      h15 a16 h16 hc x0 x1 x2 x3 x4 x5 x6 x7 x8 x9 x10 x11 x12 xo xs)]
  unfold kernelRun0_B
  dsimp only
  try sl_unfold_words
  rw [View.canon_unit_zero hz]
  simp only [View.readAt_eq_ld, h4.read_unread, h5.read_unread, h6.read_unread, h7.read_unread, h8.read_unread, h9.read_unread,
    h10.read_unread, h11.read_unread, h12.read_unread, h13.read_unread, h14.read_unread, h15.read_unread, h16.read_unread,
    View.ld_unit_zero (S := S512x2048) hz, View.ld_unit_zero (S := S2048x512) hz, View.ld_unit_zero (S := S512x512) hz,
    View.ld_unit_zero (S := S512x1024) hz, View.ld_unit_zero (S := S1024x512) hz]
  rfl

/-- A later point leaves the carried rows alone. -/
theorem soutB (hc : ¬cond0_0 i) :
    sout0_B_0 c i a2 h2 a3 h3 a4 h4 a5 h5 a6 h6 a7 h7 a8 h8 a9 h9 a10 h10 a11 h11 a12 h12 a13 h13 a14 h14 a15 h15 a16 h16 hc x0 x1 x2 x3 x4 x5 x6
      x7 x8 x9 x10 x11 x12 xo xs = xs := by
  unfold sout0_B_0
  rfl

/-- A row block's first point stores the normalised rows. -/
theorem soutA (hc : cond0_0 i) :
    sout0_A_0 c i a2 h2 a3 h3 a4 h4 a5 h5 a6 h6 a7 h7 a8 h8 a9 h9 a10 h10 a11 h11 a12 h12 a13 h13 a14 h14 a15 h15 a16 h16 hc x0 x1 x2 x3 x4 x5 x6
      x7 x8 x9 x10 x11 x12 = k0_pay2 x0 x1 := by
  unfold sout0_A_0
  rw [View.read_writes_eq_canon _ _ _ (scover0_A_0 c i a2 h2 a3 h3 a4 h4 a5 h5 a6 h6 a7 h7 a8 h8 a9 h9 a10 h10 a11 h11 a12 h12 a13 h13 a14 h14 a15
      h15 a16 h16 hc x0 x1 x2 x3 x4 x5 x6 x7 x8 x9 x10 x11 x12)]
  unfold kernelRun0_A
  dsimp only
  sl_unfold_words
  rw [View.canon_unit_zero hz]
  simp only [View.readAt_eq_ld, h2.read_unread, h3.read_unread, View.ld_unit_zero (S := S512x2048) hz,
    View.ld_unit_zero (S := S1x2048) hz]

/-- A row block's first point leaves the rows plus the first tile. -/
theorem outA (hc : cond0_0 i) :
    out0_A_13 c i a2 h2 a3 h3 a4 h4 a5 h5 a6 h6 a7 h7 a8 h8 a9 h9 a10 h10 a11 h11 a12 h12 a13 h13 a14 h14 a15 h15 a16 h16 hc x0 x1 x2 x3 x4 x5 x6
      x7 x8 x9 x10 x11 x12 = step (k0_pay2 x0 x1) x2 x3 x4 x5 x6 x7 x8 x9 x10 x11 x12 x0 := by
  unfold out0_A_13
  rw [View.read_writes_eq_canon _ _ _ (cover0_A_13 c i a2 h2 a3 h3 a4 h4 a5 h5 a6 h6 a7 h7 a8 h8 a9 h9 a10 h10 a11 h11 a12 h12 a13 h13 a14 h14 a15
      h15 a16 h16 hc x0 x1 x2 x3 x4 x5 x6 x7 x8 x9 x10 x11 x12)]
  unfold kernelRun0_A
  dsimp only
  sl_unfold_words
  rw [View.canon_cons_unit_zero (S := S512x2048) hz]
  simp only [View.readCov_unit_zero (S := S512x2048) _ hz, View.readAt_eq_ld, h2.read_unread, h3.read_unread, h4.read_unread,
    h5.read_unread, h6.read_unread, h7.read_unread, h8.read_unread, h9.read_unread, h10.read_unread, h11.read_unread,
    h12.read_unread, h13.read_unread, h14.read_unread, View.ld_unit_zero (S := S512x2048) hz, View.ld_unit_zero (S := S1x2048) hz,
    View.ld_unit_zero (S := S2048x512) hz, View.ld_unit_zero (S := S512x512) hz,
    View.ld_unit_zero (S := S512x1024) hz, View.ld_unit_zero (S := S1024x512) hz]
  rfl

end Cases

variable (m : (ℓ : Loc nD τ sig) → Buf (Elt Ideal) ℓ)

/-- Where the windows stand at point `t`: row block `t / 4`, tile of columns `t % 4`. -/
theorem at_rows : ∀ t : Fin cfg0.N,
    (win0_0.index t (0 : Fin 2) = t.val / 4 ∧ win0_0.index t (1 : Fin 2) = 0)
    ∧ (win0_1.index t (0 : Fin 2) = 0 ∧ win0_1.index t (1 : Fin 2) = 0)
    ∧ (win0_2.index t (0 : Fin 2) = t.val / 4 ∧ win0_2.index t (1 : Fin 2) = 0)
    ∧ (win0_3.index t (0 : Fin 2) = t.val / 4 ∧ win0_3.index t (1 : Fin 2) = 0)
    ∧ (win0_4.index t (0 : Fin 2) = t.val / 4 ∧ win0_4.index t (1 : Fin 2) = 0)
    ∧ (win0_12.index t (0 : Fin 2) = t.val % 4 ∧ win0_12.index t (1 : Fin 2) = 0) :=
  (by decide +kernel : ∀ t : Fin grid0.N, _)

theorem at_cols : ∀ t : Fin cfg0.N,
    (win0_5.index t (0 : Fin 2) = 0 ∧ win0_5.index t (1 : Fin 2) = 6 + t.val % 4)
    ∧ (win0_6.index t (0 : Fin 2) = 0 ∧ win0_6.index t (1 : Fin 2) = 10 + t.val % 4)
    ∧ (win0_7.index t (0 : Fin 2) = 0 ∧ win0_7.index t (1 : Fin 2) = 14 + t.val % 4)
    ∧ (win0_8.index t (0 : Fin 2) = 0 ∧ win0_8.index t (1 : Fin 2) = t.val % 4)
    ∧ (win0_9.index t (0 : Fin 2) = 0 ∧ win0_9.index t (1 : Fin 2) = t.val % 4)
    ∧ (win0_10.index t (0 : Fin 2) = 0 ∧ win0_10.index t (1 : Fin 2) = t.val % 4)
    ∧ (win0_11.index t (0 : Fin 2) = 0 ∧ win0_11.index t (1 : Fin 2) = t.val % 4) :=
  (by decide +kernel : ∀ t : Fin grid0.N, _)

theorem lt_N (t : Fin cfg0.N) : t.val < 256 := lt_of_lt_of_eq t.isLt (show cfg0.N = 256 from N_0)

/-- Row `r` of the row block of point `t`, as a token; column `x` of its tile. -/
def tok (t : Fin cfg0.N) (r : Fin 512) : Fin 32768 := ⟨512 * (t.val / 4) + r.val, by have := lt_N t; omega⟩
def tcol (t : Fin cfg0.N) (x : Fin 512) : Fin 2048 := ⟨t.val % 4 * 512 + x.val, by omega⟩

/-- The weights' casts change nothing: the call's five cast weights hold the arguments. -/
theorem V_casts (c : Dev nD) :
    (∀ j, V m c main_v0 j = m ((c : Thread nD τ).loc main_arg5) j) ∧ (∀ j, V m c main_v1 j = m ((c : Thread nD τ).loc main_arg7) j)
    ∧ (∀ j, V m c main_v2 j = m ((c : Thread nD τ).loc main_arg8) j) ∧ (∀ j, V m c main_v3 j = m ((c : Thread nD τ).loc main_arg9) j)
    ∧ (∀ j, V m c main_v4 j = m ((c : Thread nD τ).loc main_arg10) j) := by
  refine ⟨fun j => ?_, fun j => ?_, fun j => ?_, fun j => ?_, fun j => ?_⟩ <;> (unfold V; after_reads_at)

/-- An element of an array is that of its two coordinates. -/
theorem pair {M N : ℕ} {α : Type} (A : (Shape.mk 2 ![M, N]).Idx → α) (i : (Shape.mk 2 ![M, N]).Idx) (r : Fin M) (k : Fin N)
    (h0 : (i 0).val = r.val) (h1 : (i 1).val = k.val) : A i = A (ix2 r k) :=
  congrArg A (funext fun a => Fin.ext (match a with | ⟨0, _⟩ => h0 | ⟨1, _⟩ => h1))

/-- The row block. -/
theorem iblk0 (c : Dev nD) (t : Fin cfg0.N) (r : Fin 512) (k : Fin 2048) :
    iblk m c 0 t (ix2 r k) = m ((c : Thread nD τ).loc main_arg0) (ix2 (tok t r) k) := by
  have e := (at_rows t).1
  refine (pair (V m c main_arg0) _ (tok t r) k ?_ ?_).trans (congrFun (V_main_arg0 m c) _)
  · show win0_0.index t 0 * 512 + 1 * r.val = 512 * (t.val / 4) + r.val; omega
  · show win0_0.index t 1 * 2048 + 1 * k.val = k.val; omega

/-- The norm's weights. -/
theorem iblk1 (c : Dev nD) (t : Fin cfg0.N) (k : Fin 2048) :
    iblk m c 1 t (ix2 (0 : Fin 1) k) = m ((c : Thread nD τ).loc main_arg1) (ix2 (0 : Fin 1) k) := by
  have e := (at_rows t).2.1
  refine (pair (V m c main_arg1) _ (0 : Fin 1) k ?_ ?_).trans (congrFun (V_main_arg1 m c) _)
  · show win0_1.index t 0 * 1 + 1 * 0 = 0; omega
  · show win0_1.index t 1 * 2048 + 1 * k.val = k.val; omega

/-- The rows of the gated unit's branch. -/
theorem iblk2 (c : Dev nD) (t : Fin cfg0.N) (r : Fin 512) (k : Fin 512) :
    iblk m c 2 t (ix2 r k) = m ((c : Thread nD τ).loc main_arg2) (ix2 (tok t r) k) := by
  have e := (at_rows t).2.2.1
  refine (pair (V m c main_arg2) _ (tok t r) k ?_ ?_).trans (congrFun (V_main_arg2 m c) _)
  · show win0_2.index t 0 * 512 + 1 * r.val = 512 * (t.val / 4) + r.val; omega
  · show win0_2.index t 1 * 512 + 1 * k.val = k.val; omega

/-- The rows of the attention's branch. -/
theorem iblk3 (c : Dev nD) (t : Fin cfg0.N) (r : Fin 512) (k : Fin 1024) :
    iblk m c 3 t (ix2 r k) = m ((c : Thread nD τ).loc main_arg3) (ix2 (tok t r) k) := by
  have e := (at_rows t).2.2.2.1
  refine (pair (V m c main_arg3) _ (tok t r) k ?_ ?_).trans (congrFun (V_main_arg3 m c) _)
  · show win0_3.index t 0 * 512 + 1 * r.val = 512 * (t.val / 4) + r.val; omega
  · show win0_3.index t 1 * 1024 + 1 * k.val = k.val; omega

/-- The rows of the memory's branch. -/
theorem iblk4 (c : Dev nD) (t : Fin cfg0.N) (r : Fin 512) (k : Fin 512) :
    iblk m c 4 t (ix2 r k) = m ((c : Thread nD τ).loc main_arg4) (ix2 (tok t r) k) := by
  have e := (at_rows t).2.2.2.2.1
  refine (pair (V m c main_arg4) _ (tok t r) k ?_ ?_).trans (congrFun (V_main_arg4 m c) _)
  · show win0_4.index t 0 * 512 + 1 * r.val = 512 * (t.val / 4) + r.val; omega
  · show win0_4.index t 1 * 512 + 1 * k.val = k.val; omega

/-- Gate columns of branch 0. -/
theorem iblk5 (c : Dev nD) (t : Fin cfg0.N) (r : Fin 2048) (k : Fin 512) :
    iblk m c 5 t (ix2 r k) = m ((c : Thread nD τ).loc main_arg5) (ix2 r (gcol 0 (tcol t k))) := by
  have e := (at_cols t).1
  refine (pair (V m c main_v0) _ r (gcol 0 (tcol t k)) ?_ ?_).trans ((V_casts m c).1 _)
  · show win0_5.index t 0 * 2048 + 1 * r.val = r.val; omega
  · show win0_5.index t 1 * 512 + 1 * k.val = 3072 + (2048 * 0 + (t.val % 4 * 512 + k.val)); omega

/-- Gate columns of branch 1. -/
theorem iblk6 (c : Dev nD) (t : Fin cfg0.N) (r : Fin 2048) (k : Fin 512) :
    iblk m c 6 t (ix2 r k) = m ((c : Thread nD τ).loc main_arg5) (ix2 r (gcol 1 (tcol t k))) := by
  have e := (at_cols t).2.1
  refine (pair (V m c main_v0) _ r (gcol 1 (tcol t k)) ?_ ?_).trans ((V_casts m c).1 _)
  · show win0_6.index t 0 * 2048 + 1 * r.val = r.val; omega
  · show win0_6.index t 1 * 512 + 1 * k.val = 3072 + (2048 * 1 + (t.val % 4 * 512 + k.val)); omega

/-- Gate columns of branch 2. -/
theorem iblk7 (c : Dev nD) (t : Fin cfg0.N) (r : Fin 2048) (k : Fin 512) :
    iblk m c 7 t (ix2 r k) = m ((c : Thread nD τ).loc main_arg5) (ix2 r (gcol 2 (tcol t k))) := by
  have e := (at_cols t).2.2.1
  refine (pair (V m c main_v0) _ r (gcol 2 (tcol t k)) ?_ ?_).trans ((V_casts m c).1 _)
  · show win0_7.index t 0 * 2048 + 1 * r.val = r.val; omega
  · show win0_7.index t 1 * 512 + 1 * k.val = 3072 + (2048 * 2 + (t.val % 4 * 512 + k.val)); omega

/-- The gates' biases. -/
theorem iblk8 (c : Dev nD) (t : Fin cfg0.N) (r : Fin 3) (k : Fin 512) :
    iblk m c 8 t (ix2 r k) = m ((c : Thread nD τ).loc main_arg6) (ix2 r (tcol t k)) := by
  have e := (at_cols t).2.2.2.1
  refine (pair (V m c main_arg6) _ r (tcol t k) ?_ ?_).trans (congrFun (V_main_arg6 m c) _)
  · show win0_8.index t 0 * 3 + 1 * r.val = r.val; omega
  · show win0_8.index t 1 * 512 + 1 * k.val = t.val % 4 * 512 + k.val; omega

/-- The tile's columns of the first branch's projection. -/
theorem iblk9 (c : Dev nD) (t : Fin cfg0.N) (r : Fin 512) (k : Fin 512) :
    iblk m c 9 t (ix2 r k) = m ((c : Thread nD τ).loc main_arg7) (ix2 r (tcol t k)) := by
  have e := (at_cols t).2.2.2.2.1
  refine (pair (V m c main_v1) _ r (tcol t k) ?_ ?_).trans ((V_casts m c).2.1 _)
  · show win0_9.index t 0 * 512 + 1 * r.val = r.val; omega
  · show win0_9.index t 1 * 512 + 1 * k.val = t.val % 4 * 512 + k.val; omega

/-- The tile's columns of the second branch's projection. -/
theorem iblk10 (c : Dev nD) (t : Fin cfg0.N) (r : Fin 1024) (k : Fin 512) :
    iblk m c 10 t (ix2 r k) = m ((c : Thread nD τ).loc main_arg8) (ix2 r (tcol t k)) := by
  have e := (at_cols t).2.2.2.2.2.1
  refine (pair (V m c main_v2) _ r (tcol t k) ?_ ?_).trans ((V_casts m c).2.2.1 _)
  · show win0_10.index t 0 * 1024 + 1 * r.val = r.val; omega
  · show win0_10.index t 1 * 512 + 1 * k.val = t.val % 4 * 512 + k.val; omega

/-- The tile's columns of the third branch's projection. -/
theorem iblk11 (c : Dev nD) (t : Fin cfg0.N) (r : Fin 512) (k : Fin 512) :
    iblk m c 11 t (ix2 r k) = m ((c : Thread nD τ).loc main_arg9) (ix2 r (tcol t k)) := by
  have e := (at_cols t).2.2.2.2.2.2
  refine (pair (V m c main_v3) _ r (tcol t k) ?_ ?_).trans ((V_casts m c).2.2.2.1 _)
  · show win0_11.index t 0 * 512 + 1 * r.val = r.val; omega
  · show win0_11.index t 1 * 512 + 1 * k.val = t.val % 4 * 512 + k.val; omega

/-- The tile's rows of the output projection. -/
theorem iblk12 (c : Dev nD) (t : Fin cfg0.N) (r : Fin 512) (k : Fin 2048) :
    iblk m c 12 t (ix2 r k) = m ((c : Thread nD τ).loc main_arg10) (ix2 (tcol t r) k) := by
  have e := (at_rows t).2.2.2.2.2
  refine (pair (V m c main_v4) _ (tcol t r) k ?_ ?_).trans ((V_casts m c).2.2.2.2 _)
  · show win0_12.index t 0 * 512 + 1 * r.val = t.val % 4 * 512 + r.val; omega
  · show win0_12.index t 1 * 2048 + 1 * k.val = k.val; omega

end Cert.MergeIdeal.Val
-- ==== Proof.MergeValue.lean ====
/-
  What the merge kernel's result array ends holding: the gated merge's mathematics, element by element. By induction on the
  grid point: after a row block's point number `j` the result block is the rows plus the first `j + 1` tiles, and the
  carried rows are the normalised ones.
-/
module

public import proofs.«01_k».proof.Proof.MergeBlocks
public import proofs.«01_k».proof.Proof.MergeMath

@[expose] public section

noncomputable section

open Idealize.ShloMosaic Idealize.ShloMosaic.TcCoe Idealize.SL.Sem

namespace Cert.MergeIdeal.Val

open Cert.MergeIdeal Cert.MergeIdeal.Gen Cert.MergeIdeal.Value Cert.MergeMath
open Cert.FfnMath (nrm)

variable (m : (ℓ : Loc nD τ sig) → Buf (Elt Ideal) ℓ)

/-- The arguments as tables. -/
def aX (c : Dev nD) : Fin 32768 → Fin 2048 → EReal := fun r k => m ((c : Thread nD τ).loc main_arg0) (ix2 r k)
def aG (c : Dev nD) : Fin 2048 → EReal := fun k => m ((c : Thread nD τ).loc main_arg1) (ix2 (0 : Fin 1) k)
def aW (c : Dev nD) : Fin 2048 → Fin 9216 → EReal := fun k e => m ((c : Thread nD τ).loc main_arg5) (ix2 k e)
def aB (c : Dev nD) : Fin 3 → Fin 2048 → EReal := fun i e => m ((c : Thread nD τ).loc main_arg6) (ix2 i e)
def aY0 (c : Dev nD) : Fin 32768 → Fin 512 → EReal := fun r j => m ((c : Thread nD τ).loc main_arg2) (ix2 r j)
def aY1 (c : Dev nD) : Fin 32768 → Fin 1024 → EReal := fun r j => m ((c : Thread nD τ).loc main_arg3) (ix2 r j)
def aY2 (c : Dev nD) : Fin 32768 → Fin 512 → EReal := fun r j => m ((c : Thread nD τ).loc main_arg4) (ix2 r j)
def aU0 (c : Dev nD) : Fin 512 → Fin 2048 → EReal := fun j e => m ((c : Thread nD τ).loc main_arg7) (ix2 j e)
def aU1 (c : Dev nD) : Fin 1024 → Fin 2048 → EReal := fun j e => m ((c : Thread nD τ).loc main_arg8) (ix2 j e)
def aU2 (c : Dev nD) : Fin 512 → Fin 2048 → EReal := fun j e => m ((c : Thread nD τ).loc main_arg9) (ix2 j e)
def aO (c : Dev nD) : Fin 2048 → Fin 2048 → EReal := fun e k => m ((c : Thread nD τ).loc main_arg10) (ix2 e k)

/-- The gated sum of the arguments' branches. -/
def aMix (c : Dev nD) : Fin 32768 → Fin 2048 → EReal :=
  mix (aX m c) (aG m c) (aW m c) (aB m c) (aY0 m c) (aY1 m c) (aY2 m c) (aU0 m c) (aU1 m c) (aU2 m c)

/-- The stored rows are the normalised ones. -/
theorem norm_at (c : Dev nD) (t : Fin cfg0.N) (r : Fin 512) (k : Fin 2048) :
    k0_pay2 (iblk m c 0 t) (iblk m c 1 t) (ix2 r k) = nrm (aX m c) (aG m c) (tok t r) k := by
  pointwise [k0_pay2]
  simp only [iblk0 m c t, iblk1 m c t]
  rfl

/-- Over the normalised rows, the first two branches' gated projections. -/
theorem two_at (c : Dev nD) (t : Fin cfg0.N) (h : Vec Ideal S512x2048 .bf16)
    (hh : ∀ r k, h (ix2 r k) = nrm (aX m c) (aG m c) (tok t r) k) (r : Fin 512) (x : Fin 512) :
    k0_pay3 h (iblk m c 5 t) (bias (iblk m c 8 t) 0 inb_S3x512_S1x512_0_0) (iblk m c 2 t) (iblk m c 9 t) (iblk m c 6 t)
        (bias (iblk m c 8 t) 1 inb_S3x512_S1x512_1_0) (iblk m c 3 t) (iblk m c 10 t) (ix2 r x)
      = gate (aX m c) (aG m c) (aW m c) (aB m c) (tok t r) 0 (tcol t x) * (∑ j, aY0 m c (tok t r) j * aU0 m c j (tcol t x))
        + gate (aX m c) (aG m c) (aW m c) (aB m c) (tok t r) 1 (tcol t x) * (∑ j, aY1 m c (tok t r) j * aU1 m c j (tcol t x)) := by
  have b0 := bias_at (iblk m c 8 t) 0 inb_S3x512_S1x512_0_0
  have b1 := bias_at (iblk m c 8 t) 1 inb_S3x512_S1x512_1_0
  pointwise [k0_pay3]
  simp only [iblk2 m c t, iblk3 m c t, iblk5 m c t, iblk6 m c t, iblk9 m c t, iblk10 m c t, hh]
  erw [b0, b1]
  simp only [iblk8 m c t]
  rfl

/-- Over the normalised rows, a point's step adds its tile. -/
theorem step_at (c : Dev nD) (t : Fin cfg0.N) (h : Vec Ideal S512x2048 .bf16) (o : Vec Ideal S512x2048 .f32)
    (hh : ∀ r k, h (ix2 r k) = nrm (aX m c) (aG m c) (tok t r) k) (r : Fin 512) (k : Fin 2048) :
    step h (iblk m c 2 t) (iblk m c 3 t) (iblk m c 4 t) (iblk m c 5 t) (iblk m c 6 t) (iblk m c 7 t) (iblk m c 8 t) (iblk m c 9 t)
        (iblk m c 10 t) (iblk m c 11 t) (iblk m c 12 t) o (ix2 r k)
      = o (ix2 r k) + tile (aMix m c) (aO m c) (tok t r) (t.val % 4) k := by
  have two := two_at m c t h hh
  unfold step
  revert two
  generalize k0_pay3 h (iblk m c 5 t) (bias (iblk m c 8 t) 0 inb_S3x512_S1x512_0_0) (iblk m c 2 t) (iblk m c 9 t) (iblk m c 6 t)
    (bias (iblk m c 8 t) 1 inb_S3x512_S1x512_1_0) (iblk m c 3 t) (iblk m c 10 t) = p
  intro two
  have b2 : ∀ e : Fin 512, bias (iblk m c 8 t) 2 inb_S3x512_S1x512_2_0 (ix2 (0 : Fin 1) e) = aB m c 2 (tcol t e) :=
    fun e => (bias_at (iblk m c 8 t) 2 inb_S3x512_S1x512_2_0 e).trans (iblk8 m c t 2 e)
  pointwise [k0_pay1, k0_pay4]
  simp only [iblk4 m c t, iblk7 m c t, iblk11 m c t, iblk12 m c t, hh, two, b2]
  unfold tile
  rw [dif_pos (Nat.mod_lt _ (by norm_num))]
  rfl

/-- What is claimed of the contents `p` (the block, the carried rows) after point `t`. -/
def Good (c : Dev nD) (t : Fin cfg0.N) (p : Vec Ideal S512x2048 .f32 × Vec Ideal S512x2048 .bf16) : Prop :=
  (∀ r k, p.2 (ix2 r k) = nrm (aX m c) (aG m c) (tok t r) k)
  ∧ (∀ r k, p.1 (ix2 r k) = upTo (aX m c) (aMix m c) (aO m c) (t.val % 4 + 1) (tok t r) k)

/-- A row block's first point establishes it. -/
theorem first (c : Dev nD) (t : Fin cfg0.N) (h0 : t.val % 4 = 0) : Good m c t (outsAt0 m c t.val t.isLt) := by
  rw [outsAt0_A m c t h0, outA, soutA]
  refine ⟨norm_at m c t, fun r k => ?_⟩
  refine (step_at m c t _ _ (norm_at m c t) r k).trans ?_
  rw [h0, upTo_succ, upTo_zero, iblk0]
  rfl

/-- A later point keeps it. -/
theorem later (c : Dev nD) (t s : Fin cfg0.N) (hs : s.val = t.val - 1) (h0 : ¬t.val % 4 = 0)
    (ih : Good m c s (outsAt0 m c s.val s.isLt)) : Good m c t (outsAt0 m c t.val t.isLt) := by
  obtain ⟨s, hsN⟩ := s
  obtain rfl : s = t.val - 1 := hs
  rw [outsAt0_B m c t h0, outB, soutB]
  revert ih
  generalize outsAt0 m c (t.val - 1) _ = p
  intro ih
  have ht : ∀ r, tok ⟨t.val - 1, hsN⟩ r = tok t r := fun r => Fin.ext (by
    show 512 * ((t.val - 1) / 4) + r.val = 512 * (t.val / 4) + r.val; omega)
  have hs : t.val % 4 = (t.val - 1) % 4 + 1 := by omega
  have hh : ∀ r k, p.2 (ix2 r k) = nrm (aX m c) (aG m c) (tok t r) k := fun r k => by rw [ih.1, ht]
  refine ⟨hh, fun r k => ?_⟩
  refine (step_at m c t _ _ hh r k).trans ?_
  rw [upTo_succ, ih.2, ht, ← hs]

/-- It holds after every point. -/
theorem after (c : Dev nD) : ∀ (n : ℕ) (hn : n < cfg0.N), Good m c ⟨n, hn⟩ (outsAt0 m c n hn)
  | 0, hn => first m c ⟨0, hn⟩ (Nat.zero_mod _)
  | n + 1, hn => by
    by_cases h0 : (n + 1) % 4 = 0
    · exact first m c ⟨n + 1, hn⟩ h0
    · exact later m c ⟨n + 1, hn⟩ ⟨n, Nat.lt_of_succ_lt hn⟩ rfl h0 (after c n _)

/-- The result array, element by element. -/
theorem result (c : Dev nD) (r : Fin 32768) (k : Fin 2048) :
    G13 m c (ix2 r k) = out (aX m c) (aMix m c) (aO m c) r k := by
  have hp : pt13Of (ix2 r k) < cfg0.N := by
    rw [show cfg0.N = 256 from N_0]
    show 4 * (1 * (r.val / 512 - 0) + 1 * (k.val / 2048 - 0)) + 3 < 256
    omega
  unfold G13
  rw [dif_pos hp, ← outsAt0_sweep m c _ hp]
  have hl : loc13Of (ix2 r k) = ix2 (⟨r.val % 512, by omega⟩ : Fin 512) k := by
    funext a
    apply Fin.ext
    match a with
    | ⟨0, _⟩ => rfl
    | ⟨1, _⟩ => show k.val % 2048 = k.val; omega
  rw [hl, (after m c _ hp).2]
  have h4 : pt13Of (ix2 r k) % 4 + 1 = 4 := by
    show (4 * (1 * (r.val / 512 - 0) + 1 * (k.val / 2048 - 0)) + 3) % 4 + 1 = 4
    omega
  have ht : tok ⟨_, hp⟩ (⟨r.val % 512, by omega⟩ : Fin 512) = r := Fin.ext (by
    show 512 * ((4 * (1 * (r.val / 512 - 0) + 1 * (k.val / 2048 - 0)) + 3) / 4) + r.val % 512 = r.val
    omega)
  rw [h4, ht, upTo_four]

end Cert.MergeIdeal.Val
-- ==== Proof.MergeClaim.lean ====
/-
  The gated merge's claim: what the reference computes is the same mathematics, so the two results are equal.
-/
module

public import proofs.«01_k».proof.Proof.MergeValue
public import proofs.«01_k».proof.Proof.Gen.MergeRefIdeal.Run
public import proofs.«01_k».proof.Proof.Gen.MergeRefIdeal.Read

@[expose] public section

noncomputable section

open Idealize.ShloMosaic Idealize.ShloMosaic.TcCoe Idealize.SL.Sem

namespace Cert.MergeRefIdeal.Val

open Cert.MergeRefIdeal Cert.MergeRefIdeal.Read Cert.MergeMath
open Cert.FfnMath (nrm)

variable (x : FVec Ideal S32768x2048 .f32) (g : FVec Ideal S1x2048 .f32) (y0 : FVec Ideal S32768x512 .bf16)
  (y1 : FVec Ideal S32768x1024 .bf16) (y2 : FVec Ideal S32768x512 .bf16) (w : FVec Ideal S2048x9216 .f32)
  (b : FVec Ideal S3x2048 .f32) (u0 : FVec Ideal S512x2048 .f32) (u1 : FVec Ideal S1024x2048 .f32) (u2 : FVec Ideal S512x2048 .f32)
  (o : FVec Ideal S2048x2048 .f32)

/-- The reference's normalised rows. -/
theorem nrm_at (r : Fin 32768) (k : Fin 2048) :
    val_main_v11 (F := Ideal) x g (ix2 r k) = nrm (fun r k => x (ix2 r k)) (fun k => g (ix2 0 k)) r k := by
  pointwise [val_main_v11, val_main_v10, val_main_v9, val_main_v8, val_main_v7, val_main_v6, val_main_v5, val_main_v4,
    val_main_v3, val_main_v2, val_main_v1, val_main_v0, val_main_cst, val_main_cst_0, val_main_cst_1]
  rfl

/-- The gates' columns of the reference's projection, split by branch. -/
theorem proj_at (r : Fin 32768) (i : Fin 3) (e : Fin 2048) :
    val_main_v14 (F := Ideal) x g w (ix3 r i e)
      = ∑ k, nrm (fun r k => x (ix2 r k)) (fun k => g (ix2 0 k)) r k * w (ix2 k (gcol i e)) := by
  rw [val_main_v14_apply, val_main_v13_apply]
  have hi : idx_main_v13 (idx_main_v14 (ix3 r i e)) = ix2 r (gcol i e) := by
    funext a
    apply Fin.ext
    match a with
    | ⟨0, _⟩ => show ((r.val * 3 + i.val) * 2048 + e.val) / 6144 = r.val; omega
    | ⟨1, _⟩ => show 3072 + ((r.val * 3 + i.val) * 2048 + e.val) % 6144 = 3072 + (2048 * i.val + e.val); omega
  rw [hi]
  pointwise [val_main_v12]
  simp only [nrm_at]

/-- The reference's gates. -/
theorem gate_at (r : Fin 32768) (i : Fin 3) (e : Fin 2048) :
    val_main_v23 (F := Ideal) x g w b (ix3 r i e)
      = gate (fun r k => x (ix2 r k)) (fun k => g (ix2 0 k)) (fun k e => w (ix2 k e)) (fun i e => b (ix2 i e)) r i e := by
  pointwise [val_main_v23, val_main_v22, val_main_v21, val_main_v20, val_main_v19, val_main_v18, val_main_v17, val_main_v16,
    val_main_v15, val_main_cst_2, val_main_cst_3]
  simp only [proj_at]
  rfl

/-- One branch's gates, as rows. -/
theorem gate0_at (r : Fin 32768) (e : Fin 2048) :
    val_main_v25 (F := Ideal) x g w b (ix2 r e) = val_main_v23 (F := Ideal) x g w b (ix3 r 0 e) := by
  pointwise [val_main_v25, val_main_v24]

theorem gate1_at (r : Fin 32768) (e : Fin 2048) :
    val_main_v30 (F := Ideal) x g w b (ix2 r e) = val_main_v23 (F := Ideal) x g w b (ix3 r 1 e) := by
  pointwise [val_main_v30, val_main_v29]

theorem gate2_at (r : Fin 32768) (e : Fin 2048) :
    val_main_v36 (F := Ideal) x g w b (ix2 r e) = val_main_v23 (F := Ideal) x g w b (ix3 r 2 e) := by
  pointwise [val_main_v36, val_main_v35]

/-- The reference's gated sum. -/
theorem mix_at (r : Fin 32768) (e : Fin 2048) :
    val_main_v40 (F := Ideal) x g y0 y1 y2 w b u0 u1 u2 (ix2 r e)
      = mix (fun r k => x (ix2 r k)) (fun k => g (ix2 0 k)) (fun k e => w (ix2 k e)) (fun i e => b (ix2 i e))
          (fun r j => y0 (ix2 r j)) (fun r j => y1 (ix2 r j)) (fun r j => y2 (ix2 r j)) (fun j e => u0 (ix2 j e))
          (fun j e => u1 (ix2 j e)) (fun j e => u2 (ix2 j e)) r e := by
  pointwise [val_main_v40, val_main_v39, val_main_v38, val_main_v37, val_main_v34, val_main_v33, val_main_v32, val_main_v31,
    val_main_v28, val_main_v27, val_main_v26]
  simp only [gate0_at, gate1_at, gate2_at, gate_at]
  rfl

/-- The reference's result, element by element. -/
theorem result (r : Fin 32768) (k : Fin 2048) :
    val_main_v42 (F := Ideal) x g y0 y1 y2 w b u0 u1 u2 o (ix2 r k)
      = out (fun r k => x (ix2 r k)) (mix (fun r k => x (ix2 r k)) (fun k => g (ix2 0 k)) (fun k e => w (ix2 k e))
          (fun i e => b (ix2 i e)) (fun r j => y0 (ix2 r j)) (fun r j => y1 (ix2 r j)) (fun r j => y2 (ix2 r j))
          (fun j e => u0 (ix2 j e)) (fun j e => u1 (ix2 j e)) (fun j e => u2 (ix2 j e))) (fun e k => o (ix2 e k)) r k := by
  pointwise [val_main_v42, val_main_v41]
  simp only [mix_at]
  rfl

end Cert.MergeRefIdeal.Val

namespace Cert.Proof

/-- The kernel and the reference end with equal results. -/
theorem merge [Cert.MergeIdeal.Facts] [Cert.MergeRefIdeal.Facts] : Cert.algebraic_MergeIdeal_MergeRefIdeal := by
  intro m g m' g' _ hagree
  refine ⟨fun c => Cert.MergeIdeal.Value.G13 m c, Cert.MergeIdeal.Value.run m g, ?_⟩
  refine (θ_run _ _ _).mono (fun r h c => ⟨?_, (h c).2⟩) (Cert.MergeRefIdeal.Value.run m' g')
  obtain ⟨e0, e1, e2, e3, e4, e5, e6, e7, e8, e9, e10⟩ := hagree c
  refine ((h c).1.trans (Cert.MergeRefIdeal.Read.val_main_v42_eq ..)).trans ?_
  rw [e0, e1, e2, e3, e4, e5, e6, e7, e8, e9, e10]
  funext i
  rw [eq_ix2 i]
  exact (Cert.MergeRefIdeal.Val.result _ _ _ _ _ _ _ _ _ _ _ _ _).trans (Cert.MergeIdeal.Val.result m c _ _).symm

end Cert.Proof
-- ==== Proof.lean ====
/-
  The proof of the certificate's claims: the programs' frames, that the ideal programs are the printed ones, and the value
  claims of the calls.
-/
module

public import proofs.«01_k».proof.Defs
public import proofs.«01_k».proof.Proof.Gen.Pre_finite
public import proofs.«01_k».proof.Proof.Gen.Attention.Frame
public import proofs.«01_k».proof.Proof.Gen.AttentionIdeal.Frame
public import proofs.«01_k».proof.Proof.Gen.AttentionIdeal.Value
public import proofs.«01_k».proof.Proof.Gen.AttentionRefIdeal.Read
public import proofs.«01_k».proof.Proof.Gen.AttentionRefIdeal.Run
public import proofs.«01_k».proof.Proof.Gen.Merge.Frame
public import proofs.«01_k».proof.Proof.Gen.MergeIdeal.Frame
public import proofs.«01_k».proof.Proof.Gen.MergeIdeal.Value
public import proofs.«01_k».proof.Proof.Gen.MergeRefIdeal.Read
public import proofs.«01_k».proof.Proof.Gen.MergeRefIdeal.Run
public import proofs.«01_k».proof.Proof.Gen.Memkv.Frame
public import proofs.«01_k».proof.Proof.Gen.MemkvIdeal.Frame
public import proofs.«01_k».proof.Proof.Gen.MemkvIdeal.Value
public import proofs.«01_k».proof.Proof.Gen.MemkvRefIdeal.Read
public import proofs.«01_k».proof.Proof.Gen.MemkvRefIdeal.Run
public import proofs.«01_k».proof.Proof.Gen.Inproj.Frame
public import proofs.«01_k».proof.Proof.Gen.InprojIdeal.Frame
public import proofs.«01_k».proof.Proof.Gen.InprojIdeal.Value
public import proofs.«01_k».proof.Proof.Gen.InprojRefIdeal.Read
public import proofs.«01_k».proof.Proof.Gen.InprojRefIdeal.Run
public import proofs.«01_k».proof.Proof.Gen.Pre_inproj_finite
public import proofs.«01_k».proof.Proof.Gen.Ffn.Frame
public import proofs.«01_k».proof.Proof.Gen.FfnIdeal.Frame
public import proofs.«01_k».proof.Proof.Gen.FfnIdeal.Value
public import proofs.«01_k».proof.Proof.Gen.FfnRefIdeal.Read
public import proofs.«01_k».proof.Proof.Gen.FfnRefIdeal.Run
public import proofs.«01_k».proof.Proof.AttnClaim
public import proofs.«01_k».proof.Proof.FfnClaim
public import proofs.«01_k».proof.Proof.InprojClaim
public import proofs.«01_k».proof.Proof.MemkvClaim
public import proofs.«01_k».proof.Proof.MergeClaim

@[expose] public section

noncomputable section

open Idealize.ShloMosaic Idealize.ShloMosaic.TcCoe Idealize.SL.Sem

namespace Cert.Proof

/-- The attention's reference runs, keeps its arguments and has no semaphore. -/
theorem frame_attention_ref [Cert.AttentionRefIdeal.Facts] : Cert.quiescent_AttentionRefIdeal := fun m ρ _ =>
  (θ_run _ _ _).mono (fun r h => ⟨fun c => (h c).2, sem_eq_zero_of_no_sems (by decide) r.2⟩)
    (Cert.AttentionRefIdeal.Value.run m ρ)

/-- The merge's reference runs, keeps its arguments and has no semaphore. -/
theorem frame_merge_ref [Cert.MergeRefIdeal.Facts] : Cert.quiescent_MergeRefIdeal := fun m ρ _ =>
  (θ_run _ _ _).mono (fun r h => ⟨fun c => (h c).2, sem_eq_zero_of_no_sems (by decide) r.2⟩)
    (Cert.MergeRefIdeal.Value.run m ρ)

/-- The memory projection's reference runs, keeps its arguments and has no semaphore. -/
theorem frame_memkv_ref [Cert.MemkvRefIdeal.Facts] : Cert.quiescent_MemkvRefIdeal := fun m ρ _ =>
  (θ_run _ _ _).mono (fun r h => ⟨fun c => (h c).2.2, sem_eq_zero_of_no_sems (by decide) r.2⟩)
    (Cert.MemkvRefIdeal.Value.run m ρ)

/-- The input projection's reference runs, keeps its arguments and has no semaphore. -/
theorem frame_inproj_ref [Cert.InprojRefIdeal.Facts] : Cert.quiescent_InprojRefIdeal := fun m ρ _ =>
  (θ_run _ _ _).mono (fun r h => ⟨fun c => (h c).2.2.2.2.2, sem_eq_zero_of_no_sems (by decide) r.2⟩)
    (Cert.InprojRefIdeal.Value.run m ρ)

/-- The scale of the queries has its name's value. -/
theorem named_inproj : Cert.preserves_Inproj_InprojIdeal :=
  IdealRules.named_const.statement Cert.InprojIdeal.κ "q_scale" .f32 0x3E0293EE#32 (((Real.sqrt 128)⁻¹ * (Real.log 2)⁻¹ : ℝ) : EReal) rfl

/-- The feed-forward block's reference runs, keeps its arguments and has no semaphore. -/
theorem frame_ffn_ref [Cert.FfnRefIdeal.Facts] : Cert.quiescent_FfnRefIdeal := fun m ρ _ =>
  (θ_run _ _ _).mono (fun r h => ⟨fun c => (h c).2, sem_eq_zero_of_no_sems (by decide) r.2⟩)
    (Cert.FfnRefIdeal.Value.run m ρ)

/-- Every claim of the certificate. -/
theorem claim : Cert.Claim :=
  ⟨Cert.Attention.Gen.facts, Cert.AttentionIdeal.Gen.facts, Cert.AttentionRefIdeal.Gen.facts,
    Cert.Merge.Gen.facts, Cert.MergeIdeal.Gen.facts, Cert.MergeRefIdeal.Gen.facts,
    Cert.Memkv.Gen.facts, Cert.MemkvIdeal.Gen.facts, Cert.MemkvRefIdeal.Gen.facts,
    Cert.Inproj.Gen.facts, Cert.InprojIdeal.Gen.facts, Cert.InprojRefIdeal.Gen.facts,
    Cert.Ffn.Gen.facts, Cert.FfnIdeal.Gen.facts, Cert.FfnRefIdeal.Gen.facts, Cert.Pre_finite.Gen.facts,
    Cert.Pre_inproj_finite.Gen.facts,
    fun m ρ _ => Cert.Attention.Gen.frame m ρ,
    fun m ρ _ => Cert.AttentionIdeal.Gen.frame m ρ,
    fun m ρ _ => Cert.AttentionIdeal.Gen.frame m ρ,
    frame_attention_ref,
    fun m ρ _ => frame_attention_ref m ρ trivial,
    fun m ρ _ => Cert.Merge.Gen.frame m ρ,
    fun m ρ _ => Cert.MergeIdeal.Gen.frame m ρ,
    frame_merge_ref,
    fun m ρ _ => Cert.Memkv.Gen.frame m ρ,
    fun m ρ _ => Cert.MemkvIdeal.Gen.frame m ρ,
    frame_memkv_ref,
    fun m ρ _ => Cert.Inproj.Gen.frame m ρ,
    fun m ρ _ => Cert.InprojIdeal.Gen.frame m ρ,
    fun m ρ _ => Cert.InprojIdeal.Gen.frame m ρ,
    frame_inproj_ref,
    fun m ρ _ => frame_inproj_ref m ρ trivial,
    fun m ρ _ => Cert.Ffn.Gen.frame m ρ,
    fun m ρ _ => Cert.FfnIdeal.Gen.frame m ρ,
    frame_ffn_ref,
    trivial, attention, trivial, merge, trivial, memkv, named_inproj, inproj, trivial, ffn⟩

end Cert.Proof
